-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S16x4096x128 : Shape := ⟨3, ![16, 4096, 128]⟩
abbrev S16x256x128 : Shape := ⟨3, ![16, 256, 128]⟩
abbrev S4 : Shape := ⟨1, ![4]⟩
abbrev S16 : Shape := ⟨1, ![16]⟩
abbrev S_ : Shape := ⟨0, ![]⟩
abbrev S1x4096x128 : Shape := ⟨3, ![1, 4096, 128]⟩
abbrev S256x128 : Shape := ⟨2, ![256, 128]⟩
abbrev S1x2048x128 : Shape := ⟨3, ![1, 2048, 128]⟩
abbrev S2048x128 : Shape := ⟨2, ![2048, 128]⟩
abbrev S1x256x128 : Shape := ⟨3, ![1, 256, 128]⟩

abbrev nBuf : Space → Nat
  | .hbm => 5
  | .vmem => 7
  | .smem => 2
  | _ => 0

abbrev bufTy : (tb : Table) → Fin (tcTables nBuf tb) → BufTy
  | .hbm, ⟨0, _⟩ => ⟨S256x4096, .fp8e5m2⟩
  | .hbm, ⟨1, _⟩ => ⟨S4096x128, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e5m2⟩
  | .local _ .vmem, ⟨1, _⟩ => ⟨S4096x128, .fp8e5m2⟩
  | .local _ .vmem, ⟨2, _⟩ => ⟨S4096x128, .f32⟩
  | .local _ .vmem, ⟨3, _⟩ => ⟨S16x4096x128, .fp8e5m2⟩
  | .local _ .vmem, ⟨4, _⟩ => ⟨S256x4096, .bf16⟩
  | .local _ .vmem, ⟨5, _⟩ => ⟨S16x256x128, .bf16⟩
  | .local _ .vmem, ⟨6, _⟩ => ⟨S16x256x128, .bf16⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 : Nat :=
  let c0_i32_12 : BitVec 32 := 0#32
  let c0_i32_10 : BitVec 32 := 0#32
  let c1_i32_11 : BitVec 32 := 1#32
  let v29 : BitVec 32 := Scalar.muli c0_i32_10 c1_i32_11
  let v30 : BitVec 32 := Scalar.addi c0_i32_12 v29
  v30.toNat
def k0_dev2 : Nat :=
  let c0_i32_16 : BitVec 32 := 0#32
  let c1_i32_14 : BitVec 32 := 1#32
  let c1_i32_15 : BitVec 32 := 1#32
  let v31 : BitVec 32 := Scalar.muli c1_i32_14 c1_i32_15
  let v32 : BitVec 32 := Scalar.addi c0_i32_16 v31
  v32.toNat
def k0_dev3 : Nat :=
  let c0_i32_19 : BitVec 32 := 0#32
  let c2_i32 : BitVec 32 := 2#32
  let c1_i32_18 : BitVec 32 := 1#32
  let v33 : BitVec 32 := Scalar.muli c2_i32 c1_i32_18
  let v34 : BitVec 32 := Scalar.addi c0_i32_19 v33
  v34.toNat
def k0_dev4 : Nat :=
  let c0_i32_23 : BitVec 32 := 0#32
  let c3_i32_21 : BitVec 32 := 3#32
  let c1_i32_22 : BitVec 32 := 1#32
  let v35 : BitVec 32 := Scalar.muli c3_i32_21 c1_i32_22
  let v36 : BitVec 32 := Scalar.addi c0_i32_23 v35
  v36.toNat
def k0_dev5 : Nat :=
  let c0_i32_27 : BitVec 32 := 0#32
  let c4_i32_25 : BitVec 32 := 4#32
  let c1_i32_26 : BitVec 32 := 1#32
  let v37 : BitVec 32 := Scalar.muli c4_i32_25 c1_i32_26
  let v38 : BitVec 32 := Scalar.addi c0_i32_27 v37
  v38.toNat
def k0_dev6 : Nat :=
  let c0_i32_30 : BitVec 32 := 0#32
  let c5_i32 : BitVec 32 := 5#32
  let c1_i32_29 : BitVec 32 := 1#32
  let v39 : BitVec 32 := Scalar.muli c5_i32 c1_i32_29
  let v40 : BitVec 32 := Scalar.addi c0_i32_30 v39
  v40.toNat
def k0_dev7 : Nat :=
  let c0_i32_33 : BitVec 32 := 0#32
  let c6_i32 : BitVec 32 := 6#32
  let c1_i32_32 : BitVec 32 := 1#32
  let v41 : BitVec 32 := Scalar.muli c6_i32 c1_i32_32
  let v42 : BitVec 32 := Scalar.addi c0_i32_33 v41
  v42.toNat
def k0_dev8 : Nat :=
  let c0_i32_36 : BitVec 32 := 0#32
  let c7_i32 : BitVec 32 := 7#32
  let c1_i32_35 : BitVec 32 := 1#32
  let v43 : BitVec 32 := Scalar.muli c7_i32 c1_i32_35
  let v44 : BitVec 32 := Scalar.addi c0_i32_36 v43
  v44.toNat
def k0_dev9 : Nat :=
  let c0_i32_39 : BitVec 32 := 0#32
  let c8_i32 : BitVec 32 := 8#32
  let c1_i32_38 : BitVec 32 := 1#32
  let v45 : BitVec 32 := Scalar.muli c8_i32 c1_i32_38
  let v46 : BitVec 32 := Scalar.addi c0_i32_39 v45
  v46.toNat
def k0_dev10 : Nat :=
  let c0_i32_42 : BitVec 32 := 0#32
  let c9_i32 : BitVec 32 := 9#32
  let c1_i32_41 : BitVec 32 := 1#32
  let v47 : BitVec 32 := Scalar.muli c9_i32 c1_i32_41
  let v48 : BitVec 32 := Scalar.addi c0_i32_42 v47
  v48.toNat
def k0_dev11 : Nat :=
  let c0_i32_45 : BitVec 32 := 0#32
  let c10_i32 : BitVec 32 := 10#32
  let c1_i32_44 : BitVec 32 := 1#32
  let v49 : BitVec 32 := Scalar.muli c10_i32 c1_i32_44
  let v50 : BitVec 32 := Scalar.addi c0_i32_45 v49
  v50.toNat
def k0_dev12 : Nat :=
  let c0_i32_48 : BitVec 32 := 0#32
  let c11_i32 : BitVec 32 := 11#32
  let c1_i32_47 : BitVec 32 := 1#32
  let v51 : BitVec 32 := Scalar.muli c11_i32 c1_i32_47
  let v52 : BitVec 32 := Scalar.addi c0_i32_48 v51
  v52.toNat
def k0_dev13 : Nat :=
  let c0_i32_51 : BitVec 32 := 0#32
  let c12_i32 : BitVec 32 := 12#32
  let c1_i32_50 : BitVec 32 := 1#32
  let v53 : BitVec 32 := Scalar.muli c12_i32 c1_i32_50
  let v54 : BitVec 32 := Scalar.addi c0_i32_51 v53
  v54.toNat
def k0_dev14 : Nat :=
  let c0_i32_54 : BitVec 32 := 0#32
  let c13_i32 : BitVec 32 := 13#32
  let c1_i32_53 : BitVec 32 := 1#32
  let v55 : BitVec 32 := Scalar.muli c13_i32 c1_i32_53
  let v56 : BitVec 32 := Scalar.addi c0_i32_54 v55
  v56.toNat
def k0_dev15 : Nat :=
  let c0_i32_57 : BitVec 32 := 0#32
  let c14_i32 : BitVec 32 := 14#32
  let c1_i32_56 : BitVec 32 := 1#32
  let v57 : BitVec 32 := Scalar.muli c14_i32 c1_i32_56
  let v58 : BitVec 32 := Scalar.addi c0_i32_57 v57
  v58.toNat
def k0_dev16 : Nat :=
  let c0_i32_60 : BitVec 32 := 0#32
  let c15_i32 : BitVec 32 := 15#32
  let c1_i32_59 : BitVec 32 := 1#32
  let v59 : BitVec 32 := Scalar.muli c15_i32 c1_i32_59
  let v60 : BitVec 32 := Scalar.addi c0_i32_60 v59
  v60.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v63 : Index := Scalar.indexCast v2
  let c0_63 : Index := 0#32
  let c0_64 : Index := 0#32
  ![v63.toNat, 0, 0]
def k0_off2 (d0 : Dev nD) (c1_i32_65 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v67 : BitVec 32 := Scalar.addi v19 c1_i32_65
  let c4_i32_66 : BitVec 32 := 4#32
  let v68 : BitVec 32 := Scalar.remsi v67 c4_i32_66
  ![v68.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_70 : BitVec 32 := 0#32
  let c0_i32_71 : BitVec 32 := 0#32
  ![v2.toNat, 0, 0]
def k0_dev17 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_67 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_65 : BitVec 32 := 1#32
  let v67 : BitVec 32 := Scalar.addi v19 c1_i32_65
  let c4_i32_66 : BitVec 32 := 4#32
  let v68 : BitVec 32 := Scalar.remsi v67 c4_i32_66
  let v69 : BitVec 32 := Scalar.muli c4_i32_67 v68
  let v70 : BitVec 32 := Scalar.addi v20 v69
  let c1_i32_68 : BitVec 32 := 1#32
  let v71 : BitVec 32 := Scalar.muli v70 c1_i32_68
  let v72 : BitVec 32 := Scalar.addi c0_i32_69 v71
  v72.toNat
def k0_dev18 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_76 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_74 : BitVec 32 := 2#32
  let v81 : BitVec 32 := Scalar.addi v19 c2_i32_74
  let c4_i32_75 : BitVec 32 := 4#32
  let v82 : BitVec 32 := Scalar.remsi v81 c4_i32_75
  let v83 : BitVec 32 := Scalar.muli c4_i32_76 v82
  let v84 : BitVec 32 := Scalar.addi v20 v83
  let c1_i32_77 : BitVec 32 := 1#32
  let v85 : BitVec 32 := Scalar.muli v84 c1_i32_77
  let v86 : BitVec 32 := Scalar.addi c0_i32_78 v85
  v86.toNat
def k0_dev19 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_85 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_83 : BitVec 32 := 3#32
  let v95 : BitVec 32 := Scalar.addi v19 c3_i32_83
  let c4_i32_84 : BitVec 32 := 4#32
  let v96 : BitVec 32 := Scalar.remsi v95 c4_i32_84
  let v97 : BitVec 32 := Scalar.muli c4_i32_85 v96
  let v98 : BitVec 32 := Scalar.addi v20 v97
  let c1_i32_86 : BitVec 32 := 1#32
  let v99 : BitVec 32 := Scalar.muli v98 c1_i32_86
  let v100 : BitVec 32 := Scalar.addi c0_i32_87 v99
  v100.toNat
def k0_dev20 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_92 : BitVec 32 := 1#32
  let v109 : BitVec 32 := Scalar.muli v24 c1_i32_92
  let v110 : BitVec 32 := Scalar.addi c0_i32_93 v109
  v110.toNat
def k0_dev21 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_98 : BitVec 32 := 1#32
  let v119 : BitVec 32 := Scalar.muli v27 c1_i32_98
  let v120 : BitVec 32 := Scalar.addi c0_i32_99 v119
  v120.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v156 : BitVec 32 := Scalar.muli v2 c256_i32
  let v157 : Index := Scalar.indexCast v156
  let c0_118 : Index := 0#32
  ![v157.toNat, 0]
def k0_off6 (d0 : Dev nD) (c0_i32_119 : BitVec 32) (c3_i32_122 : BitVec 32) : Fin 3 → Nat :=
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.addi v19 c0_i32_119
  let c4_i32_120 : BitVec 32 := 4#32
  let v160 : BitVec 32 := Scalar.remsi v159 c4_i32_120
  let v161 : BitVec 32 := Scalar.muli c4_i32_121 v160
  let c4_i32_5 : BitVec 32 := 4#32
  let v20 : BitVec 32 := Scalar.remsi v2 c4_i32_5
  let v162 : BitVec 32 := Scalar.addi v20 c3_i32_122
  let c4_i32_123 : BitVec 32 := 4#32
  let v163 : BitVec 32 := Scalar.remsi v162 c4_i32_123
  let v164 : BitVec 32 := Scalar.addi v161 v163
  let c0_i32_126 : BitVec 32 := 0#32
  let c0_i32_127 : BitVec 32 := 0#32
  ![v164.toNat, 0, 0]
def k0_off7 (d0 : Dev nD) (c0_i32_119 : BitVec 32) (c3_i32_122 : BitVec 32) : Fin 3 → Nat :=
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.addi v19 c0_i32_119
  let c4_i32_120 : BitVec 32 := 4#32
  let v160 : BitVec 32 := Scalar.remsi v159 c4_i32_120
  let v161 : BitVec 32 := Scalar.muli c4_i32_121 v160
  let c4_i32_5 : BitVec 32 := 4#32
  let v20 : BitVec 32 := Scalar.remsi v2 c4_i32_5
  let v162 : BitVec 32 := Scalar.addi v20 c3_i32_122
  let c4_i32_123 : BitVec 32 := 4#32
  let v163 : BitVec 32 := Scalar.remsi v162 c4_i32_123
  let v164 : BitVec 32 := Scalar.addi v161 v163
  let c0_i32_132 : BitVec 32 := 0#32
  let c0_i32_133 : BitVec 32 := 0#32
  ![v164.toNat, 0, 0]
def k0_dev22 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_130 : BitVec 32 := 1#32
  let v173 : BitVec 32 := Scalar.muli v24 c1_i32_130
  let v174 : BitVec 32 := Scalar.addi c0_i32_131 v173
  v174.toNat
def k0_off8 (d0 : Dev nD) (c0_i32_119 : BitVec 32) (c5_i32_137 : BitVec 32) : Fin 3 → Nat :=
  let c4_i32_136 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.addi v19 c0_i32_119
  let c4_i32_120 : BitVec 32 := 4#32
  let v160 : BitVec 32 := Scalar.remsi v159 c4_i32_120
  let v183 : BitVec 32 := Scalar.muli c4_i32_136 v160
  let c4_i32_5 : BitVec 32 := 4#32
  let v20 : BitVec 32 := Scalar.remsi v2 c4_i32_5
  let v184 : BitVec 32 := Scalar.addi v20 c5_i32_137
  let c4_i32_138 : BitVec 32 := 4#32
  let v185 : BitVec 32 := Scalar.remsi v184 c4_i32_138
  let v186 : BitVec 32 := Scalar.addi v183 v185
  let c2048_i32 : BitVec 32 := 2048#32
  let c0_i32_147 : BitVec 32 := 0#32
  ![v186.toNat, 2048, 0]
def k0_dev23 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_145 : BitVec 32 := 1#32
  let v195 : BitVec 32 := Scalar.muli v27 c1_i32_145
  let v196 : BitVec 32 := Scalar.addi c0_i32_146 v195
  v196.toNat
def k0_off9 (d0 : Dev nD) (c0_i32_119 : BitVec 32) (c3_i32_122 : BitVec 32) : Fin 3 → Nat :=
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.addi v19 c0_i32_119
  let c4_i32_120 : BitVec 32 := 4#32
  let v160 : BitVec 32 := Scalar.remsi v159 c4_i32_120
  let v161 : BitVec 32 := Scalar.muli c4_i32_121 v160
  let c4_i32_5 : BitVec 32 := 4#32
  let v20 : BitVec 32 := Scalar.remsi v2 c4_i32_5
  let v162 : BitVec 32 := Scalar.addi v20 c3_i32_122
  let c4_i32_123 : BitVec 32 := 4#32
  let v163 : BitVec 32 := Scalar.remsi v162 c4_i32_123
  let v164 : BitVec 32 := Scalar.addi v161 v163
  let v205 : Index := Scalar.indexCast v164
  let c0_150 : Index := 0#32
  let c0_151 : Index := 0#32
  ![v205.toNat, 0, 0]
def k0_off9_at (r : Fin 12) : BitVec 32 × BitVec 32 :=
  if r.val < 6 then
    if r.val < 3 then
      if r.val < 1 then
        (0#32, 3#32)
      else
        if r.val < 2 then
          (0#32, 5#32)
        else
          (1#32, 3#32)
    else
      if r.val < 4 then
        (1#32, 5#32)
      else
        if r.val < 5 then
          (2#32, 3#32)
        else
          (2#32, 5#32)
  else
    if r.val < 9 then
      if r.val < 7 then
        (3#32, 3#32)
      else
        if r.val < 8 then
          (3#32, 5#32)
        else
          (0#32, 6#32)
    else
      if r.val < 10 then
        (1#32, 6#32)
      else
        if r.val < 11 then
          (2#32, 6#32)
        else
          (3#32, 6#32)
def k0_off10 (d0 : Dev nD) (c0_i32_119 : BitVec 32) (c3_i32_122 : BitVec 32) : Fin 3 → Nat :=
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.addi v19 c0_i32_119
  let c4_i32_120 : BitVec 32 := 4#32
  let v160 : BitVec 32 := Scalar.remsi v159 c4_i32_120
  let v161 : BitVec 32 := Scalar.muli c4_i32_121 v160
  let c4_i32_5 : BitVec 32 := 4#32
  let v20 : BitVec 32 := Scalar.remsi v2 c4_i32_5
  let v162 : BitVec 32 := Scalar.addi v20 c3_i32_122
  let c4_i32_123 : BitVec 32 := 4#32
  let v163 : BitVec 32 := Scalar.remsi v162 c4_i32_123
  let v164 : BitVec 32 := Scalar.addi v161 v163
  let v224 : Index := Scalar.indexCast v164
  let c0_159 : Index := 0#32
  let c0_160 : Index := 0#32
  ![v224.toNat, 0, 0]
def k0_off10_at (r : Fin 12) : BitVec 32 × BitVec 32 :=
  if r.val < 6 then
    if r.val < 3 then
      if r.val < 1 then
        (0#32, 3#32)
      else
        if r.val < 2 then
          (0#32, 5#32)
        else
          (1#32, 3#32)
    else
      if r.val < 4 then
        (1#32, 5#32)
      else
        if r.val < 5 then
          (2#32, 3#32)
        else
          (2#32, 5#32)
  else
    if r.val < 9 then
      if r.val < 7 then
        (3#32, 3#32)
      else
        if r.val < 8 then
          (3#32, 5#32)
        else
          (0#32, 6#32)
    else
      if r.val < 10 then
        (1#32, 6#32)
      else
        if r.val < 11 then
          (2#32, 6#32)
        else
          (3#32, 6#32)
def k0_off11 (d0 : Dev nD) (c0_i32_119 : BitVec 32) (c3_i32_122 : BitVec 32) : Fin 1 → Nat :=
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.addi v19 c0_i32_119
  let c4_i32_120 : BitVec 32 := 4#32
  let v160 : BitVec 32 := Scalar.remsi v159 c4_i32_120
  let v161 : BitVec 32 := Scalar.muli c4_i32_121 v160
  let c4_i32_5 : BitVec 32 := 4#32
  let v20 : BitVec 32 := Scalar.remsi v2 c4_i32_5
  let v162 : BitVec 32 := Scalar.addi v20 c3_i32_122
  let c4_i32_123 : BitVec 32 := 4#32
  let v163 : BitVec 32 := Scalar.remsi v162 c4_i32_123
  let v164 : BitVec 32 := Scalar.addi v161 v163
  ![v164.toNat]
def k0_off11_at (r : Fin 12) : BitVec 32 × BitVec 32 :=
  if r.val < 6 then
    if r.val < 3 then
      if r.val < 1 then
        (0#32, 3#32)
      else
        if r.val < 2 then
          (0#32, 5#32)
        else
          (1#32, 3#32)
    else
      if r.val < 4 then
        (1#32, 5#32)
      else
        if r.val < 5 then
          (2#32, 3#32)
        else
          (2#32, 5#32)
  else
    if r.val < 9 then
      if r.val < 7 then
        (3#32, 3#32)
      else
        if r.val < 8 then
          (3#32, 5#32)
        else
          (0#32, 6#32)
    else
      if r.val < 10 then
        (1#32, 6#32)
      else
        if r.val < 11 then
          (2#32, 6#32)
        else
          (3#32, 6#32)
def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_off14 (d0 : Dev nD) (c0_i32_119 : BitVec 32) (c3_i32_122 : BitVec 32) : Fin 3 → Nat :=
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.addi v19 c0_i32_119
  let c4_i32_120 : BitVec 32 := 4#32
  let v160 : BitVec 32 := Scalar.remsi v159 c4_i32_120
  let v161 : BitVec 32 := Scalar.muli c4_i32_121 v160
  let c4_i32_5 : BitVec 32 := 4#32
  let v20 : BitVec 32 := Scalar.remsi v2 c4_i32_5
  let v162 : BitVec 32 := Scalar.addi v20 c3_i32_122
  let c4_i32_123 : BitVec 32 := 4#32
  let v163 : BitVec 32 := Scalar.remsi v162 c4_i32_123
  let v164 : BitVec 32 := Scalar.addi v161 v163
  let c0_i32_165 : BitVec 32 := 0#32
  let c0_i32_166 : BitVec 32 := 0#32
  ![v164.toNat, 0, 0]
def k0_off14_at (r : Fin 12) : BitVec 32 × BitVec 32 :=
  if r.val < 6 then
    if r.val < 3 then
      if r.val < 1 then
        (0#32, 3#32)
      else
        if r.val < 2 then
          (0#32, 5#32)
        else
          (1#32, 3#32)
    else
      if r.val < 4 then
        (1#32, 5#32)
      else
        if r.val < 5 then
          (2#32, 3#32)
        else
          (2#32, 5#32)
  else
    if r.val < 9 then
      if r.val < 7 then
        (3#32, 3#32)
      else
        if r.val < 8 then
          (3#32, 5#32)
        else
          (0#32, 6#32)
    else
      if r.val < 10 then
        (1#32, 6#32)
      else
        if r.val < 11 then
          (2#32, 6#32)
        else
          (3#32, 6#32)
def k0_dev24 (d0 : Dev nD) : Nat :=
  let c0_i32_162 : BitVec 32 := 0#32
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_119 : BitVec 32 := 0#32
  let v159 : BitVec 32 := Scalar.addi v19 c0_i32_119
  let c4_i32_120 : BitVec 32 := 4#32
  let v160 : BitVec 32 := Scalar.remsi v159 c4_i32_120
  let v161 : BitVec 32 := Scalar.muli c4_i32_121 v160
  let c4_i32_5 : BitVec 32 := 4#32
  let v20 : BitVec 32 := Scalar.remsi v2 c4_i32_5
  let c3_i32_122 : BitVec 32 := 3#32
  let v162 : BitVec 32 := Scalar.addi v20 c3_i32_122
  let c4_i32_123 : BitVec 32 := 4#32
  let v163 : BitVec 32 := Scalar.remsi v162 c4_i32_123
  let v164 : BitVec 32 := Scalar.addi v161 v163
  let c1_i32_161 : BitVec 32 := 1#32
  let v228 : BitVec 32 := Scalar.muli v164 c1_i32_161
  let v229 : BitVec 32 := Scalar.addi c0_i32_162 v228
  v229.toNat
def k0_dev25 (d0 : Dev nD) : Nat :=
  let c0_i32_179 : BitVec 32 := 0#32
  let c4_i32_136 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_119 : BitVec 32 := 0#32
  let v159 : BitVec 32 := Scalar.addi v19 c0_i32_119
  let c4_i32_120 : BitVec 32 := 4#32
  let v160 : BitVec 32 := Scalar.remsi v159 c4_i32_120
  let v183 : BitVec 32 := Scalar.muli c4_i32_136 v160
  let c4_i32_5 : BitVec 32 := 4#32
  let v20 : BitVec 32 := Scalar.remsi v2 c4_i32_5
  let c5_i32_137 : BitVec 32 := 5#32
  let v184 : BitVec 32 := Scalar.addi v20 c5_i32_137
  let c4_i32_138 : BitVec 32 := 4#32
  let v185 : BitVec 32 := Scalar.remsi v184 c4_i32_138
  let v186 : BitVec 32 := Scalar.addi v183 v185
  let c1_i32_178 : BitVec 32 := 1#32
  let v261 : BitVec 32 := Scalar.muli v186 c1_i32_178
  let v262 : BitVec 32 := Scalar.addi c0_i32_179 v261
  v262.toNat
def k0_off15 (d0 : Dev nD) (c1_i32_184 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_186 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v271 : BitVec 32 := Scalar.addi v19 c1_i32_184
  let c4_i32_185 : BitVec 32 := 4#32
  let v272 : BitVec 32 := Scalar.remsi v271 c4_i32_185
  let v273 : BitVec 32 := Scalar.muli c4_i32_186 v272
  let v274 : BitVec 32 := Scalar.addi v20 v273
  let c0_i32_189 : BitVec 32 := 0#32
  let c0_i32_190 : BitVec 32 := 0#32
  ![v274.toNat, 0, 0]
def k0_dev26 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_193 : BitVec 32 := 1#32
  let v283 : BitVec 32 := Scalar.muli v24 c1_i32_193
  let v284 : BitVec 32 := Scalar.addi c0_i32_194 v283
  v284.toNat
def k0_dev27 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_199 : BitVec 32 := 1#32
  let v293 : BitVec 32 := Scalar.muli v27 c1_i32_199
  let v294 : BitVec 32 := Scalar.addi c0_i32_200 v293
  v294.toNat
def k0_dev28 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_214 : BitVec 32 := 1#32
  let v315 : BitVec 32 := Scalar.muli v24 c1_i32_214
  let v316 : BitVec 32 := Scalar.addi c0_i32_215 v315
  v316.toNat
def k0_dev29 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_229 : BitVec 32 := 1#32
  let v337 : BitVec 32 := Scalar.muli v27 c1_i32_229
  let v338 : BitVec 32 := Scalar.addi c0_i32_230 v337
  v338.toNat
def k0_off16 (d0 : Dev nD) (c1_i32_184 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_186 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v271 : BitVec 32 := Scalar.addi v19 c1_i32_184
  let c4_i32_185 : BitVec 32 := 4#32
  let v272 : BitVec 32 := Scalar.remsi v271 c4_i32_185
  let v273 : BitVec 32 := Scalar.muli c4_i32_186 v272
  let v274 : BitVec 32 := Scalar.addi v20 v273
  let v347 : Index := Scalar.indexCast v274
  let c0_235 : Index := 0#32
  let c0_236 : Index := 0#32
  ![v347.toNat, 0, 0]
def k0_off17 (d0 : Dev nD) (c1_i32_184 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_186 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v271 : BitVec 32 := Scalar.addi v19 c1_i32_184
  let c4_i32_185 : BitVec 32 := 4#32
  let v272 : BitVec 32 := Scalar.remsi v271 c4_i32_185
  let v273 : BitVec 32 := Scalar.muli c4_i32_186 v272
  let v274 : BitVec 32 := Scalar.addi v20 v273
  let v366 : Index := Scalar.indexCast v274
  let c0_244 : Index := 0#32
  let c0_245 : Index := 0#32
  ![v366.toNat, 0, 0]
def k0_off18 (d0 : Dev nD) (c1_i32_184 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_186 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v271 : BitVec 32 := Scalar.addi v19 c1_i32_184
  let c4_i32_185 : BitVec 32 := 4#32
  let v272 : BitVec 32 := Scalar.remsi v271 c4_i32_185
  let v273 : BitVec 32 := Scalar.muli c4_i32_186 v272
  let v274 : BitVec 32 := Scalar.addi v20 v273
  ![v274.toNat]
def k0_off19 (d0 : Dev nD) (c1_i32_184 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_186 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v271 : BitVec 32 := Scalar.addi v19 c1_i32_184
  let c4_i32_185 : BitVec 32 := 4#32
  let v272 : BitVec 32 := Scalar.remsi v271 c4_i32_185
  let v273 : BitVec 32 := Scalar.muli c4_i32_186 v272
  let v274 : BitVec 32 := Scalar.addi v20 v273
  let c0_i32_250 : BitVec 32 := 0#32
  let c0_i32_251 : BitVec 32 := 0#32
  ![v274.toNat, 0, 0]
def k0_dev30 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_186 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_184 : BitVec 32 := 1#32
  let v271 : BitVec 32 := Scalar.addi v19 c1_i32_184
  let c4_i32_185 : BitVec 32 := 4#32
  let v272 : BitVec 32 := Scalar.remsi v271 c4_i32_185
  let v273 : BitVec 32 := Scalar.muli c4_i32_186 v272
  let v274 : BitVec 32 := Scalar.addi v20 v273
  let c1_i32_246 : BitVec 32 := 1#32
  let v370 : BitVec 32 := Scalar.muli v274 c1_i32_246
  let v371 : BitVec 32 := Scalar.addi c0_i32_247 v370
  v371.toNat
def k0_dev31 (d0 : Dev nD) : Nat :=
  let c0_i32_264 : BitVec 32 := 0#32
  let c4_i32_205 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_184 : BitVec 32 := 1#32
  let v271 : BitVec 32 := Scalar.addi v19 c1_i32_184
  let c4_i32_185 : BitVec 32 := 4#32
  let v272 : BitVec 32 := Scalar.remsi v271 c4_i32_185
  let v303 : BitVec 32 := Scalar.muli c4_i32_205 v272
  let c4_i32_5 : BitVec 32 := 4#32
  let v20 : BitVec 32 := Scalar.remsi v2 c4_i32_5
  let c3_i32_206 : BitVec 32 := 3#32
  let v304 : BitVec 32 := Scalar.addi v20 c3_i32_206
  let c4_i32_207 : BitVec 32 := 4#32
  let v305 : BitVec 32 := Scalar.remsi v304 c4_i32_207
  let v306 : BitVec 32 := Scalar.addi v303 v305
  let c1_i32_263 : BitVec 32 := 1#32
  let v403 : BitVec 32 := Scalar.muli v306 c1_i32_263
  let v404 : BitVec 32 := Scalar.addi c0_i32_264 v403
  v404.toNat
def k0_dev32 (d0 : Dev nD) : Nat :=
  let c0_i32_281 : BitVec 32 := 0#32
  let c4_i32_220 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_184 : BitVec 32 := 1#32
  let v271 : BitVec 32 := Scalar.addi v19 c1_i32_184
  let c4_i32_185 : BitVec 32 := 4#32
  let v272 : BitVec 32 := Scalar.remsi v271 c4_i32_185
  let v325 : BitVec 32 := Scalar.muli c4_i32_220 v272
  let c4_i32_5 : BitVec 32 := 4#32
  let v20 : BitVec 32 := Scalar.remsi v2 c4_i32_5
  let c5_i32_221 : BitVec 32 := 5#32
  let v326 : BitVec 32 := Scalar.addi v20 c5_i32_221
  let c4_i32_222 : BitVec 32 := 4#32
  let v327 : BitVec 32 := Scalar.remsi v326 c4_i32_222
  let v328 : BitVec 32 := Scalar.addi v325 v327
  let c1_i32_280 : BitVec 32 := 1#32
  let v436 : BitVec 32 := Scalar.muli v328 c1_i32_280
  let v437 : BitVec 32 := Scalar.addi c0_i32_281 v436
  v437.toNat
def k0_dev33 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_295 : BitVec 32 := 1#32
  let v458 : BitVec 32 := Scalar.muli v24 c1_i32_295
  let v459 : BitVec 32 := Scalar.addi c0_i32_296 v458
  v459.toNat
def k0_dev34 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_301 : BitVec 32 := 1#32
  let v468 : BitVec 32 := Scalar.muli v27 c1_i32_301
  let v469 : BitVec 32 := Scalar.addi c0_i32_302 v468
  v469.toNat
def k0_dev35 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_316 : BitVec 32 := 1#32
  let v490 : BitVec 32 := Scalar.muli v24 c1_i32_316
  let v491 : BitVec 32 := Scalar.addi c0_i32_317 v490
  v491.toNat
def k0_dev36 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_331 : BitVec 32 := 1#32
  let v512 : BitVec 32 := Scalar.muli v27 c1_i32_331
  let v513 : BitVec 32 := Scalar.addi c0_i32_332 v512
  v513.toNat
def k0_dev37 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_288 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_286 : BitVec 32 := 2#32
  let v446 : BitVec 32 := Scalar.addi v19 c2_i32_286
  let c4_i32_287 : BitVec 32 := 4#32
  let v447 : BitVec 32 := Scalar.remsi v446 c4_i32_287
  let v448 : BitVec 32 := Scalar.muli c4_i32_288 v447
  let v449 : BitVec 32 := Scalar.addi v20 v448
  let c1_i32_348 : BitVec 32 := 1#32
  let v545 : BitVec 32 := Scalar.muli v449 c1_i32_348
  let v546 : BitVec 32 := Scalar.addi c0_i32_349 v545
  v546.toNat
def k0_dev38 (d0 : Dev nD) : Nat :=
  let c0_i32_366 : BitVec 32 := 0#32
  let c4_i32_307 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_286 : BitVec 32 := 2#32
  let v446 : BitVec 32 := Scalar.addi v19 c2_i32_286
  let c4_i32_287 : BitVec 32 := 4#32
  let v447 : BitVec 32 := Scalar.remsi v446 c4_i32_287
  let v478 : BitVec 32 := Scalar.muli c4_i32_307 v447
  let c4_i32_5 : BitVec 32 := 4#32
  let v20 : BitVec 32 := Scalar.remsi v2 c4_i32_5
  let c3_i32_308 : BitVec 32 := 3#32
  let v479 : BitVec 32 := Scalar.addi v20 c3_i32_308
  let c4_i32_309 : BitVec 32 := 4#32
  let v480 : BitVec 32 := Scalar.remsi v479 c4_i32_309
  let v481 : BitVec 32 := Scalar.addi v478 v480
  let c1_i32_365 : BitVec 32 := 1#32
  let v578 : BitVec 32 := Scalar.muli v481 c1_i32_365
  let v579 : BitVec 32 := Scalar.addi c0_i32_366 v578
  v579.toNat
def k0_dev39 (d0 : Dev nD) : Nat :=
  let c0_i32_383 : BitVec 32 := 0#32
  let c4_i32_322 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_286 : BitVec 32 := 2#32
  let v446 : BitVec 32 := Scalar.addi v19 c2_i32_286
  let c4_i32_287 : BitVec 32 := 4#32
  let v447 : BitVec 32 := Scalar.remsi v446 c4_i32_287
  let v500 : BitVec 32 := Scalar.muli c4_i32_322 v447
  let c4_i32_5 : BitVec 32 := 4#32
  let v20 : BitVec 32 := Scalar.remsi v2 c4_i32_5
  let c5_i32_323 : BitVec 32 := 5#32
  let v501 : BitVec 32 := Scalar.addi v20 c5_i32_323
  let c4_i32_324 : BitVec 32 := 4#32
  let v502 : BitVec 32 := Scalar.remsi v501 c4_i32_324
  let v503 : BitVec 32 := Scalar.addi v500 v502
  let c1_i32_382 : BitVec 32 := 1#32
  let v611 : BitVec 32 := Scalar.muli v503 c1_i32_382
  let v612 : BitVec 32 := Scalar.addi c0_i32_383 v611
  v612.toNat
def k0_dev40 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_397 : BitVec 32 := 1#32
  let v633 : BitVec 32 := Scalar.muli v24 c1_i32_397
  let v634 : BitVec 32 := Scalar.addi c0_i32_398 v633
  v634.toNat
def k0_dev41 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_403 : BitVec 32 := 1#32
  let v643 : BitVec 32 := Scalar.muli v27 c1_i32_403
  let v644 : BitVec 32 := Scalar.addi c0_i32_404 v643
  v644.toNat
def k0_dev42 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_6 : BitVec 32 := 1#32
  let v22 : BitVec 32 := Scalar.addi v20 c1_i32_6
  let c4_i32_7 : BitVec 32 := 4#32
  let v23 : BitVec 32 := Scalar.remsi v22 c4_i32_7
  let v24 : BitVec 32 := Scalar.addi v21 v23
  let c1_i32_418 : BitVec 32 := 1#32
  let v665 : BitVec 32 := Scalar.muli v24 c1_i32_418
  let v666 : BitVec 32 := Scalar.addi c0_i32_419 v665
  v666.toNat
def k0_dev43 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v25 : BitVec 32 := Scalar.addi v20 c3_i32
  let c4_i32_8 : BitVec 32 := 4#32
  let v26 : BitVec 32 := Scalar.remsi v25 c4_i32_8
  let v27 : BitVec 32 := Scalar.addi v21 v26
  let c1_i32_433 : BitVec 32 := 1#32
  let v687 : BitVec 32 := Scalar.muli v27 c1_i32_433
  let v688 : BitVec 32 := Scalar.addi c0_i32_434 v687
  v688.toNat
def k0_dev44 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_390 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_388 : BitVec 32 := 3#32
  let v621 : BitVec 32 := Scalar.addi v19 c3_i32_388
  let c4_i32_389 : BitVec 32 := 4#32
  let v622 : BitVec 32 := Scalar.remsi v621 c4_i32_389
  let v623 : BitVec 32 := Scalar.muli c4_i32_390 v622
  let v624 : BitVec 32 := Scalar.addi v20 v623
  let c1_i32_450 : BitVec 32 := 1#32
  let v720 : BitVec 32 := Scalar.muli v624 c1_i32_450
  let v721 : BitVec 32 := Scalar.addi c0_i32_451 v720
  v721.toNat
def k0_dev45 (d0 : Dev nD) : Nat :=
  let c0_i32_468 : BitVec 32 := 0#32
  let c4_i32_409 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_388 : BitVec 32 := 3#32
  let v621 : BitVec 32 := Scalar.addi v19 c3_i32_388
  let c4_i32_389 : BitVec 32 := 4#32
  let v622 : BitVec 32 := Scalar.remsi v621 c4_i32_389
  let v653 : BitVec 32 := Scalar.muli c4_i32_409 v622
  let c4_i32_5 : BitVec 32 := 4#32
  let v20 : BitVec 32 := Scalar.remsi v2 c4_i32_5
  let c3_i32_410 : BitVec 32 := 3#32
  let v654 : BitVec 32 := Scalar.addi v20 c3_i32_410
  let c4_i32_411 : BitVec 32 := 4#32
  let v655 : BitVec 32 := Scalar.remsi v654 c4_i32_411
  let v656 : BitVec 32 := Scalar.addi v653 v655
  let c1_i32_467 : BitVec 32 := 1#32
  let v753 : BitVec 32 := Scalar.muli v656 c1_i32_467
  let v754 : BitVec 32 := Scalar.addi c0_i32_468 v753
  v754.toNat
def k0_dev46 (d0 : Dev nD) : Nat :=
  let c0_i32_485 : BitVec 32 := 0#32
  let c4_i32_424 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_388 : BitVec 32 := 3#32
  let v621 : BitVec 32 := Scalar.addi v19 c3_i32_388
  let c4_i32_389 : BitVec 32 := 4#32
  let v622 : BitVec 32 := Scalar.remsi v621 c4_i32_389
  let v675 : BitVec 32 := Scalar.muli c4_i32_424 v622
  let c4_i32_5 : BitVec 32 := 4#32
  let v20 : BitVec 32 := Scalar.remsi v2 c4_i32_5
  let c5_i32_425 : BitVec 32 := 5#32
  let v676 : BitVec 32 := Scalar.addi v20 c5_i32_425
  let c4_i32_426 : BitVec 32 := 4#32
  let v677 : BitVec 32 := Scalar.remsi v676 c4_i32_426
  let v678 : BitVec 32 := Scalar.addi v675 v677
  let c1_i32_484 : BitVec 32 := 1#32
  let v786 : BitVec 32 := Scalar.muli v678 c1_i32_484
  let v787 : BitVec 32 := Scalar.addi c0_i32_485 v786
  v787.toNat
def k0_dev47 (d0 : Dev nD) : Nat :=
  let c0_i32_519 : BitVec 32 := 0#32
  let c4_i32_492 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_490 : BitVec 32 := 0#32
  let v796 : BitVec 32 := Scalar.addi v19 c0_i32_490
  let c4_i32_491 : BitVec 32 := 4#32
  let v797 : BitVec 32 := Scalar.remsi v796 c4_i32_491
  let v798 : BitVec 32 := Scalar.muli c4_i32_492 v797
  let c4_i32_5 : BitVec 32 := 4#32
  let v20 : BitVec 32 := Scalar.remsi v2 c4_i32_5
  let c6_i32_493 : BitVec 32 := 6#32
  let v799 : BitVec 32 := Scalar.addi v20 c6_i32_493
  let c4_i32_494 : BitVec 32 := 4#32
  let v800 : BitVec 32 := Scalar.remsi v799 c4_i32_494
  let v801 : BitVec 32 := Scalar.addi v798 v800
  let c1_i32_518 : BitVec 32 := 1#32
  let v841 : BitVec 32 := Scalar.muli v801 c1_i32_518
  let v842 : BitVec 32 := Scalar.addi c0_i32_519 v841
  v842.toNat
def k0_dev48 (d0 : Dev nD) : Nat :=
  let c0_i32_553 : BitVec 32 := 0#32
  let c4_i32_526 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_524 : BitVec 32 := 1#32
  let v851 : BitVec 32 := Scalar.addi v19 c1_i32_524
  let c4_i32_525 : BitVec 32 := 4#32
  let v852 : BitVec 32 := Scalar.remsi v851 c4_i32_525
  let v853 : BitVec 32 := Scalar.muli c4_i32_526 v852
  let c4_i32_5 : BitVec 32 := 4#32
  let v20 : BitVec 32 := Scalar.remsi v2 c4_i32_5
  let c6_i32_527 : BitVec 32 := 6#32
  let v854 : BitVec 32 := Scalar.addi v20 c6_i32_527
  let c4_i32_528 : BitVec 32 := 4#32
  let v855 : BitVec 32 := Scalar.remsi v854 c4_i32_528
  let v856 : BitVec 32 := Scalar.addi v853 v855
  let c1_i32_552 : BitVec 32 := 1#32
  let v896 : BitVec 32 := Scalar.muli v856 c1_i32_552
  let v897 : BitVec 32 := Scalar.addi c0_i32_553 v896
  v897.toNat
def k0_dev49 (d0 : Dev nD) : Nat :=
  let c0_i32_587 : BitVec 32 := 0#32
  let c4_i32_560 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_558 : BitVec 32 := 2#32
  let v906 : BitVec 32 := Scalar.addi v19 c2_i32_558
  let c4_i32_559 : BitVec 32 := 4#32
  let v907 : BitVec 32 := Scalar.remsi v906 c4_i32_559
  let v908 : BitVec 32 := Scalar.muli c4_i32_560 v907
  let c4_i32_5 : BitVec 32 := 4#32
  let v20 : BitVec 32 := Scalar.remsi v2 c4_i32_5
  let c6_i32_561 : BitVec 32 := 6#32
  let v909 : BitVec 32 := Scalar.addi v20 c6_i32_561
  let c4_i32_562 : BitVec 32 := 4#32
  let v910 : BitVec 32 := Scalar.remsi v909 c4_i32_562
  let v911 : BitVec 32 := Scalar.addi v908 v910
  let c1_i32_586 : BitVec 32 := 1#32
  let v951 : BitVec 32 := Scalar.muli v911 c1_i32_586
  let v952 : BitVec 32 := Scalar.addi c0_i32_587 v951
  v952.toNat
def k0_dev50 (d0 : Dev nD) : Nat :=
  let c0_i32_621 : BitVec 32 := 0#32
  let c4_i32_594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_592 : BitVec 32 := 3#32
  let v961 : BitVec 32 := Scalar.addi v19 c3_i32_592
  let c4_i32_593 : BitVec 32 := 4#32
  let v962 : BitVec 32 := Scalar.remsi v961 c4_i32_593
  let v963 : BitVec 32 := Scalar.muli c4_i32_594 v962
  let c4_i32_5 : BitVec 32 := 4#32
  let v20 : BitVec 32 := Scalar.remsi v2 c4_i32_5
  let c6_i32_595 : BitVec 32 := 6#32
  let v964 : BitVec 32 := Scalar.addi v20 c6_i32_595
  let c4_i32_596 : BitVec 32 := 4#32
  let v965 : BitVec 32 := Scalar.remsi v964 c4_i32_596
  let v966 : BitVec 32 := Scalar.addi v963 v965
  let c1_i32_620 : BitVec 32 := 1#32
  let v1006 : BitVec 32 := Scalar.muli v966 c1_i32_620
  let v1007 : BitVec 32 := Scalar.addi c0_i32_621 v1006
  v1007.toNat
def k0_off20 (d0 : Dev nD) (c0_i32_626 : BitVec 32) (c3_i32_629 : BitVec 32) : Fin 2 → Nat :=
  let c4_i32_628 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1016 : BitVec 32 := Scalar.addi v19 c0_i32_626
  let c4_i32_627 : BitVec 32 := 4#32
  let v1017 : BitVec 32 := Scalar.remsi v1016 c4_i32_627
  let v1018 : BitVec 32 := Scalar.muli c4_i32_628 v1017
  let c4_i32_5 : BitVec 32 := 4#32
  let v20 : BitVec 32 := Scalar.remsi v2 c4_i32_5
  let v1019 : BitVec 32 := Scalar.addi v20 c3_i32_629
  let c4_i32_630 : BitVec 32 := 4#32
  let v1020 : BitVec 32 := Scalar.remsi v1019 c4_i32_630
  let v1021 : BitVec 32 := Scalar.addi v1018 v1020
  let c256_i32_639 : BitVec 32 := 256#32
  let v1034 : BitVec 32 := Scalar.muli v1021 c256_i32_639
  let v1035 : Index := Scalar.indexCast v1034
  let c0_640 : Index := 0#32
  ![v1035.toNat, 0]
def k0_off20_at (r : Fin 12) : BitVec 32 × BitVec 32 :=
  if r.val < 6 then
    if r.val < 3 then
      if r.val < 1 then
        (0#32, 3#32)
      else
        if r.val < 2 then
          (0#32, 5#32)
        else
          (1#32, 3#32)
    else
      if r.val < 4 then
        (1#32, 5#32)
      else
        if r.val < 5 then
          (2#32, 3#32)
        else
          (2#32, 5#32)
  else
    if r.val < 9 then
      if r.val < 7 then
        (3#32, 3#32)
      else
        if r.val < 8 then
          (3#32, 5#32)
        else
          (0#32, 6#32)
    else
      if r.val < 10 then
        (1#32, 6#32)
      else
        if r.val < 11 then
          (2#32, 6#32)
        else
          (3#32, 6#32)
def k0_off21 (d0 : Dev nD) (c1_i32_654 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c4_i32_656 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1056 : BitVec 32 := Scalar.addi v19 c1_i32_654
  let c4_i32_655 : BitVec 32 := 4#32
  let v1057 : BitVec 32 := Scalar.remsi v1056 c4_i32_655
  let v1058 : BitVec 32 := Scalar.muli c4_i32_656 v1057
  let v1059 : BitVec 32 := Scalar.addi v20 v1058
  let c256_i32_665 : BitVec 32 := 256#32
  let v1072 : BitVec 32 := Scalar.muli v1059 c256_i32_665
  let v1073 : Index := Scalar.indexCast v1072
  let c0_666 : Index := 0#32
  ![v1073.toNat, 0]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_865 : BitVec 32 := 0#32
  let c0_i32_866 : BitVec 32 := 0#32
  ![v2.toNat, 0, 0]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2048_i32_870 : BitVec 32 := 2048#32
  let c0_i32_871 : BitVec 32 := 0#32
  ![v2.toNat, 2048, 0]
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 25
  | .vmem => 4
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S1, .f32⟩
  | .hbm, ⟨8, _⟩ => ⟨S1x1, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x4096, .f32⟩
  | .local _ .vmem, ⟨3, _⟩ => ⟨S4096x2048, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Sends.lean ====
/-
# The copies of the kernel, as a finite table

Sixteen devices stand on a 4 × 4 torus: device `c` is in column `c / 4` (the slow coordinate) at place `c % 4` of it.
Every device issues the same thirty-four remote copies, named here by where they go relative to the device; this module
says, for every copy, whom it addresses, which semaphores it raises, and in which order the body issues them. All of it
is decidable and finite: the facts are settled by evaluation over the sixteen devices and the thirty-six names.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

namespace Cert.Ring

open Cert.KernelIdeal Cert.KernelIdeal.Gen
open Idealize.ShloMosaic

/-! ## Devices -/

set_option backward.proofsInPublic true in
/-- The device `k` places further along the fast coordinate and `dz` further along the slow one. -/
def peer (c : Dev nD) (k dz : Fin 4) : Dev nD :=
  ⟨4 * ((c.val / 4 + dz.val) % 4) + (c.val % 4 + k.val) % 4, by
    have h1 := Nat.mod_lt (c.val / 4 + dz.val) (show 0 < 4 by decide)
    have h2 := Nat.mod_lt (c.val % 4 + k.val) (show 0 < 4 by decide)
    show _ < 16; omega⟩

/-- The slow coordinate, `dz` further. -/
def zr (c : Dev nD) (dz : Fin 4) : ℕ := (c.val / 4 + dz.val) % 4

theorem peer_zero : ∀ c : Dev nD, peer c 0 0 = c := by decide +kernel

/-! ## The copies -/

/-- A copy a device makes, named relative to it. `col dz`: its own weights, `dz` columns on. `cwf dz`/`ccwf dz`: the weights
    of the device `dz` columns on, to the neighbour after/before. `cwh dz`/`ccwh dz`: the first half of what came from the
    neighbour before, to the neighbour after, and the second half of what came from the neighbour after, to the one before.
    `a2a k dz`: the block of the result computed for `peer c k dz`, to it. (`col 0` and `a2a 0 0` do not happen.) -/
inductive Snd where
  | col (dz : Fin 4) | cwf (dz : Fin 4) | ccwf (dz : Fin 4) | cwh (dz : Fin 4) | ccwh (dz : Fin 4) | a2a (k dz : Fin 4)
  deriving DecidableEq

namespace Snd

/-- Every name. -/
def all : List Snd :=
  [col 0, col 1, col 2, col 3, cwf 0, cwf 1, cwf 2, cwf 3, ccwf 0, ccwf 1, ccwf 2, ccwf 3,
   cwh 0, cwh 1, cwh 2, cwh 3, ccwh 0, ccwh 1, ccwh 2, ccwh 3,
   a2a 0 0, a2a 0 1, a2a 0 2, a2a 0 3, a2a 1 0, a2a 1 1, a2a 1 2, a2a 1 3,
   a2a 2 0, a2a 2 1, a2a 2 2, a2a 2 3, a2a 3 0, a2a 3 1, a2a 3 2, a2a 3 3]

theorem all_nodup : all.Nodup := by decide
theorem mem_all (e : Snd) : e ∈ all := by
  cases e with
  | a2a k dz => revert k dz; decide
  | _ dz => revert dz; decide

instance : Fintype Snd := ⟨⟨all, all_nodup⟩, mem_all⟩

/-- Does the copy happen? -/
def live : Snd → Bool
  | col dz => decide (dz ≠ 0)
  | a2a k dz => decide (¬ (k = 0 ∧ dz = 0))
  | _ => true

/-- Whom `c`'s copy addresses. -/
def tgt : Snd → Dev nD → Dev nD
  | col dz, c => peer c 0 dz
  | cwf _, c => peer c 1 0
  | cwh _, c => peer c 1 0
  | ccwf _, c => peer c 3 0
  | ccwh _, c => peer c 3 0
  | a2a k dz, c => peer c k dz

/-- The same copy seen from the device it arrives at: named by where it comes from. -/
def dual : Snd → Snd
  | col dz => col (-dz)
  | a2a k dz => a2a (-k) (-dz)
  | e => e

/-- The device whose copy `e` arrives at `t` (`tgt`'s inverse). -/
def from' : Snd → Dev nD → Dev nD
  | col dz, t => peer t 0 (-dz)
  | cwf _, t => peer t 3 0
  | cwh _, t => peer t 3 0
  | ccwf _, t => peer t 1 0
  | ccwh _, t => peer t 1 0
  | a2a k dz, t => peer t (-k) (-dz)

theorem dual_dual (e : Snd) : e.dual.dual = e := by revert e; decide +kernel
theorem live_dual (e : Snd) : e.dual.live = e.live := by revert e; decide +kernel
theorem from_tgt : ∀ (e : Snd) (c : Dev nD), e.from' (e.tgt c) = c := by decide +kernel
theorem tgt_from : ∀ (e : Snd) (t : Dev nD), e.tgt (e.from' t) = t := by decide +kernel

/-- The devices permuted by the copy. -/
def perm (e : Snd) : Dev nD ≃ Dev nD := ⟨e.tgt, e.from', from_tgt e, tgt_from e⟩

/-! ## Semaphores -/

/-- The completion semaphore of `c`'s copy on `c` (`false`), and on `t` of the copy that arrives there under the name `e`
    (`true`): positions among the launch's DMA semaphores. -/
def ixN : Bool → Snd → Dev nD → ℕ
  | false, col dz, c => 5 + zr c dz
  | false, cwf dz, c => 13 + zr c dz
  | false, ccwf dz, c => 21 + zr c dz
  | false, cwh dz, c => 29 + zr c dz
  | false, ccwh dz, c => 37 + zr c dz
  | false, a2a k dz, c => 45 + (peer c k dz).val
  | true, col dz, c => 9 + zr c dz
  | true, cwf dz, c => 17 + zr c dz
  | true, ccwf dz, c => 25 + zr c dz
  | true, cwh dz, c => 33 + zr c dz
  | true, ccwh dz, c => 41 + zr c dz
  | true, a2a k dz, c => 61 + (peer c k dz).val

theorem ixN_lt : ∀ (b : Bool) (e : Snd) (c : Dev nD), ixN b e c < sig.nDmaSem := by decide +kernel

set_option backward.proofsInPublic true in
def ix (b : Bool) (e : Snd) (c : Dev nD) : DmaSem sig := ⟨ixN b e c, ixN_lt b e c⟩

/-- What a DMA semaphore of device `t` is for: nothing (a staging semaphore, or one of a copy that does not happen), or a
    direction and a copy. -/
def decode (t : Dev nD) (q : DmaSem sig) : Option (Bool × Snd) :=
  ((all.map fun e => (false, e)) ++ all.map fun e => (true, e)).find? fun be => be.2.live && decide (ixN be.1 be.2 t = q.val)

theorem decode_ix : ∀ (t : Dev nD) (b : Bool) (e : Snd), e.live = true → decode t (ix b e t) = some (b, e) := by decide +kernel
theorem decode_dead : ∀ (t : Dev nD) (b : Bool) (e : Snd), e.live = false → decode t (ix b e t) = none := by decide +kernel
theorem decode_stage : ∀ (t : Dev nD) (q : Fin 5), decode t ⟨q.val, by have := q.isLt; show _ < 77; omega⟩ = none := by decide +kernel
theorem ix_injective : ∀ (t : Dev nD) (b b' : Bool) (e e' : Snd), ix b e t = ix b' e' t → b = b' ∧ e = e' := by decide +kernel

/-! ## Order -/

/-- The level of the arrival a copy raises: what a device waits for before it makes a copy lies below the copy's own. -/
def lvl : Snd → ℕ
  | col _ => 2
  | cwf dz => 3 + dz.val
  | ccwf dz => 3 + dz.val
  | cwh _ => 8
  | ccwh _ => 8
  | a2a _ _ => 9

theorem lvl_dual (e : Snd) : e.dual.lvl = e.lvl := by revert e; decide +kernel

/-- The copies in the order the body issues them. -/
def order : List Snd :=
  [col 1, col 2, col 3, cwf 0, ccwf 0,
   cwh 0, ccwh 0, a2a 3 0, a2a 1 0,
   cwf 1, ccwf 1, cwh 1, ccwh 1, a2a 0 1, a2a 3 1, a2a 1 1,
   cwf 2, ccwf 2, cwh 2, ccwh 2, a2a 0 2, a2a 3 2, a2a 1 2,
   cwf 3, ccwf 3, cwh 3, ccwh 3, a2a 0 3, a2a 3 3, a2a 1 3,
   a2a 2 0, a2a 2 1, a2a 2 2, a2a 2 3]

theorem order_nodup : order.Nodup := by decide
theorem mem_order (e : Snd) : Iff (e ∈ order) (e.live = true) := by revert e; decide +kernel

end Snd

end Cert.Ring

end
-- ==== Proof.Regions.lean ====
/-
# The pieces of memory the devices pass around, and what they hold

The gathered weights live in sixteen slots of one scratch array, the results on their way in sixteen pieces of two others,
the finished result in sixteen blocks of rows. This module names the pieces relative to a device, says what each holds once
it has been filled (one fixed function of the launch's memory, the same whichever way the data travelled), and cuts and joins
them.
-/
module

public import proofs.«01_k».proof.Proof.Sends

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

/-! ## Memrefs and rectangles -/

abbrev xM : Memref sig .tc .vmem S256x4096 .fp8e5m2 := Memref.whole cc0_stg0_0
abbrev wtM : Memref sig .tc .vmem S4096x128 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x128 .f32 := Memref.whole cc0_stg4_0
abbrev wM : Memref sig .tc .vmem S16x4096x128 .fp8e5m2 := Memref.whole cc0_scratch0
abbrev xbM : Memref sig .tc .vmem S256x4096 .bf16 := Memref.whole cc0_scratch1
abbrev sM : Memref sig .tc .vmem S16x256x128 .bf16 := Memref.whole cc0_scratch2
abbrev dM : Memref sig .tc .vmem S16x256x128 .bf16 := Memref.whole cc0_scratch3

theorem slot_inb : ∀ (o : Dev nD) (a : Fin 3), (![o.val, 0, 0] : Fin 3 → ℕ) a + S1x4096x128.size a ≤ S16x4096x128.size a := by decide +kernel
theorem half_inb : ∀ (o : Dev nD) (b : Fin 2) (a : Fin 3), (![o.val, 2048 * b.val, 0] : Fin 3 → ℕ) a + S1x2048x128.size a ≤ S16x4096x128.size a := by
  decide +kernel
theorem piece_inb : ∀ (o : Dev nD) (a : Fin 3), (![o.val, 0, 0] : Fin 3 → ℕ) a + S1x256x128.size a ≤ S16x256x128.size a := by decide +kernel
theorem rows_inb : ∀ (o : Dev nD) (a : Fin 2), (![256 * o.val, 0] : Fin 2 → ℕ) a + S256x128.size a ≤ S4096x128.size a := by decide +kernel

/-- Slot `o` of the gathered weights; half `b` of it; piece `o` of the results on their way; rows `o` of the result. -/
abbrev slotR (o : Dev nD) : Rect S16x4096x128 := Rect.unit (s := S16x4096x128) ![o.val, 0, 0] S1x4096x128.size (slot_inb o)
abbrev halfR (o : Dev nD) (b : Fin 2) : Rect S16x4096x128 := Rect.unit (s := S16x4096x128) ![o.val, 2048 * b.val, 0] S1x2048x128.size (half_inb o b)
abbrev pieceR (o : Dev nD) : Rect S16x256x128 := Rect.unit (s := S16x256x128) ![o.val, 0, 0] S1x256x128.size (piece_inb o)
abbrev rowsR (o : Dev nD) : Rect S4096x128 := Rect.unit (s := S4096x128) ![256 * o.val, 0] S256x128.size (rows_inb o)

theorem mem_slot (o : Dev nD) (i : S16x4096x128.Idx) : Iff (i ∈ (wM.access (slotR o)).set) ((i 0).val = o.val) := by
  show Iff (i ∈ ((View.whole cc0_scratch0).slice (slotR o)).set) _
  rw [View.set_slice_whole, Rect.mem_set_unit]
  constructor
  · intro h; have := h 0; simp at this; omega
  · intro h a
    match a with
    | 0 => simp; omega
    | 1 => have := (i 1).isLt; simp at this ⊢; omega
    | 2 => have := (i 2).isLt; simp at this ⊢; omega

theorem mem_half (o : Dev nD) (b : Fin 2) (i : S16x4096x128.Idx) :
    Iff (i ∈ (wM.access (halfR o b)).set) ((i 0).val = o.val ∧ (i 1).val / 2048 = b.val) := by
  show Iff (i ∈ ((View.whole cc0_scratch0).slice (halfR o b)).set) _
  rw [View.set_slice_whole, Rect.mem_set_unit]
  constructor
  · intro h; have h0 := h 0; have h1 := h 1; simp at h0 h1; omega
  · intro h a
    match a with
    | 0 => simp; omega
    | 1 => simp; omega
    | 2 => have := (i 2).isLt; simp at this ⊢; omega

theorem mem_pieceS (o : Dev nD) (i : S16x256x128.Idx) : Iff (i ∈ (sM.access (pieceR o)).set) ((i 0).val = o.val) := by
  show Iff (i ∈ ((View.whole cc0_scratch2).slice (pieceR o)).set) _
  rw [View.set_slice_whole, Rect.mem_set_unit]
  constructor
  · intro h; have := h 0; simp at this; omega
  · intro h a
    match a with
    | 0 => simp; omega
    | 1 => have := (i 1).isLt; simp at this ⊢; omega
    | 2 => have := (i 2).isLt; simp at this ⊢; omega

theorem mem_pieceD (o : Dev nD) (i : S16x256x128.Idx) : Iff (i ∈ (dM.access (pieceR o)).set) ((i 0).val = o.val) := by
  show Iff (i ∈ ((View.whole cc0_scratch3).slice (pieceR o)).set) _
  rw [View.set_slice_whole, Rect.mem_set_unit]
  constructor
  · intro h; have := h 0; simp at this; omega
  · intro h a
    match a with
    | 0 => simp; omega
    | 1 => have := (i 1).isLt; simp at this ⊢; omega
    | 2 => have := (i 2).isLt; simp at this ⊢; omega

theorem mem_rows (o : Dev nD) (i : S4096x128.Idx) : Iff (i ∈ (oM.access (rowsR o)).set) ((i 0).val / 256 = o.val) := by
  show Iff (i ∈ ((View.whole cc0_stg4_0).slice (rowsR o)).set) _
  rw [View.set_slice_whole, Rect.mem_set_unit]
  constructor
  · intro h; have := h 0; simp at this; omega
  · intro h a
    match a with
    | 0 => simp; omega
    | 1 => have := (i 1).isLt; simp at this ⊢; omega

/-- What a write puts under its view does not depend on what was there. -/
theorem write_indep {κ : Kind} {s : Shape} {e : EltTy} {sp : Space} (v : View sig κ sp s e) (f g : v.ty.Contents (Elt F)) (w : s.Idx → Elt F e) {i}
    (hi : i ∈ v.set) : v.write (Elt F) f w Finset.univ i = v.write (Elt F) g w Finset.univ i := by
  obtain ⟨x, -, rfl⟩ := Finset.mem_map.mp hi
  rw [View.write_emb_of_mem _ _ (Finset.mem_univ _), View.write_emb_of_mem _ _ (Finset.mem_univ _)]

/-- Writing what the view reads of `f` leaves `f` under the view. -/
theorem write_read {κ : Kind} {s : Shape} {e : EltTy} {sp : Space} (v : View sig κ sp s e) (g f : v.ty.Contents (Elt F)) {i}
    (hi : i ∈ v.set) : v.write (Elt F) g (v.read (Elt F) f) Finset.univ i = f i := by
  obtain ⟨x, -, rfl⟩ := Finset.mem_map.mp hi
  rw [View.write_emb_of_mem _ _ (Finset.mem_univ _), View.read_apply]
  simp

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- The staged operands of device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- The one element of a one-element shape. -/
abbrev ix1 : (Rect.unit (s := S1) ![0] S1.size inb_S1_S1_0).shape.Idx := Shape.Idx.first (numel1_S1.symm ▸ Nat.one_pos)
/-- The product of the two scales. -/
def scale (c : Dev nD) : F .f32 :=
  k0_pay3 ((sxM.access (Rect.unit (s := S1) ![0] S1.size inb_S1_S1_0)).read (Elt F) (sxstg m ρ c) ix1)
    ((swM.access (Rect.unit (s := S1) ![0] S1.size inb_S1_S1_0)).read (Elt F) (swstg m ρ c) ix1)
/-- Device `o`'s weights as a slot holds them. -/
def slab (o : Dev nD) : Vec F S1x4096x128 .fp8e5m2 := k0_pay1 (wstg m ρ o)
/-- Device `c`'s rows of the left operand, widened. -/
def xbv (c : Dev nD) : Vec F S256x4096 .bf16 := k0_pay2 (xstg m ρ c)
/-- The block of the result that device `s` computes for device `o`: its rows against `o`'s weights, rounded. -/
def blk (s o : Dev nD) : FVec F S1x256x128 .bf16 := k0_pay7 (k0_pay6 (scale m ρ s) (slab m ρ o) (xbv m ρ s))
/-- The block a device computes for itself, not rounded. -/
def own (c : Dev nD) : FVec F S256x128 .f32 := k0_pay5 (scale m ρ c) (k0_pay4 (slab m ρ c)) (xbv m ρ c)
/-- Rows `s` of device `c`'s result. -/
def rowv (c s : Dev nD) : FVec F S256x128 .f32 := if s = c then own m ρ c else k0_pay40 (blk m ρ s c)

set_option backward.proofsInPublic true in
abbrev dev16 (i : Fin 16) : Dev nD := ⟨i.val, i.isLt⟩

/-- The gathered weights: every slot filled. The same on every device. -/
def Wall : (cc0_scratch0 : Ref sig .tc).ty.Contents (Elt F) := fun i =>
  (wM.access (slotR (dev16 (i 0)))).write (Elt F) (m (((0 : Dev nD) : Thread nD τ).loc cc0_scratch0)) (slab m ρ (dev16 (i 0))) Finset.univ i
/-- The blocks device `c` sends: piece `o` for device `o`. -/
def Sall (c : Dev nD) : (cc0_scratch2 : Ref sig .tc).ty.Contents (Elt F) := fun i =>
  (sM.access (pieceR (dev16 (i 0)))).write (Elt F) (m (((0 : Dev nD) : Thread nD τ).loc cc0_scratch2)) (blk m ρ c (dev16 (i 0))) Finset.univ i
/-- The blocks device `c` receives: piece `s` from device `s`. -/
def Dall (c : Dev nD) : (cc0_scratch3 : Ref sig .tc).ty.Contents (Elt F) := fun i =>
  (dM.access (pieceR (dev16 (i 0)))).write (Elt F) (m (((0 : Dev nD) : Thread nD τ).loc cc0_scratch3)) (blk m ρ (dev16 (i 0)) c) Finset.univ i

set_option backward.proofsInPublic true in
/-- The device whose rows an index of the result lies in. -/
def rowDev (i : S4096x128.Idx) : Dev nD := ⟨(i 0).val / 256, by have := (i 0).isLt; simp at this; show _ < 16; omega⟩
/-- Device `c`'s result. -/
def outAt (c : Dev nD) : (cc0_stg4_0 : Ref sig .tc).ty.Contents (Elt F) := fun i =>
  (oM.access (rowsR (rowDev i))).write (Elt F) (m (((0 : Dev nD) : Thread nD τ).loc cc0_stg4_0)) (rowv m ρ c (rowDev i)) Finset.univ i

theorem wall_on (o : Dev nD) (f) {i : S16x4096x128.Idx} (hi : i ∈ (wM.access (slotR o)).set) :
    (wM.access (slotR o)).write (Elt F) f (slab m ρ o) Finset.univ i = Wall m ρ i := by
  have h : o = dev16 (i 0) := Fin.ext ((mem_slot o i).mp hi).symm
  unfold Wall; rw [← h]; exact write_indep _ _ _ _ hi
theorem sall_on (c o : Dev nD) (f) {i : S16x256x128.Idx} (hi : i ∈ (sM.access (pieceR o)).set) :
    (sM.access (pieceR o)).write (Elt F) f (blk m ρ c o) Finset.univ i = Sall m ρ c i := by
  have h : o = dev16 (i 0) := Fin.ext ((mem_pieceS o i).mp hi).symm
  unfold Sall; rw [← h]; exact write_indep _ _ _ _ hi
theorem dall_on (c s : Dev nD) (f) {i : S16x256x128.Idx} (hi : i ∈ (dM.access (pieceR s)).set) :
    (dM.access (pieceR s)).write (Elt F) f (blk m ρ s c) Finset.univ i = Dall m ρ c i := by
  have h : s = dev16 (i 0) := Fin.ext ((mem_pieceD s i).mp hi).symm
  unfold Dall; rw [← h]; exact write_indep _ _ _ _ hi
theorem out_on (c s : Dev nD) (f) {i : S4096x128.Idx} (hi : i ∈ (oM.access (rowsR s)).set) :
    (oM.access (rowsR s)).write (Elt F) f (rowv m ρ c s) Finset.univ i = outAt m ρ c i := by
  have h : s = rowDev i := Fin.ext ((mem_rows s i).mp hi).symm
  unfold outAt; rw [← h]; exact write_indep _ _ _ _ hi

/-- Two writes that agree under the view were of the same values. -/
theorem read_of_on {κ : Kind} {s : Shape} {e : EltTy} {sp : Space} (v : View sig κ sp s e) (g f : v.ty.Contents (Elt F)) (w : s.Idx → Elt F e)
    (h : ∀ i, i ∈ v.set → v.write (Elt F) g w Finset.univ i = f i) : v.read (Elt F) f = w := by
  funext x
  have hm : v.emb x ∈ v.set := Finset.mem_map_of_mem _ (Finset.mem_univ _)
  rw [View.read_apply, ← h _ hm, View.write_emb_of_mem _ _ (Finset.mem_univ _)]
  simp

theorem read_wall (o : Dev nD) : (wM.access (slotR o)).read (Elt F) (Wall m ρ) = slab m ρ o :=
  read_of_on _ (m (((0 : Dev nD) : Thread nD τ).loc cc0_scratch0)) _ _ fun i hi => wall_on m ρ o _ hi
theorem read_sall (c o : Dev nD) : (sM.access (pieceR o)).read (Elt F) (Sall m ρ c) = blk m ρ c o :=
  read_of_on _ (m (((0 : Dev nD) : Thread nD τ).loc cc0_scratch2)) _ _ fun i hi => sall_on m ρ c o _ hi
theorem read_dall (c s : Dev nD) : (dM.access (pieceR s)).read (Elt F) (Dall m ρ c) = blk m ρ s c :=
  read_of_on _ (m (((0 : Dev nD) : Thread nD τ).loc cc0_scratch3)) _ _ fun i hi => dall_on m ρ c s _ hi

/-! ## Pieces, relative to a device -/

/-- A piece of memory, `k` and `dz` places from the device that names it: a slot of the gathered weights, a half of one, a
    piece to send, a piece received, rows of the result; and the device's own widened operand. -/
inductive Reg where
  | w (k dz : Fin 4) | h (k dz : Fin 4) (b : Fin 2) | s (k dz : Fin 4) | d (k dz : Fin 4) | o (k dz : Fin 4) | x
  deriving DecidableEq

/-- A share, as the path of halvings that leads to it. -/
def share : List Bool → PosShare TreeShare
  | [] => fullShare
  | false :: p => (share p).left
  | true :: p => (share p).right

/-- Piece `r` of device `c`, filled, at a share. -/
def pts (c : Dev nD) (q : List Bool) : Reg → sProp 𝕄
  | .w k dz => ((c : Thread nD τ).loc cc0_scratch0) ↦[(wM.access (slotR (peer c k dz))).set]{share q} Wall m ρ
  | .h k dz b => ((c : Thread nD τ).loc cc0_scratch0) ↦[(wM.access (halfR (peer c k dz) b)).set]{share q} Wall m ρ
  | .s k dz => ((c : Thread nD τ).loc cc0_scratch2) ↦[(sM.access (pieceR (peer c k dz))).set]{share q} Sall m ρ c
  | .d k dz => ((c : Thread nD τ).loc cc0_scratch3) ↦[(dM.access (pieceR (peer c k dz))).set]{share q} Dall m ρ c
  | .o k dz => ((c : Thread nD τ).loc cc0_stg4_0) ↦[(oM.access (rowsR (peer c k dz))).set]{share q} outAt m ρ c
  | .x => ((c : Thread nD τ).loc cc0_scratch1) ↦{share q} xbv m ρ c

/-- Piece `r` of device `c`, whole, at any contents. -/
def raw (c : Dev nD) : Reg → sProp 𝕄
  | .w k dz => iprop(∃ f, ((c : Thread nD τ).loc cc0_scratch0) ↦[(wM.access (slotR (peer c k dz))).set]{fullShare} f)
  | .h k dz b => iprop(∃ f, ((c : Thread nD τ).loc cc0_scratch0) ↦[(wM.access (halfR (peer c k dz) b)).set]{fullShare} f)
  | .s k dz => iprop(∃ f, ((c : Thread nD τ).loc cc0_scratch2) ↦[(sM.access (pieceR (peer c k dz))).set]{fullShare} f)
  | .d k dz => iprop(∃ f, ((c : Thread nD τ).loc cc0_scratch3) ↦[(dM.access (pieceR (peer c k dz))).set]{fullShare} f)
  | .o k dz => iprop(∃ f, ((c : Thread nD τ).loc cc0_stg4_0) ↦[(oM.access (rowsR (peer c k dz))).set]{fullShare} f)
  | .x => iprop(∃ f, ((c : Thread nD τ).loc cc0_scratch1) ↦{fullShare} f)

instance pts_storable (c : Dev nD) (q : List Bool) (r : Reg) : BI.Storable (upEmb : UEmb _ 𝕄) (pts (F := F) m ρ c q r) := by
  cases r <;> (unfold pts; infer_instance)
instance raw_storable (c : Dev nD) (r : Reg) : BI.Storable (upEmb : UEmb _ 𝕄) (raw (F := F) c r) := by
  cases r <;> (unfold raw; infer_instance)

/-- A filled piece, whole, is a piece at some contents. -/
theorem pts_raw (c : Dev nD) (r : Reg) : pts (F := F) m ρ c [] r ⊢ raw c r := by
  cases r <;> (unfold pts raw; iintro H; iexists _; iexact H)

/-- A share is its two halves. -/
theorem pts_cut (c : Dev nD) (q : List Bool) (r : Reg) :
    pts (F := F) m ρ c q r ⊣⊢ iprop(pts m ρ c (false :: q) r ∗ pts m ρ c (true :: q) r) := by
  cases r <;> exact pointsTo_share (PosShare.mem_left_op_right _)

theorem slot_halves (o : Dev nD) : (wM.access (slotR o)).set = (wM.access (halfR o 0)).set ∪ (wM.access (halfR o 1)).set := by
  ext i
  rw [Finset.mem_union, mem_slot, mem_half, mem_half]
  have := (i 1).isLt
  simp at this ⊢
  omega
theorem halves_disjoint (o : Dev nD) : Disjoint (wM.access (halfR o 0)).set (wM.access (halfR o 1)).set :=
  Finset.disjoint_left.mpr fun i h h' => by
    rw [mem_half] at h h'; have := h.2.symm.trans h'.2; simp at this

/-- A slot is its two halves. -/
theorem pts_halve (c : Dev nD) (q : List Bool) (k dz : Fin 4) :
    pts (F := F) m ρ c q (.w k dz) ⊣⊢ iprop(pts m ρ c q (.h k dz 0) ∗ pts m ρ c q (.h k dz 1)) := by
  unfold pts; dsimp only; rw [slot_halves]; exact pointsTo_union (halves_disjoint _)

theorem raw_halve (c : Dev nD) (k dz : Fin 4) : raw (F := F) c (.w k dz) ⊢ iprop(raw c (.h k dz 0) ∗ raw c (.h k dz 1)) := by
  unfold raw; dsimp only; rw [slot_halves]
  iintro ⟨%f, H⟩
  ihave H := (pointsTo_union (halves_disjoint _)).1 $$ H
  icases H with ⟨H0, H1⟩
  isplitl [H0] <;> (iexists f; iassumption)

end Cert.Ring

end

end
-- ==== Proof.Proto.lean ====
/-
# The protocol

What every semaphore's signals and copies hand over (`sched`), the order in which a device may wait (`lv`), and the state of
one device's run: what it still owes, and the list of things it holds (`Item`). A step of the body consumes some things and
makes others; whether it may happen is decided by evaluation (`step`), for all sixteen devices at once, since things are named
relative to the device.
-/
module

public import proofs.«01_k».proof.Proof.Regions

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix decode decode_ix decode_dead decode_stage ix_injective)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Conjunctions over lists -/

/-- The separating conjunction over a list. -/
def sepL {I : Type} (l : List I) (Φ : I → sProp 𝕄) : sProp 𝕄 := l.foldr (fun a P => iprop(Φ a ∗ P)) iprop(emp)

theorem sepL_nil {I : Type} (Φ : I → sProp 𝕄) : sepL [] Φ = iprop(emp) := rfl
theorem sepL_cons {I : Type} (a : I) (l : List I) (Φ : I → sProp 𝕄) : sepL (a :: l) Φ = iprop(Φ a ∗ sepL l Φ) := rfl

theorem sep_eq_assoc (P Q R : sProp 𝕄) : iprop((P ∗ Q) ∗ R) = iprop(P ∗ Q ∗ R) :=
  equiv_iff.mp ⟨(Laws.sep_assoc (P := P) (Q := Q) (R := R)).1, (Laws.sep_assoc (P := P) (Q := Q) (R := R)).2⟩
theorem sep_eq_comm (P Q : sProp 𝕄) : iprop(P ∗ Q) = iprop(Q ∗ P) :=
  equiv_iff.mp ⟨(Laws.sep_comm (P := P) (Q := Q)).1, (Laws.sep_comm (P := Q) (Q := P)).1⟩
theorem emp_sep_eq (P : sProp 𝕄) : iprop(emp ∗ P) = P := equiv_iff.mp emp_sep
theorem sep_emp_eq (P : sProp 𝕄) : iprop(P ∗ emp) = P := equiv_iff.mp sep_emp
theorem sep_eq_left_comm (P Q R : sProp 𝕄) : iprop(P ∗ Q ∗ R) = iprop(Q ∗ P ∗ R) := by
  rw [← sep_eq_assoc, sep_eq_comm P Q, sep_eq_assoc]

theorem sepL_append {I : Type} (l l' : List I) (Φ : I → sProp 𝕄) : sepL (l ++ l') Φ = iprop(sepL l Φ ∗ sepL l' Φ) := by
  induction l with
  | nil => rw [List.nil_append, sepL_nil, emp_sep_eq]
  | cons a l ih => rw [List.cons_append, sepL_cons, sepL_cons, ih, sep_eq_assoc]

theorem sepL_erase {I : Type} [DecidableEq I] {a : I} {l : List I} (h : a ∈ l) (Φ : I → sProp 𝕄) :
    sepL l Φ = iprop(Φ a ∗ sepL (l.erase a) Φ) := by
  induction l with
  | nil => cases h
  | cons b l ih =>
    by_cases hb : b = a
    · subst hb; rw [List.erase_cons_head, sepL_cons]
    · rw [List.erase_cons_tail (by simpa using hb), sepL_cons, sepL_cons, ih (List.mem_of_ne_of_mem (Ne.symm hb) h), sep_eq_left_comm]

theorem sepL_perm {I : Type} {l l' : List I} (h : l.Perm l') (Φ : I → sProp 𝕄) : sepL l Φ = sepL l' Φ := by
  induction h with
  | nil => rfl
  | cons a _ ih => rw [sepL_cons, sepL_cons, ih]
  | swap a b l => rw [sepL_cons, sepL_cons, sepL_cons, sepL_cons, sep_eq_left_comm]
  | trans _ _ h₁ h₂ => exact h₁.trans h₂

theorem sepL_congr {I : Type} {l : List I} {Φ Ψ : I → sProp 𝕄} (h : ∀ a ∈ l, Φ a = Ψ a) : sepL l Φ = sepL l Ψ := by
  induction l with
  | nil => rfl
  | cons a l ih => rw [sepL_cons, sepL_cons, h a List.mem_cons_self, ih fun b hb => h b (List.mem_cons_of_mem _ hb)]

theorem sepL_map {I J : Type} (f : I → J) (l : List I) (Φ : J → sProp 𝕄) : sepL (l.map f) Φ = sepL l fun i => Φ (f i) := by
  induction l with
  | nil => rfl
  | cons a l ih => rw [List.map_cons, sepL_cons, sepL_cons, ih]

theorem sepL_mono {I : Type} {l : List I} {Φ Ψ : I → sProp 𝕄} (h : ∀ a, Φ a ⊢ Ψ a) : sepL l Φ ⊢ sepL l Ψ := by
  induction l with
  | nil => exact .rfl
  | cons a l ih => rw [sepL_cons, sepL_cons]; exact BI.sep_mono (h a) ih

theorem sepL_sep {I : Type} (l : List I) (Φ Ψ : I → sProp 𝕄) : sepL l (fun a => iprop(Φ a ∗ Ψ a)) = iprop(sepL l Φ ∗ sepL l Ψ) := by
  induction l with
  | nil => rw [sepL_nil, sepL_nil, sepL_nil, emp_sep_eq]
  | cons a l ih => rw [sepL_cons, sepL_cons, sepL_cons, ih, sep_eq_assoc, sep_eq_assoc, sep_eq_left_comm (Ψ a)]

/-- The conjunction over a finite set is that over a list of its elements. -/
theorem bigSep_eq_sepL {I : Type} [DecidableEq I] (l : List I) (h : l.Nodup) (Φ : I → sProp 𝕄) : bigSep l.toFinset Φ = sepL l Φ := by
  induction l with
  | nil => rfl
  | cons a l ih =>
    rw [List.toFinset_cons, bigSep_insert (by simpa using (List.nodup_cons.mp h).1), ih (List.nodup_cons.mp h).2, sepL_cons]
    rfl

instance sepL_storable {I : Type} (l : List I) (Φ : I → sProp 𝕄) [∀ a, BI.Storable (upEmb : UEmb _ 𝕄) (Φ a)] :
    BI.Storable (upEmb : UEmb _ 𝕄) (sepL l Φ) := by
  induction l with
  | nil => rw [sepL_nil]; infer_instance
  | cons a l ih => rw [sepL_cons]; infer_instance

/-! ## Semaphore cells and amounts -/

/-- The runtime's barrier semaphore. -/
abbrev barS : Sem sig := (SemArray.scalar (sig.barrier 0 rfl) : Sems sig S_).sem

/-- Device `t`'s barrier cell (`none`), or the cell of a copy. -/
def cell (t : Dev nD) : Option (Bool × Snd) → GSem nD τ sig
  | none => ((t : Thread nD τ), .reg barS)
  | some be => ((t : Thread nD τ), .dma (ix be.1 be.2 t))

open Snd in
/-- The units a copy raises its two semaphores by. -/
def amt : Snd → ℕ
  | .cwh _ => ((wM.slice (halfR 0 0) (fun _ => rfl)).squeeze S2048x128 squeezes_S1x2048x128_S2048x128).view.dmaCredit
  | .ccwh _ => ((wM.slice (halfR 0 0) (fun _ => rfl)).squeeze S2048x128 squeezes_S1x2048x128_S2048x128).view.dmaCredit
  | .a2a _ _ => ((dM.slice (pieceR 0) (fun _ => rfl)).squeeze S256x128 squeezes_S1x256x128_S256x128).view.dmaCredit
  | _ => ((wM.slice (slotR 0) (fun _ => rfl)).squeeze S4096x128 squeezes_S1x4096x128_S4096x128).view.dmaCredit

theorem amt_pos (e : Snd) : 0 < amt e := by
  cases e <;> exact View.dmaCredit_pos _ (by decide)
theorem amt_dual (e : Snd) : amt e.dual = amt e := by cases e <;> rfl

namespace Snd

/-- The piece a copy reads, relative to the device that makes it. -/
def src : Snd → Reg
  | col _ => .w 0 0
  | cwf dz => .w 0 dz
  | ccwf dz => .w 0 dz
  | cwh dz => .h 3 dz 0
  | ccwh dz => .h 1 dz 1
  | a2a k dz => .s k dz

/-- The piece a copy fills, relative to the device where it arrives (the copy named by where it comes from). -/
def dst : Snd → Reg
  | col dz => .w 0 dz
  | cwf dz => .w 3 dz
  | ccwf dz => .w 1 dz
  | cwh dz => .h 2 dz 0
  | ccwh dz => .h 2 dz 1
  | a2a k dz => .d k dz

/-- The share at which a copy reads: several may read one slot, beside the body's own loads. -/
def shr : Snd → List Bool
  | col dz => if dz = 1 then [false] else if dz = 2 then [false, true] else [false, true, true]
  | cwf dz => if dz = 0 then [false, true, true, true] else [false]
  | ccwf dz => if dz = 0 then [false, true, true, true, true] else [false, true]
  | cwh _ => [false]
  | ccwh _ => [false]
  | a2a _ _ => []

end Snd

variable (m : (ℓ : Loc nD τ sig) → Buf (Elt F) ℓ) (ρ : Dev nD → PrngReg)

/-! ## The schedule -/

/-- What device `d`'s signal to device `t`'s barrier hands `t`: the pieces of `d`'s memory that `t`'s copies fill. -/
def lend (t d : Dev nD) : sProp 𝕄 := sepL (Snd.order.filter fun e => e.tgt t = d) fun e => raw (e.tgt t) e.dual.dst

/-- One round. A barrier cell has sixteen duties of one unit, one of each device; the cell of a copy has one, of the copy's
    units: the sender's hands back the piece that was read, the receiver's the piece filled. -/
def sched : Rounds.Schedule (GSem nD τ sig) (Dev nD) 𝕄 where
  duties g r := if r = 0 then (match g.2 with
    | .reg _ => Finset.univ
    | .dma q => if (decode g.1.1 q).isSome then {0} else ∅) else ∅
  unitless _ := False
  amount g _ _ := match g.2 with
    | .reg _ => 1
    | .dma q => match decode g.1.1 q with
      | some be => amt be.2
      | none => 1
  payload g _ d := match g.2 with
    | .reg _ => lend g.1.1 d
    | .dma q => match decode g.1.1 q with
      | some (false, e) => pts m ρ g.1.1 e.shr e.src
      | some (true, e) => pts m ρ g.1.1 [] e.dst
      | none => iprop(emp)
  amount_pos g _ _ _ := by
    rcases g with ⟨c, sm | q⟩
    · exact Nat.one_pos
    · dsimp only; split
      · exact amt_pos _
      · exact Nat.one_pos

instance sched_storable (g : GSem nD τ sig) (r : ℕ) (d : Dev nD) :
    BI.Storable (upEmb : UEmb _ 𝕄) ((sched (F := F) m ρ).payload g r d) := by
  rcases g with ⟨c, sm | q⟩
  · show BI.Storable upEmb (lend c.1 d); unfold lend; infer_instance
  · show BI.Storable upEmb (match decode c.1 q with
      | some (false, e) => pts m ρ c.1 e.shr e.src
      | some (true, e) => pts m ρ c.1 [] e.dst
      | none => iprop(emp))
    split <;> infer_instance

section Sched
variable (t : Dev nD) (b : Bool) (e : Snd)

theorem duties_bar : (sched (F := F) m ρ).duties (cell t none) 0 = Finset.univ := by dsimp only [sched, cell]; exact if_pos rfl
theorem duties_live (h : e.live = true) : (sched (F := F) m ρ).duties (cell t (some (b, e))) 0 = {0} := by
  dsimp only [sched, cell]; rw [if_pos rfl, decode_ix t b e h]; rfl
theorem duties_dead (h : e.live = false) : (sched (F := F) m ρ).duties (cell t (some (b, e))) 0 = ∅ := by
  dsimp only [sched, cell]; rw [if_pos rfl, decode_dead t b e h]; rfl
theorem duties_later (g : GSem nD τ sig) : ∀ r, 1 ≤ r → (sched (F := F) m ρ).duties g r = ∅ :=
  fun r hr => by dsimp only [sched]; rw [if_neg (by omega)]
theorem duties_dead_all (h : e.live = false) : ∀ r, 0 ≤ r → (sched (F := F) m ρ).duties (cell t (some (b, e))) r = ∅ := fun r _ => by
  rcases Nat.eq_zero_or_pos r with rfl | hr
  · exact duties_dead m ρ t b e h
  · exact duties_later m ρ _ r hr
theorem amount_bar (d : Dev nD) : (sched (F := F) m ρ).amount (cell t none) 0 d = 1 := rfl
theorem amount_live (h : e.live = true) (d : Dev nD) : (sched (F := F) m ρ).amount (cell t (some (b, e))) 0 d = amt e := by
  dsimp only [sched, cell]; rw [decode_ix t b e h]
theorem expect_bar : (sched (F := F) m ρ).expect (cell t none) 0 = 16 := by
  unfold Schedule.expect Schedule.amountOf
  rw [duties_bar, Finset.sum_congr rfl fun d _ => amount_bar m ρ t d, Finset.sum_const, smul_eq_mul]; rfl
theorem expect_live (h : e.live = true) : (sched (F := F) m ρ).expect (cell t (some (b, e))) 0 = amt e := by
  unfold Schedule.expect Schedule.amountOf; rw [duties_live m ρ t b e h, Finset.sum_singleton, amount_live m ρ t b e h]
theorem payload_bar (d : Dev nD) : (sched (F := F) m ρ).payload (cell t none) 0 d = lend t d := rfl
theorem payload_send (h : e.live = true) (d : Dev nD) : (sched (F := F) m ρ).payload (cell t (some (false, e))) 0 d = pts m ρ t e.shr e.src := by
  dsimp only [sched, cell]; rw [decode_ix t _ e h]
theorem payload_recv (h : e.live = true) (d : Dev nD) : (sched (F := F) m ρ).payload (cell t (some (true, e))) 0 d = pts m ρ t [] e.dst := by
  dsimp only [sched, cell]; rw [decode_ix t _ e h]

theorem rest_send (h : e.live = true) : bigSep ((sched (F := F) m ρ).duties (cell t (some (false, e))) 0 \ ∅)
    (fun d => (sched (F := F) m ρ).payload (cell t (some (false, e))) 0 d) = pts m ρ t e.shr e.src := by
  rw [Finset.sdiff_empty, duties_live m ρ t _ e h, bigSep_singleton, payload_send m ρ t e h]
theorem rest_recv (h : e.live = true) : bigSep ((sched (F := F) m ρ).duties (cell t (some (true, e))) 0 \ ∅)
    (fun d => (sched (F := F) m ρ).payload (cell t (some (true, e))) 0 d) = pts m ρ t [] e.dst := by
  rw [Finset.sdiff_empty, duties_live m ρ t _ e h, bigSep_singleton, payload_recv m ρ t e h]

/-- A list's conjunction, dealt out by a function of its elements. -/
theorem deal {I J : Type} [DecidableEq J] [Fintype J] (l : List I) (f : I → J) (Φ : I → sProp 𝕄) :
    bigSep Finset.univ (fun j => sepL (l.filter fun i => f i = j) Φ) = sepL l Φ := by
  induction l with
  | nil => simp only [List.filter_nil, sepL_nil]; exact bigSep_emp_const _
  | cons a l ih =>
    have key : ∀ X : J → sProp 𝕄, bigSep Finset.univ X = iprop(X (f a) ∗ bigSep (Finset.univ.erase (f a)) X) := fun X => by
      conv_lhs => rw [← Finset.insert_erase (Finset.mem_univ (f a))]
      exact bigSep_insert (Finset.notMem_erase _ _)
    have rest : bigSep (Finset.univ.erase (f a)) (fun j => sepL ((a :: l).filter fun i => f i = j) Φ)
        = bigSep (Finset.univ.erase (f a)) (fun j => sepL (l.filter fun i => f i = j) Φ) :=
      bigSep_congr fun j hj => by rw [List.filter_cons, if_neg (by simpa using (Finset.ne_of_mem_erase hj).symm)]
    rw [sepL_cons, ← ih, key, rest, key, List.filter_cons, if_pos (by simp), sepL_cons, sep_eq_assoc]

/-- All that the sixteen signals hand device `t`: every piece its copies fill. -/
theorem rest_bar : bigSep ((sched (F := F) m ρ).duties (cell t none) 0 \ ∅) (fun d => (sched (F := F) m ρ).payload (cell t none) 0 d)
    = sepL Snd.order fun e => raw (e.tgt t) e.dual.dst := by
  rw [Finset.sdiff_empty, duties_bar]
  exact deal Snd.order (fun e => e.tgt t) _

end Sched

/-! ## Levels, and what is owed -/

def L (g : GSem nD τ sig) : Finset Unit := if g.1.2 = .tc then {()} else ∅
/-- A barrier cell is at 1, the arrival of a copy at the copy's level, everything else at 0. -/
def lv (g : GSem nD τ sig) (_ : Unit) : ℕ := match g.2 with
  | .reg _ => 1
  | .dma q => match decode g.1.1 q with
    | some (true, e) => e.lvl
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (t : Dev nD) : lv (cell t none) () = 1 := rfl
theorem lv_send (t : Dev nD) (e : Snd) : lv (cell t (some (false, e))) () = 0 := by
  dsimp only [lv, cell]
  cases h : e.live
  · rw [decode_dead t _ e h]
  · rw [decode_ix t _ e h]
theorem lv_recv (t : Dev nD) (e : Snd) (h : e.live = true) : lv (cell t (some (true, e))) () = e.lvl := by
  dsimp only [lv, cell]; rw [decode_ix t _ e h]

/-- The cell that `c`'s copy `e` raises where it arrives. -/
abbrev rcell (c : Dev nD) (e : Snd) : GSem nD τ sig := cell (e.tgt c) (some (true, e.dual))

/-- What device `c` owes with the signals `sg` and the copies `p` before it. -/
def owed (c : Dev nD) : List (Dev nD) → List Snd → CellTallies nD τ sig Unit
  | [], [] => 0
  | [], e :: p => owed c [] p + tallyAt (rcell c e) () (amt e)
  | d :: sg, p => owed c sg p + tallyAt (cell d none) () 1

theorem owed_pos {c : Dev nD} {sg : List (Dev nD)} {p : List Snd} {g : GSem nD τ sig} {u : Unit} (h : 0 < owed c sg p g u) :
    (∃ d ∈ sg, g = cell d none) ∨ ∃ e ∈ p, g = rcell c e := by
  induction sg with
  | nil =>
    induction p with
    | nil => simp [owed] at h
    | cons e p ih =>
      unfold owed at h
      rw [Pi.add_apply, Finsupp.add_apply, tallyAt_apply] at h
      by_cases hg : g = rcell c e ∧ u = ()
      · exact Or.inr ⟨e, List.mem_cons_self, hg.1⟩
      · rw [if_neg hg, Nat.add_zero] at h
        rcases ih h with ⟨d, hd, _⟩ | ⟨e', he', h'⟩
        · cases hd
        · exact Or.inr ⟨e', List.mem_cons_of_mem _ he', h'⟩
  | cons d sg ih =>
    unfold owed at h
    rw [Pi.add_apply, Finsupp.add_apply, tallyAt_apply] at h
    by_cases hg : g = cell d none ∧ u = ()
    · exact Or.inl ⟨d, List.mem_cons_self, hg.1⟩
    · rw [if_neg hg, Nat.add_zero] at h
      rcases ih h with ⟨d', hd', h'⟩ | h'
      · exact Or.inl ⟨d', List.mem_cons_of_mem _ hd', h'⟩
      · exact Or.inr h'

/-- A wait on a cell below everything still owed is allowed. -/
theorem mayWait (c : Dev nD) (sm : SemLoc sig) (sg : List (Dev nD)) (p : List Snd)
    (hs : sg ≠ [] → lv ((c : Thread nD τ), sm) () < 1) (hp : ∀ e ∈ p, e.live = true ∧ lv ((c : Thread nD τ), sm) () < e.lvl) :
    (levAts L lv : sProp 𝕄) ⊢ MayWait (c : Thread nD τ) sm () (owed c sg p) :=
  Pipeline.mayWait_of_levAts (by rw [L_tc]; exact Finset.mem_singleton_self _) fun g u h => by
    rcases owed_pos h with ⟨d, hd, rfl⟩ | ⟨e, he, rfl⟩
    · exact ⟨by unfold cell; rw [L_tc]; exact Finset.mem_singleton_self _, hs (List.ne_nil_of_mem hd)⟩
    · refine ⟨by unfold rcell cell; rw [L_tc]; exact Finset.mem_singleton_self _, ?_⟩
      rw [lv_recv _ _ ((Snd.live_dual e).trans (hp e he).1), Snd.lvl_dual]; exact (hp e he).2

/-! ## What a device holds -/

/-- One thing a device holds. -/
inductive Item where
  /-- what it needs to signal device `d`: the duty's token and the pieces lent -/
  | give (d : Dev nD)
  /-- what it needs to wait at its barrier -/
  | bar
  /-- the tokens of a copy's two duties, and its place at the sender's cell -/
  | tok (e : Snd)
  /-- the piece, at the other device, that a copy fills -/
  | dst (e : Snd)
  /-- what it needs to wait for the arrival of a copy -/
  | want (e : Snd)
  /-- what it needs to wait for a copy it made -/
  | iss (e : Snd)
  /-- a cell of no further use, at zero -/
  | zero (b : Bool) (e : Snd)
  | barz
  /-- the place at a cell that no copy uses -/
  | dead (b : Bool) (e : Snd)
  /-- a filled piece at a share; a piece at any contents -/
  | reg (r : Reg) (q : List Bool)
  | raw (r : Reg)
  /-- the staged operands -/
  | ins
  deriving DecidableEq

def hold (c : Dev nD) : Item → sProp 𝕄
  | .give d => iprop(dutyTok ER (cell d none) 0 c ∗ lend d c)
  | .bar => iprop(cred (tallyAt (cell c none) () 16) ∗ atPos ER (cell c none) 0 ∅ 0)
  | .tok e => iprop(dutyTok ER (cell c (some (false, e))) 0 0 ∗ dutyTok ER (rcell c e) 0 0 ∗ atPos ER (cell c (some (false, e))) 0 ∅ 0)
  | .dst e => raw (e.tgt c) e.dual.dst
  | .want e => iprop(cred (tallyAt (cell c (some (true, e))) () (amt e)) ∗ atPos ER (cell c (some (true, e))) 0 ∅ 0)
  | .iss e => iprop(cred (tallyAt (cell c (some (false, e))) () (amt e)) ∗ atPos ER (cell c (some (false, e))) 0 ∅ 0)
  | .zero b e => semVal (cell c (some (b, e))) 0
  | .barz => semVal (cell c none) 0
  | .dead b e => atPos ER (cell c (some (b, e))) 0 ∅ 0
  | .reg r q => pts m ρ c q r
  | .raw r => Cert.Ring.raw c r
  | .ins => iprop((((c : Thread nD τ).loc cc0_stg0_0) ↦{fullShare} xstg m ρ c) ∗ (((c : Thread nD τ).loc cc0_stg1_0) ↦{fullShare} wstg m ρ c)
      ∗ (((c : Thread nD τ).loc cc0_stg2_0) ↦{fullShare} sxstg m ρ c) ∗ (((c : Thread nD τ).loc cc0_stg3_0) ↦{fullShare} swstg m ρ c))

/-- The records every device shares: each cell's invariant, and that its first round has been reached. -/
def Recs : sProp 𝕄 := bigSep (Finset.univ : Finset (Dev nD × Option (Bool × Snd))) fun tb =>
  iprop((∃ κ, cellInv ER (sched m ρ) κ (cell tb.1 tb.2)) ∗ reached ER (cell tb.1 tb.2) 0)

instance Recs_persistent : BI.Persistent (Recs (F := F) m ρ) := by unfold Recs; infer_instance

theorem Recs_get (t : Dev nD) (be : Option (Bool × Snd)) :
    Recs (F := F) m ρ ⊢ iprop((∃ κ, cellInv ER (sched m ρ) κ (cell t be)) ∗ reached ER (cell t be) 0) :=
  bigSep_elim (i := (t, be)) (Finset.mem_univ _)

/-! ## The run of a device, evaluated -/

/-- One thing the body does. -/
inductive Op where
  | sig (d : Dev nD) | bwait | send (e : Snd) | wrecv (e : Snd) | wsend (e : Snd)
  /-- reads things it holds -/
  | use (l : List Item)
  /-- fills a piece -/
  | put (r : Reg)
  /-- cuts a share in two; puts two together; cuts a slot in two halves; joins them -/
  | cut (r : Reg) (q : List Bool) | glue (r : Reg) (q : List Bool)
  | halve (k dz : Fin 4) (q : List Bool) | join (k dz : Fin 4) (q : List Bool)

/-- What it consumes. -/
def Op.need : Op → List Item
  | .sig d => [.give d]
  | .bwait => [.bar]
  | .send e => [.tok e, .reg e.src e.shr, .dst e]
  | .wrecv e => [.want e]
  | .wsend e => [.iss e]
  | .use l => l
  | .put r => [.raw r]
  | .cut r q => [.reg r q]
  | .glue r q => [.reg r (false :: q), .reg r (true :: q)]
  | .halve k dz q => [.reg (.w k dz) q]
  | .join k dz q => [.reg (.h k dz 0) q, .reg (.h k dz 1) q]

/-- What it makes. -/
def Op.make : Op → List Item
  | .sig _ => []
  | .bwait => .barz :: Snd.order.map .dst
  | .send e => [.iss e]
  | .wrecv e => [.reg e.dst [], .zero true e]
  | .wsend e => [.reg e.src e.shr, .zero false e]
  | .use l => l
  | .put r => [.reg r []]
  | .cut r q => [.reg r (false :: q), .reg r (true :: q)]
  | .glue r q => [.reg r q]
  | .halve k dz q => [.reg (.h k dz 0) q, .reg (.h k dz 1) q]
  | .join k dz q => [.reg (.w k dz) q]

/-- The signals and copies still to make, after it; `none` if it may not happen. -/
def Op.adv : Op → List (Dev nD) → List Snd → Option (List (Dev nD) × List Snd)
  | .sig d, d' :: sg, p => if d = d' then some (sg, p) else none
  | .sig _, [], _ => none
  | .bwait, [], p => if p.all (fun e => e.live && decide (1 < e.lvl)) then some ([], p) else none
  | .send e, [], e' :: p => if e = e' ∧ e.live = true then some ([], p) else none
  | .wrecv e, [], p => if (e.live && p.all (fun e' => e'.live && decide (e.lvl < e'.lvl))) then some ([], p) else none
  | .wsend e, [], [] => if e.live = true then some ([], []) else none
  | .bwait, _ :: _, _ => none
  | .send _, _ :: _, _ => none
  | .send _, [], [] => none
  | .wrecv _, _ :: _, _ => none
  | .wsend _, _, _ => none
  | .use _, sg, p => some (sg, p)
  | .put _, sg, p => some (sg, p)
  | .cut _ _, sg, p => some (sg, p)
  | .glue _ _, sg, p => some (sg, p)
  | .halve _ _ _, sg, p => some (sg, p)
  | .join _ _ _, sg, p => some (sg, p)

/-- A device's state: the signals and the copies still to make, and what it holds. -/
structure St where
  sg : List (Dev nD)
  p : List Snd
  l : List Item

/-- Take things out of a list; `none` if one is missing. -/
def takeAll : List Item → List Item → Option (List Item)
  | [], l => some l
  | a :: ns, l => if a ∈ l then takeAll ns (l.erase a) else none

theorem sepL_takeAll {ns l r : List Item} (h : takeAll ns l = some r) (Φ : Item → sProp 𝕄) : sepL l Φ = iprop(sepL ns Φ ∗ sepL r Φ) := by
  induction ns generalizing l with
  | nil => cases h; rw [sepL_nil, emp_sep_eq]
  | cons a ns ih =>
    unfold takeAll at h
    by_cases ha : a ∈ l
    · rw [if_pos ha] at h
      rw [sepL_erase ha, ih h, sepL_cons, sep_eq_assoc]
    · rw [if_neg ha] at h; cases h

/-- One step; `none` if it may not happen. -/
def step (o : Op) (S : St) : Option St :=
  match o.adv S.sg S.p, takeAll o.need S.l with
  | some qp, some r => some ⟨qp.1, qp.2, o.make ++ r⟩
  | _, _ => none

/-- Several. -/
def run : List Op → St → Option St
  | [], S => some S
  | o :: os, S => match step o S with
    | some S' => run os S'
    | none => none

theorem run_nil {S S' : St} (h : run [] S = some S') : S = S' := Option.some.inj h
theorem run_cons {o : Op} {os : List Op} {S S' : St} (h : run (o :: os) S = some S') : ∃ S₁, step o S = some S₁ ∧ run os S₁ = some S' := by
  unfold run at h
  split at h
  · rename_i S₁ h₁; exact ⟨S₁, h₁, h⟩
  · cases h
theorem run_append {os os' : List Op} {S S' : St} (h : run (os ++ os') S = some S') : ∃ S₁, run os S = some S₁ ∧ run os' S₁ = some S' := by
  induction os generalizing S with
  | nil => exact ⟨S, rfl, h⟩
  | cons o os ih =>
    obtain ⟨S₁, h₁, h₂⟩ := run_cons h
    obtain ⟨S₂, h₃, h₄⟩ := ih h₂
    exact ⟨S₂, by unfold run; rw [h₁]; exact h₃, h₄⟩

/-- The state of device `c`, as a resource. -/
def Inv (c : Dev nD) (S : St) : sProp 𝕄 :=
  iprop(Recs m ρ ∗ levAts L lv ∗ (∃ W, owes (c : Thread nD τ) (owed c S.sg S.p) W) ∗ sepL S.l (hold m ρ c))

theorem step_split {o : Op} {S S' : St} (h : step o S = some S') :
    ∃ r, o.adv S.sg S.p = some (S'.sg, S'.p) ∧ (∀ Φ : Item → sProp 𝕄, sepL S.l Φ = iprop(sepL o.need Φ ∗ sepL r Φ))
      ∧ ∀ Φ : Item → sProp 𝕄, sepL S'.l Φ = iprop(sepL o.make Φ ∗ sepL r Φ) := by
  unfold step at h
  split at h
  · rename_i qp r h₁ h₂
    cases h
    exact ⟨r, h₁, fun Φ => sepL_takeAll h₂ Φ, fun Φ => sepL_append _ _ Φ⟩
  · cases h

end Cert.Ring

end

end
-- ==== Proof.Steps.lean ====
/-
# One step of the body

For each operation the body uses: from the state before, it runs, if the rest of the program runs from the state after. The
states are related by `step`; the printed positions, devices and semaphores enter as equations.
-/
module

public import proofs.«01_k».proof.Proof.Proto

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

abbrev 𝒱₀ : Variants := Variants.none

/-- The weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg)

section
variable {c : Dev nD} {S S' : St} {α : Type}

theorem inv_split {o : Op} (h : step o S = some S') : ∃ r, o.adv S.sg S.p = some (S'.sg, S'.p)
    ∧ Inv (F := F) m ρ c S = iprop(Recs m ρ ∗ levAts L lv ∗ (∃ W, owes (c : Thread nD τ) (owed c S.sg S.p) W) ∗ sepL o.need (hold m ρ c) ∗ sepL r (hold m ρ c))
    ∧ Inv (F := F) m ρ c S' = iprop(Recs m ρ ∗ levAts L lv ∗ (∃ W, owes (c : Thread nD τ) (owed c S'.sg S'.p) W) ∗ sepL o.make (hold m ρ c) ∗ sepL r (hold m ρ c)) := by
  obtain ⟨r, ha, h1, h2⟩ := step_split (F := F) h
  exact ⟨r, ha, by unfold Inv; rw [h1], by unfold Inv; rw [h2]⟩

theorem adv_send {e : Snd} {sg sg' : List (Dev nD)} {p p' : List Snd} (h : (Op.send e).adv sg p = some (sg', p')) :
    sg = [] ∧ sg' = [] ∧ p = e :: p' ∧ e.live = true := by
  cases sg with
  | cons d sg => cases h
  | nil =>
    cases p with
    | nil => cases h
    | cons e' p =>
      replace h : (if e = e' ∧ e.live = true then some (([] : List (Dev nD)), p) else none) = some (sg', p') := h
      by_cases he : e = e' ∧ e.live = true
      · rw [if_pos he] at h; cases h; exact ⟨rfl, rfl, by rw [he.1], he.2⟩
      · rw [if_neg he] at h; cases h

theorem adv_sig {d : Dev nD} {sg sg' : List (Dev nD)} {p p' : List Snd} (h : (Op.sig d).adv sg p = some (sg', p')) :
    sg = d :: sg' ∧ p = p' := by
  cases sg with
  | nil => cases h
  | cons d' sg =>
    replace h : (if d = d' then some (sg, p) else none) = some (sg', p') := h
    by_cases he : d = d'
    · rw [if_pos he] at h; cases h; exact ⟨by rw [he], rfl⟩
    · rw [if_neg he] at h; cases h

theorem adv_bwait {sg sg' : List (Dev nD)} {p p' : List Snd} (h : Op.bwait.adv sg p = some (sg', p')) :
    sg = [] ∧ sg' = [] ∧ p = p' ∧ ∀ e ∈ p, e.live = true ∧ 1 < e.lvl := by
  cases sg with
  | cons d sg => cases h
  | nil =>
    replace h : (if (p.all fun e => e.live && decide (1 < e.lvl)) = true then some (([] : List (Dev nD)), p) else none) = some (sg', p') := by
      cases p <;> exact h
    by_cases he : (p.all fun e => e.live && decide (1 < e.lvl)) = true
    · rw [if_pos he] at h; cases h
      refine ⟨rfl, rfl, rfl, fun e hm => ?_⟩
      have := List.all_eq_true.mp he e hm
      simpa using this
    · rw [if_neg he] at h; cases h

theorem adv_wrecv {e : Snd} {sg sg' : List (Dev nD)} {p p' : List Snd} (h : (Op.wrecv e).adv sg p = some (sg', p')) :
    sg = [] ∧ sg' = [] ∧ p = p' ∧ e.live = true ∧ ∀ e' ∈ p, e'.live = true ∧ e.lvl < e'.lvl := by
  cases sg with
  | cons d sg => cases h
  | nil =>
    replace h : (if (e.live && p.all fun e' => e'.live && decide (e.lvl < e'.lvl)) = true then some (([] : List (Dev nD)), p) else none) = some (sg', p') := by
      cases p <;> exact h
    by_cases he : (e.live && p.all fun e' => e'.live && decide (e.lvl < e'.lvl)) = true
    · rw [if_pos he] at h; cases h
      rw [Bool.and_eq_true] at he
      refine ⟨rfl, rfl, rfl, he.1, fun e' hm => ?_⟩
      have := List.all_eq_true.mp he.2 e' hm
      simpa using this
    · rw [if_neg he] at h; cases h

theorem adv_wsend {e : Snd} {sg sg' : List (Dev nD)} {p p' : List Snd} (h : (Op.wsend e).adv sg p = some (sg', p')) :
    sg = [] ∧ sg' = [] ∧ p = [] ∧ p' = [] ∧ e.live = true := by
  cases sg with
  | cons d sg => cases h
  | nil =>
    cases p with
    | cons e' p => cases h
    | nil =>
      replace h : (if e.live = true then some (([] : List (Dev nD)), ([] : List Snd)) else none) = some (sg', p') := h
      by_cases he : e.live = true
      · rw [if_pos he] at h; cases h; exact ⟨rfl, rfl, rfl, rfl, he⟩
      · rw [if_neg he] at h; cases h

theorem owed_sig (d : Dev nD) (sg : List (Dev nD)) (p : List Snd) : owed c (d :: sg) p = owed c sg p + tallyAt (cell d none) () 1 := by rw [owed]
theorem owed_send (e : Snd) (p : List Snd) : owed c [] (e :: p) = owed c [] p + tallyAt (rcell c e) () (amt e) := by rw [owed]

/-- A list of one thing. -/
theorem sepL_one {I : Type} (a : I) (Φ : I → sProp 𝕄) : sepL [a] Φ = Φ a := by rw [sepL_cons, sepL_nil, sep_emp_eq]

/-! ## Signals and the barrier -/

theorem step_sig {Q : α → sProp 𝕄} {d n : Dev nD} (hst : step (.sig d) S = some S') (hn : n = d) {k : PUnit → Prog (TpuEff nD τ sig (Elt F) Λ₀ .tc) α}
    (h : Inv m ρ c S' ⊢ WP c (k ⟨⟩) Q) : Inv m ρ c S ⊢ WP c (semSignalWord n barS 1#32 >>= k) Q := by
  subst hn
  obtain ⟨r, ha, h1, h2⟩ := inv_split m ρ (c := c) hst
  obtain ⟨hsg, hp⟩ := adv_sig ha
  have hk : (semSignalWord n barS 1#32 >>= k : Prog (TpuEff nD τ sig (Elt F) Λ₀ .tc) α) = .op (.semSignal (n, .tc) barS ((1 : ℕ) : ℤ)) k := rfl
  rw [h1, hk, show (Op.sig n).need = [.give n] from rfl, sepL_one]
  unfold hold
  iintro ⟨#HR, #HL, ⟨%W, HO⟩, ⟨Ht, Hl⟩, Hr⟩
  ihave Hg := (Recs_get m ρ n none) $$ HR
  icases Hg with ⟨⟨%κ, #Hi⟩, #Hre⟩
  iapply (Rounds.wp_signal 𝒱₀ ER (sched m ρ) (c : Thread nD τ) none (dst := (n : Thread nD τ)) (κ := κ) (d := c)
      (by rw [show (((n : Thread nD τ), SemLoc.reg barS) : GSem nD τ sig) = cell n none from rfl, duties_bar]; exact Finset.mem_univ _)
      (amount_bar m ρ n c) () (O₀ := owed c S.sg S.p) (owed c S'.sg S'.p) (by rw [hsg, hp, owed_sig]; rfl)) $$ [HO Ht Hl]
  · isplitr; · iexact Hi
    isplitl [HO]; · iexact HO
    isplitl [Ht]; · iexact Ht
    isplitl [Hl]
    · have hpay : (sched (F := F) m ρ).payload ((n : Thread nD τ), .reg barS) 0 c = lend n c := rfl
      rw [hpay]; iexact Hl
    iexact Hre
  iintro HO
  iapply h
  rw [h2]
  isplitr; · iexact HR
  isplitr; · iexact HL
  isplitl [HO]; · iexists W; iexact HO
  isplitr; · rw [show (Op.sig n).make = [] from rfl, sepL_nil]; iempintro
  iexact Hr

theorem step_bwait {Q : α → sProp 𝕄} (hst : step .bwait S = some S') {k : PUnit → Prog (TpuEff nD τ sig (Elt F) Λ₀ .tc) α}
    (h : Inv m ρ c S' ⊢ WP c (k ⟨⟩) Q) : Inv m ρ c S ⊢ WP c (semWaitWord barS 16#32 >>= k) Q := by
  obtain ⟨r, ha, h1, h2⟩ := inv_split m ρ (c := c) hst
  obtain ⟨hsg, hsg', hp, hlv⟩ := adv_bwait ha
  have hk : (semWaitWord barS 16#32 >>= k : Prog (TpuEff nD τ sig (Elt F) Λ₀ .tc) α) = .op (.semWait barS ((16 : ℕ) : ℤ)) k := rfl
  rw [h1, hk, show Op.bwait.need = [.bar] from rfl, sepL_one]
  unfold hold
  iintro ⟨#HR, #HL, ⟨%W, HO⟩, ⟨Hc, Ha⟩, Hr⟩
  ihave Hg := (Recs_get m ρ c none) $$ HR
  icases Hg with ⟨⟨%κ, #Hi⟩, -⟩
  iapply (Rounds.wp_wait_rest_token 𝒱₀ ER (sched m ρ) (c : Thread nD τ) none (sm := .reg barS) (κ := κ) (wpE_semWait_eq 𝒱₀ (c : Thread nD τ) none Set.univ)
      (Set.mem_univ _) () (O := owed c S.sg S.p) (W := W) (R := 0) (m := 0) (T := ∅) ((Nat.zero_add 16).trans (expect_bar m ρ c).symm)) $$ [HO Hc Ha]
  · isplitr; · iexact Hi
    isplitl [Hc]; · iexact Hc
    isplitl [HO]; · iexact HO
    isplitr
    · iapply (mayWait c (.reg barS) S.sg S.p (fun hne => absurd hsg hne) (fun e he => hlv e he)); iexact HL
    iexact Ha
  iintro ⟨HO, Ha, -, Hp⟩
  have hrest : bigSep ((sched (F := F) m ρ).duties ((c : Thread nD τ), .reg barS) 0 \ ∅)
      (fun d => (sched (F := F) m ρ).payload ((c : Thread nD τ), .reg barS) 0 d) = sepL Snd.order fun e => raw (e.tgt c) e.dual.dst := rest_bar m ρ c
  ihave Hp := (Entails.of_eq hrest) $$ Hp
  imod (Rounds.cell_close ER (sched m ρ) (g := cell c none) (Set.mem_univ κ) (fun h => h) (R := 0 + 1) (duties_later m ρ _)) $$ [Ha] with Hz
  · isplitr; · iexact Hi
    iexact Ha
  iapply h
  rw [h2]
  isplitr; · iexact HR
  isplitr; · iexact HL
  isplitl [HO]; · iexists _; rw [hsg', ← hp, ← hsg]; iexact HO
  isplitl [Hz Hp]
  · rw [show Op.bwait.make = .barz :: Snd.order.map .dst from rfl, sepL_cons, sepL_map]; unfold hold; dsimp only
    isplitl [Hz]; · iexact Hz
    iexact Hp
  iexact Hr

/-! ## Copies -/

theorem step_send {Q : α → sProp 𝕄} {e : Snd} (hst : step (.send e) S = some S') {n : Dev nD} (hn : n = e.tgt c) {ss rs : DmaSem sig}
    (hss : ss = ix false e c) (hrs : rs = ix true e.dual n) {s : Shape} {ty : EltTy} {src dst : Memref sig .tc .vmem s ty}
    {hsc : (dst : Memref sig (Dev.tc n : Thread nD τ).2.kind .vmem s ty).view.ref.isScScratch = false}
    {hsrc : src.view.WordExact} {hdst : dst.view.WordExact}
    {hsem : DmaTarget.Typed .vmem (.dma rs) (.remote (Dev.tc n : Thread nD τ) (dst : Memref sig (Dev.tc n : Thread nD τ).2.kind .vmem s ty) (.dma ss) hsc)}
    (hN : dst.view.amount (.dma rs) = amt e) (fs : Buf (Elt F) (src.view.loc (c : Thread nD τ)))
    (hs : pts m ρ c e.shr e.src = (src.view.loc (c : Thread nD τ) ↦[src.view.set]{share e.shr} fs))
    (hd : raw (F := F) n e.dual.dst ⊢ iprop(∃ fd, (dst.view.loc (n : Thread nD τ)) ↦[dst.view.set]{fullShare} fd))
    (hl : ∀ fd : Buf (Elt F) (dst.view.loc (n : Thread nD τ)),
      (dst.view.loc (n : Thread nD τ) ↦[dst.view.set]{fullShare} (dst.view.write (Elt F) fd (src.view.read (Elt F) fs) Finset.univ)) ⊢ pts m ρ n [] e.dual.dst)
    {k : PUnit → Prog (TpuEff nD τ sig (Elt F) Λ₀ .tc) α}
    (h : Inv m ρ c S' ⊢ WP c (k ⟨⟩) Q) :
    Inv m ρ c S ⊢ WP c (Prog.lift (.enqueueDma src (.remote (Dev.tc n : Thread nD τ) dst (.dma ss) hsc) (.dma rs) hsrc hdst hsem) >>= k) Q := by
  subst hn; subst hss; subst hrs
  obtain ⟨r, ha, h1, h2⟩ := inv_split m ρ (c := c) hst
  obtain ⟨hsg, hsg', hp, hlive⟩ := adv_send ha
  have hk : (Prog.lift (.enqueueDma src (.remote (Dev.tc (e.tgt c) : Thread nD τ) dst (.dma (ix false e c)) hsc) (.dma (ix true e.dual (e.tgt c))) hsrc hdst hsem) >>= k
      : Prog (TpuEff nD τ sig (Elt F) Λ₀ .tc) α)
      = .op (.enqueueDma src (.remote (Dev.tc (e.tgt c) : Thread nD τ) dst (.dma (ix false e c)) hsc) (.dma (ix true e.dual (e.tgt c))) hsrc hdst hsem) k := rfl
  rw [h1, hk, show (Op.send e).need = [.tok e, .reg e.src e.shr, .dst e] from rfl, sepL_cons, sepL_cons, sepL_one]
  unfold hold
  dsimp only
  rw [hs]
  iintro ⟨#HR, #HL, ⟨%W, HO⟩, ⟨⟨Ht1, Ht2, Ha⟩, Hs, Hd⟩, Hr⟩
  ihave Hd := hd $$ Hd
  icases Hd with ⟨%fd, Hd⟩
  ihave Hg1 := (Recs_get m ρ c (some (false, e))) $$ HR
  icases Hg1 with ⟨⟨%κ₁, #Hi1⟩, #Hre1⟩
  ihave Hg2 := (Recs_get m ρ (e.tgt c) (some (true, e.dual))) $$ HR
  icases Hg2 with ⟨⟨%κ₂, #Hi2⟩, #Hre2⟩
  have hlive' : e.dual.live = true := (Snd.live_dual e).trans hlive
  iapply (Rounds.wp_send_pointsTo 𝒱₀ ER (sched m ρ) (c : Thread nD τ) none (c' := (e.tgt c : Thread nD τ)) (sS := .dma (ix false e c)) (sem := .dma (ix true e.dual (e.tgt c)))
      (κ₁ := κ₁) (κ₂ := κ₂) (r₁ := 0) (r₂ := 0) (d₁ := 0) (d₂ := 0) (fs := fs) (fd := fd) (q := share e.shr)
      (by rw [show (((c : Thread nD τ), SemLoc.dma (ix false e c)) : GSem nD τ sig) = cell c (some (false, e)) from rfl, duties_live m ρ c _ e hlive]; exact Finset.mem_singleton_self _)
      (by rw [show (((e.tgt c : Thread nD τ), SemLoc.dma (ix true e.dual (e.tgt c))) : GSem nD τ sig) = cell (e.tgt c) (some (true, e.dual)) from rfl,
            duties_live m ρ _ _ _ hlive']; exact Finset.mem_singleton_self _)
      () () (amt e) hN (amount_live m ρ c false e hlive 0) ((amount_live m ρ (e.tgt c) true e.dual hlive' 0).trans (amt_dual e))
      (O₀ := owed c S.sg S.p) (owed c S'.sg S'.p) (by rw [hsg, hsg', hp, owed_send]; rfl) (W := W)
      (by rw [show (((c : Thread nD τ), SemLoc.dma (ix false e c)) : GSem nD τ sig) = cell c (some (false, e)) from rfl, payload_send m ρ c e hlive, hs])
      (by rw [show (((e.tgt c : Thread nD τ), SemLoc.dma (ix true e.dual (e.tgt c))) : GSem nD τ sig) = cell (e.tgt c) (some (true, e.dual)) from rfl,
            payload_recv m ρ _ _ hlive']; exact hl fd)) $$ [HO Ht1 Ht2 Hs Hd]
  · isplitr; · iexact Hi1
    isplitr; · iexact Hi2
    isplitl [Hs]; · iexact Hs
    isplitl [Hd]; · iexact Hd
    isplitl [HO]; · iexact HO
    isplitl [Ht1]; · iexact Ht1
    isplitr; · iexact Hre1
    isplitl [Ht2]; · iexact Ht2
    iexact Hre2
  iintro ⟨Hc, HO⟩
  iapply h
  rw [h2]
  isplitr; · iexact HR
  isplitr; · iexact HL
  isplitl [HO]; · iexists W; iexact HO
  isplitl [Hc Ha]
  · rw [show (Op.send e).make = [.iss e] from rfl, sepL_one]; unfold hold
    isplitl [Hc]; · iexact Hc
    iexact Ha
  iexact Hr

theorem step_wrecv {Q : α → sProp 𝕄} {e : Snd} (hst : step (.wrecv e) S = some S') {q : DmaSem sig} (hq : q = ix true e c) {s : Shape} {ty : EltTy}
    {src dst : Memref sig .tc .vmem s ty} {hsrc : src.view.WordExact} {hdst : dst.view.WordExact} (hN : dst.view.dmaCredit = amt e)
    {k : PUnit → Prog (TpuEff nD τ sig (Elt F) Λ₀ .tc) α} (h : Inv m ρ c S' ⊢ WP c (k ⟨⟩) Q) :
    Inv m ρ c S ⊢ WP c (Prog.lift (.waitDma2 q src dst hsrc hdst) >>= k) Q := by
  subst hq
  obtain ⟨r, ha, h1, h2⟩ := inv_split m ρ (c := c) hst
  obtain ⟨hsg, hsg', hp, hlive, hlv⟩ := adv_wrecv ha
  have hk : (Prog.lift (.waitDma2 (ix true e c) src dst hsrc hdst) >>= k : Prog (TpuEff nD τ sig (Elt F) Λ₀ .tc) α)
      = .op (.waitDma2 (ix true e c) src dst hsrc hdst) k := rfl
  rw [h1, hk, show (Op.wrecv e).need = [.want e] from rfl, sepL_one]
  unfold hold
  iintro ⟨#HR, #HL, ⟨%W, HO⟩, ⟨Hc, Ha⟩, Hr⟩
  ihave Hg := (Recs_get m ρ c (some (true, e))) $$ HR
  icases Hg with ⟨⟨%κ, #Hi⟩, -⟩
  iapply (Rounds.wp_wait_rest_token 𝒱₀ ER (sched m ρ) (c : Thread nD τ) none (sm := .dma (ix true e c)) (κ := κ) (k' := dst.view.dmaCredit)
      (wpE_waitDma2_eq 𝒱₀ (c : Thread nD τ) none Set.univ)
      (Set.mem_univ _) () (O := owed c S.sg S.p) (W := W) (R := 0) (m := 0) (T := ∅)
      ((Nat.zero_add _).trans (hN.trans (expect_live m ρ c true e hlive).symm))) $$ [HO Hc Ha]
  · isplitr; · iexact Hi
    isplitl [Hc]; · rw [hN]; iexact Hc
    isplitl [HO]; · iexact HO
    isplitr
    · iapply (mayWait c (.dma (ix true e c)) S.sg S.p (fun hne => absurd hsg hne) (fun e' he => ⟨(hlv e' he).1, by
        rw [show (((c : Thread nD τ), SemLoc.dma (ix true e c)) : GSem nD τ sig) = cell c (some (true, e)) from rfl, lv_recv c e hlive]; exact (hlv e' he).2⟩)); iexact HL
    iexact Ha
  iintro ⟨HO, Ha, -, Hp⟩
  have hrest : bigSep ((sched (F := F) m ρ).duties ((c : Thread nD τ), .dma (ix true e c)) 0 \ ∅)
      (fun d => (sched (F := F) m ρ).payload ((c : Thread nD τ), .dma (ix true e c)) 0 d) = pts m ρ c [] e.dst := rest_recv m ρ c e hlive
  ihave Hp := (Entails.of_eq hrest) $$ Hp
  imod (Rounds.cell_close ER (sched m ρ) (g := cell c (some (true, e))) (Set.mem_univ κ) (fun h => h) (R := 0 + 1) (duties_later m ρ _)) $$ [Ha] with Hz
  · isplitr; · iexact Hi
    iexact Ha
  iapply h
  rw [h2]
  isplitr; · iexact HR
  isplitr; · iexact HL
  isplitl [HO]; · iexists _; rw [hsg', ← hp, ← hsg]; iexact HO
  isplitl [Hz Hp]
  · rw [show (Op.wrecv e).make = [.reg e.dst [], .zero true e] from rfl, sepL_cons, sepL_one]; unfold hold
    isplitl [Hp]; · iexact Hp
    iexact Hz
  iexact Hr

theorem step_wsend {Q : α → sProp 𝕄} {e : Snd} (hst : step (.wsend e) S = some S') {q : DmaSem sig} (hq : q = ix false e c) {s s' : Shape} {ty ty' : EltTy}
    {src : Memref sig .tc .vmem s' ty'} {dst : Memref sig .tc .vmem s ty} {hsrc : src.view.WordExact} {hdst : dst.view.WordExact} (hN : dst.view.dmaCredit = amt e)
    {k : PUnit → Prog (TpuEff nD τ sig (Elt F) Λ₀ .tc) α} (h : Inv m ρ c S' ⊢ WP c (k ⟨⟩) Q) :
    Inv m ρ c S ⊢ WP c (Prog.lift (.waitDma2 q src dst hsrc hdst) >>= k) Q := by
  subst hq
  obtain ⟨r, ha, h1, h2⟩ := inv_split m ρ (c := c) hst
  obtain ⟨hsg, hsg', hp, hp', hlive⟩ := adv_wsend ha
  have hk : (Prog.lift (.waitDma2 (ix false e c) src dst hsrc hdst) >>= k : Prog (TpuEff nD τ sig (Elt F) Λ₀ .tc) α)
      = .op (.waitDma2 (ix false e c) src dst hsrc hdst) k := rfl
  rw [h1, hk, show (Op.wsend e).need = [.iss e] from rfl, sepL_one]
  unfold hold
  iintro ⟨#HR, #HL, ⟨%W, HO⟩, ⟨Hc, Ha⟩, Hr⟩
  ihave Hg := (Recs_get m ρ c (some (false, e))) $$ HR
  icases Hg with ⟨⟨%κ, #Hi⟩, -⟩
  iapply (Rounds.wp_wait_rest_token 𝒱₀ ER (sched m ρ) (c : Thread nD τ) none (sm := .dma (ix false e c)) (κ := κ) (k' := dst.view.dmaCredit)
      (wpE_waitDma2_eq 𝒱₀ (c : Thread nD τ) none Set.univ)
      (Set.mem_univ _) () (O := owed c S.sg S.p) (W := W) (R := 0) (m := 0) (T := ∅)
      ((Nat.zero_add _).trans (hN.trans (expect_live m ρ c false e hlive).symm))) $$ [HO Hc Ha]
  · isplitr; · iexact Hi
    isplitl [Hc]; · rw [hN]; iexact Hc
    isplitl [HO]; · iexact HO
    isplitr
    · iapply (mayWait c (.dma (ix false e c)) S.sg S.p (fun hne => absurd hsg hne) (fun e' he => absurd (hp ▸ he) List.not_mem_nil)); iexact HL
    iexact Ha
  iintro ⟨HO, Ha, -, Hp⟩
  have hrest : bigSep ((sched (F := F) m ρ).duties ((c : Thread nD τ), .dma (ix false e c)) 0 \ ∅)
      (fun d => (sched (F := F) m ρ).payload ((c : Thread nD τ), .dma (ix false e c)) 0 d) = pts m ρ c e.shr e.src := rest_send m ρ c e hlive
  ihave Hp := (Entails.of_eq hrest) $$ Hp
  imod (Rounds.cell_close ER (sched m ρ) (g := cell c (some (false, e))) (Set.mem_univ κ) (fun h => h) (R := 0 + 1) (duties_later m ρ _)) $$ [Ha] with Hz
  · isplitr; · iexact Hi
    iexact Ha
  iapply h
  rw [h2]
  isplitr; · iexact HR
  isplitr; · iexact HL
  isplitl [HO]; · iexists _; rw [hsg', hp', ← hp, ← hsg, hp]; iexact HO
  isplitl [Hz Hp]
  · rw [show (Op.wsend e).make = [.reg e.src e.shr, .zero false e] from rfl, sepL_cons, sepL_one]; unfold hold
    isplitl [Hp]; · iexact Hp
    iexact Hz
  iexact Hr

/-! ## Using, filling, cutting and joining -/

theorem adv_still {o : Op} {sg sg' : List (Dev nD)} {p p' : List Snd} (ho : o.adv sg p = some (sg, p)) (h : o.adv sg p = some (sg', p')) :
    sg = sg' ∧ p = p' := by
  rw [ho] at h; cases h; exact ⟨rfl, rfl⟩

/-- Reading things held: what is read is settled by `hw`. -/
theorem step_use {Q : α → sProp 𝕄} {l : List Item} (hst : step (.use l) S = some S') {β : Type} {p : Prog (TpuEff nD τ sig (Elt F) Λ₀ .tc) β}
    {k : β → Prog (TpuEff nD τ sig (Elt F) Λ₀ .tc) α} (R : β → Prop)
    (hw : ∀ X : β → sProp 𝕄, sepL l (hold m ρ c) ⊢ iprop((∀ v, ⌜R v⌝ -∗ sepL l (hold m ρ c) -∗ X v) -∗ WP c p X))
    (h : ∀ v, R v → (Inv m ρ c S' ⊢ WP c (k v) Q)) : Inv m ρ c S ⊢ WP c (p >>= k) Q := by
  obtain ⟨r, ha, h1, h2⟩ := inv_split m ρ (c := c) hst
  obtain ⟨hsg, hp⟩ := adv_still rfl ha
  rw [h1, show WP c (p >>= k) Q = WP c p (fun v => WP c (k v) Q) from wp_bind _ _ _ p k Q]
  iintro ⟨#HR, #HL, HO, Hn, Hr⟩
  iapply (hw _) $$ [Hn]
  · iexact Hn
  iintro %v %hv Hn
  iapply (h v hv)
  rw [h2]
  isplitr; · iexact HR
  isplitr; · iexact HL
  isplitl [HO]; · rw [← hsg, ← hp]; iexact HO
  isplitl [Hn]; · iexact Hn
  iexact Hr

/-- Filling a piece. -/
theorem step_put {Q : α → sProp 𝕄} {r : Reg} (hst : step (.put r) S = some S') {p : Prog (TpuEff nD τ sig (Elt F) Λ₀ .tc) PUnit}
    {k : PUnit → Prog (TpuEff nD τ sig (Elt F) Λ₀ .tc) α}
    (hw : ∀ X : PUnit → sProp 𝕄, raw c r ⊢ iprop((pts m ρ c [] r -∗ X ⟨⟩) -∗ WP c p X))
    (h : Inv m ρ c S' ⊢ WP c (k ⟨⟩) Q) : Inv m ρ c S ⊢ WP c (p >>= k) Q := by
  obtain ⟨r', ha, h1, h2⟩ := inv_split m ρ (c := c) hst
  obtain ⟨hsg, hp⟩ := adv_still rfl ha
  rw [h1, show WP c (p >>= k) Q = WP c p (fun v => WP c (k v) Q) from wp_bind _ _ _ p k Q, show (Op.put r).need = [.raw r] from rfl, sepL_one, show hold m ρ c (.raw r) = raw c r from rfl]
  iintro ⟨#HR, #HL, HO, Hn, Hr⟩
  iapply (hw _) $$ [Hn]
  · iexact Hn
  iintro Hn
  iapply h
  rw [h2]
  isplitr; · iexact HR
  isplitr; · iexact HL
  isplitl [HO]; · rw [← hsg, ← hp]; iexact HO
  isplitl [Hn]; · rw [show (Op.put r).make = [.reg r []] from rfl, sepL_one]; unfold hold; iexact Hn
  iexact Hr

theorem step_pure {o : Op} (ho : ∀ sg p, o.adv sg p = some (sg, p)) (hw : sepL o.need (hold m ρ c) ⊢ sepL o.make (hold m ρ c))
    (hst : step o S = some S') : Inv (F := F) m ρ c S ⊢ Inv m ρ c S' := by
  obtain ⟨r, ha, h1, h2⟩ := inv_split m ρ (c := c) hst
  obtain ⟨hsg, hp⟩ := adv_still (ho _ _) ha
  rw [h1, h2, ← hsg, ← hp]
  iintro ⟨#HR, #HL, HO, Hn, Hr⟩
  isplitr; · iexact HR
  isplitr; · iexact HL
  isplitl [HO]; · iexact HO
  isplitl [Hn]; · iapply hw; iexact Hn
  iexact Hr

theorem step_cut {r : Reg} {q : List Bool} (hst : step (.cut r q) S = some S') {P : sProp 𝕄} (h : Inv m ρ c S' ⊢ P) : Inv m ρ c S ⊢ P :=
  (step_pure m ρ (fun _ _ => rfl) (by
    rw [show (Op.cut r q).need = [.reg r q] from rfl, show (Op.cut r q).make = [.reg r (false :: q), .reg r (true :: q)] from rfl,
      sepL_one, sepL_cons, sepL_one]
    exact (pts_cut m ρ c q r).1) hst).trans h

theorem step_glue {r : Reg} {q : List Bool} (hst : step (.glue r q) S = some S') {P : sProp 𝕄} (h : Inv m ρ c S' ⊢ P) : Inv m ρ c S ⊢ P :=
  (step_pure m ρ (fun _ _ => rfl) (by
    rw [show (Op.glue r q).make = [.reg r q] from rfl, show (Op.glue r q).need = [.reg r (false :: q), .reg r (true :: q)] from rfl,
      sepL_one, sepL_cons, sepL_one]
    exact (pts_cut m ρ c q r).2) hst).trans h

theorem step_halve {k dz : Fin 4} {q : List Bool} (hst : step (.halve k dz q) S = some S') {P : sProp 𝕄} (h : Inv m ρ c S' ⊢ P) : Inv m ρ c S ⊢ P :=
  (step_pure m ρ (fun _ _ => rfl) (by
    rw [show (Op.halve k dz q).need = [.reg (.w k dz) q] from rfl, show (Op.halve k dz q).make = [.reg (.h k dz 0) q, .reg (.h k dz 1) q] from rfl,
      sepL_one, sepL_cons, sepL_one]
    exact (pts_halve m ρ c q k dz).1) hst).trans h

theorem step_join {k dz : Fin 4} {q : List Bool} (hst : step (.join k dz q) S = some S') {P : sProp 𝕄} (h : Inv m ρ c S' ⊢ P) : Inv m ρ c S ⊢ P :=
  (step_pure m ρ (fun _ _ => rfl) (by
    rw [show (Op.join k dz q).make = [.reg (.w k dz) q] from rfl, show (Op.join k dz q).need = [.reg (.h k dz 0) q, .reg (.h k dz 1) q] from rfl,
      sepL_one, sepL_cons, sepL_one]
    exact (pts_halve m ρ c q k dz).2) hst).trans h

end

end Cert.Ring

end

end
-- ==== Proof.Moves.lean ====
/-
# The body's operations, at the pieces they touch

The steps of the body in the form it prints them: which piece each copy, wait, load and store touches, which device and
semaphore each names, and what each load returns.
-/
module

public import proofs.«01_k».proof.Proof.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

/-! ## Printed positions -/

theorem off1_eq : ∀ c : Dev nD, k0_off1 c = ![(peer c 0 0).val, 0, 0] := by decide +kernel
theorem off2_eq : ∀ (c : Dev nD) (dz : Fin 4), k0_off2 c (BitVec.ofNat 32 dz.val) = ![zr c dz] := by decide +kernel
theorem off3_eq : ∀ (c : Dev nD) (dz : Fin 4), k0_off3 c = ![zr (peer c 0 dz) (-dz)] := by decide +kernel
theorem off3_col : ∀ (c : Dev nD) (k : Fin 4), k0_off3 c = ![zr (peer c k 0) 0] := by decide +kernel
theorem off3_own : ∀ (c : Dev nD), k0_off3 c = ![zr c 0] := by decide +kernel
theorem off4_eq : ∀ c : Dev nD, k0_off4 c = ![(peer c 0 0).val, 0, 0] := by decide +kernel
theorem off5_eq : ∀ c : Dev nD, k0_off5 c = ![256 * (peer c 0 0).val, 0] := by decide +kernel
/-- The third word of a position names the neighbour: 3 the one before, 5 the one after, 6 the one across. -/
def nb : Fin 3 → BitVec 32 := ![3#32, 5#32, 6#32]
def nbk : Fin 3 → Fin 4 := ![3, 1, 2]
theorem off6_eq : ∀ (c : Dev nD) (dz : Fin 4) (j : Fin 3), k0_off6 c (BitVec.ofNat 32 dz.val) (nb j) = ![(peer c (nbk j) dz).val, 0, 0] := by decide +kernel
theorem off7_eq : ∀ (c : Dev nD) (dz : Fin 4) (j : Fin 3), k0_off7 c (BitVec.ofNat 32 dz.val) (nb j) = ![(peer c (nbk j) dz).val, 2048 * (0 : Fin 2).val, 0] := by
  decide +kernel
theorem off8_eq : ∀ (c : Dev nD) (dz : Fin 4) (j : Fin 3), k0_off8 c (BitVec.ofNat 32 dz.val) (nb j) = ![(peer c (nbk j) dz).val, 2048 * (1 : Fin 2).val, 0] := by
  decide +kernel
theorem off9_eq : ∀ (c : Dev nD) (dz : Fin 4) (j : Fin 3), k0_off9 c (BitVec.ofNat 32 dz.val) (nb j) = ![(peer c (nbk j) dz).val, 0, 0] := by decide +kernel
theorem off10_eq : ∀ (c : Dev nD) (dz : Fin 4) (j : Fin 3), k0_off10 c (BitVec.ofNat 32 dz.val) (nb j) = ![(peer c (nbk j) dz).val, 0, 0] := by decide +kernel
theorem off11_eq : ∀ (c : Dev nD) (dz : Fin 4) (j : Fin 3), k0_off11 c (BitVec.ofNat 32 dz.val) (nb j) = ![(peer c (nbk j) dz).val] := by decide +kernel
theorem off12_eq : ∀ (c : Dev nD) (k dz : Fin 4), k0_off12 c = ![(peer (peer c k dz) (-k) (-dz)).val] := by decide +kernel
theorem off13_eq : ∀ (c : Dev nD) (k dz : Fin 4), k0_off13 c = ![(peer (peer c k dz) (-k) (-dz)).val, 0, 0] := by decide +kernel
theorem off14_eq : ∀ (c : Dev nD) (dz : Fin 4) (j : Fin 3), k0_off14 c (BitVec.ofNat 32 dz.val) (nb j) = ![(peer c (nbk j) dz).val, 0, 0] := by decide +kernel
theorem off15_eq : ∀ (c : Dev nD) (dz : Fin 4), k0_off15 c (BitVec.ofNat 32 dz.val) = ![(peer c 0 dz).val, 0, 0] := by decide +kernel
theorem off16_eq : ∀ (c : Dev nD) (dz : Fin 4), k0_off16 c (BitVec.ofNat 32 dz.val) = ![(peer c 0 dz).val, 0, 0] := by decide +kernel
theorem off17_eq : ∀ (c : Dev nD) (dz : Fin 4), k0_off17 c (BitVec.ofNat 32 dz.val) = ![(peer c 0 dz).val, 0, 0] := by decide +kernel
theorem off18_eq : ∀ (c : Dev nD) (dz : Fin 4), k0_off18 c (BitVec.ofNat 32 dz.val) = ![(peer c 0 dz).val] := by decide +kernel
theorem off19_eq : ∀ (c : Dev nD) (dz : Fin 4), k0_off19 c (BitVec.ofNat 32 dz.val) = ![(peer c 0 dz).val, 0, 0] := by decide +kernel
theorem off20_eq : ∀ (c : Dev nD) (dz : Fin 4) (j : Fin 3), k0_off20 c (BitVec.ofNat 32 dz.val) (nb j) = ![256 * (peer c (nbk j) dz).val, 0] := by decide +kernel
theorem off21_eq : ∀ (c : Dev nD) (dz : Fin 4), k0_off21 c (BitVec.ofNat 32 dz.val) = ![256 * (peer c 0 dz).val, 0] := by decide +kernel

theorem off2_col : ∀ (c : Dev nD) (k dz : Fin 4), k0_off2 c (BitVec.ofNat 32 dz.val) = ![zr (peer c k 0) dz] := by decide +kernel
theorem off4_col : ∀ (c : Dev nD) (dz : Fin 4), k0_off4 c = ![(peer (peer c 0 dz) 0 (-dz)).val, 0, 0] := by decide +kernel
theorem back : ∀ (c : Dev nD) (k dz : Fin 4), peer (peer c k dz) (-k) (-dz) = c := by decide +kernel
theorem hop : ∀ (c : Dev nD) (k k' dz : Fin 4), peer (peer c k 0) k' dz = peer c (k + k') dz := by decide +kernel
theorem ret : ∀ (c : Dev nD) (dz : Fin 4), peer (peer c 0 dz) 0 (-dz) = peer c 0 0 := by decide +kernel
theorem off13_own : ∀ c : Dev nD, k0_off13 c = ![c.val, 0, 0] := by decide +kernel
/-! The device each copy names. -/

theorem dev17_eq : ∀ c : Dev nD, (⟨k0_dev17 c, k0_dev17_lt c⟩ : Dev nD) = (Snd.col 1).tgt c := by decide +kernel
theorem dev18_eq : ∀ c : Dev nD, (⟨k0_dev18 c, k0_dev18_lt c⟩ : Dev nD) = (Snd.col 2).tgt c := by decide +kernel
theorem dev19_eq : ∀ c : Dev nD, (⟨k0_dev19 c, k0_dev19_lt c⟩ : Dev nD) = (Snd.col 3).tgt c := by decide +kernel
theorem dev20_eq : ∀ c : Dev nD, (⟨k0_dev20 c, k0_dev20_lt c⟩ : Dev nD) = (Snd.cwf 0).tgt c := by decide +kernel
theorem dev21_eq : ∀ c : Dev nD, (⟨k0_dev21 c, k0_dev21_lt c⟩ : Dev nD) = (Snd.ccwf 0).tgt c := by decide +kernel
theorem dev22_eq : ∀ c : Dev nD, (⟨k0_dev22 c, k0_dev22_lt c⟩ : Dev nD) = (Snd.cwh 0).tgt c := by decide +kernel
theorem dev23_eq : ∀ c : Dev nD, (⟨k0_dev23 c, k0_dev23_lt c⟩ : Dev nD) = (Snd.ccwh 0).tgt c := by decide +kernel
theorem dev24_eq : ∀ c : Dev nD, (⟨k0_dev24 c, k0_dev24_lt c⟩ : Dev nD) = (Snd.a2a 3 0).tgt c := by decide +kernel
theorem dev25_eq : ∀ c : Dev nD, (⟨k0_dev25 c, k0_dev25_lt c⟩ : Dev nD) = (Snd.a2a 1 0).tgt c := by decide +kernel
theorem dev26_eq : ∀ c : Dev nD, (⟨k0_dev26 c, k0_dev26_lt c⟩ : Dev nD) = (Snd.cwf 1).tgt c := by decide +kernel
theorem dev27_eq : ∀ c : Dev nD, (⟨k0_dev27 c, k0_dev27_lt c⟩ : Dev nD) = (Snd.ccwf 1).tgt c := by decide +kernel
theorem dev28_eq : ∀ c : Dev nD, (⟨k0_dev28 c, k0_dev28_lt c⟩ : Dev nD) = (Snd.cwh 1).tgt c := by decide +kernel
theorem dev29_eq : ∀ c : Dev nD, (⟨k0_dev29 c, k0_dev29_lt c⟩ : Dev nD) = (Snd.ccwh 1).tgt c := by decide +kernel
theorem dev30_eq : ∀ c : Dev nD, (⟨k0_dev30 c, k0_dev30_lt c⟩ : Dev nD) = (Snd.a2a 0 1).tgt c := by decide +kernel
theorem dev31_eq : ∀ c : Dev nD, (⟨k0_dev31 c, k0_dev31_lt c⟩ : Dev nD) = (Snd.a2a 3 1).tgt c := by decide +kernel
theorem dev32_eq : ∀ c : Dev nD, (⟨k0_dev32 c, k0_dev32_lt c⟩ : Dev nD) = (Snd.a2a 1 1).tgt c := by decide +kernel
theorem dev33_eq : ∀ c : Dev nD, (⟨k0_dev33 c, k0_dev33_lt c⟩ : Dev nD) = (Snd.cwf 2).tgt c := by decide +kernel
theorem dev34_eq : ∀ c : Dev nD, (⟨k0_dev34 c, k0_dev34_lt c⟩ : Dev nD) = (Snd.ccwf 2).tgt c := by decide +kernel
theorem dev35_eq : ∀ c : Dev nD, (⟨k0_dev35 c, k0_dev35_lt c⟩ : Dev nD) = (Snd.cwh 2).tgt c := by decide +kernel
theorem dev36_eq : ∀ c : Dev nD, (⟨k0_dev36 c, k0_dev36_lt c⟩ : Dev nD) = (Snd.ccwh 2).tgt c := by decide +kernel
theorem dev37_eq : ∀ c : Dev nD, (⟨k0_dev37 c, k0_dev37_lt c⟩ : Dev nD) = (Snd.a2a 0 2).tgt c := by decide +kernel
theorem dev38_eq : ∀ c : Dev nD, (⟨k0_dev38 c, k0_dev38_lt c⟩ : Dev nD) = (Snd.a2a 3 2).tgt c := by decide +kernel
theorem dev39_eq : ∀ c : Dev nD, (⟨k0_dev39 c, k0_dev39_lt c⟩ : Dev nD) = (Snd.a2a 1 2).tgt c := by decide +kernel
theorem dev40_eq : ∀ c : Dev nD, (⟨k0_dev40 c, k0_dev40_lt c⟩ : Dev nD) = (Snd.cwf 3).tgt c := by decide +kernel
theorem dev41_eq : ∀ c : Dev nD, (⟨k0_dev41 c, k0_dev41_lt c⟩ : Dev nD) = (Snd.ccwf 3).tgt c := by decide +kernel
theorem dev42_eq : ∀ c : Dev nD, (⟨k0_dev42 c, k0_dev42_lt c⟩ : Dev nD) = (Snd.cwh 3).tgt c := by decide +kernel
theorem dev43_eq : ∀ c : Dev nD, (⟨k0_dev43 c, k0_dev43_lt c⟩ : Dev nD) = (Snd.ccwh 3).tgt c := by decide +kernel
theorem dev44_eq : ∀ c : Dev nD, (⟨k0_dev44 c, k0_dev44_lt c⟩ : Dev nD) = (Snd.a2a 0 3).tgt c := by decide +kernel
theorem dev45_eq : ∀ c : Dev nD, (⟨k0_dev45 c, k0_dev45_lt c⟩ : Dev nD) = (Snd.a2a 3 3).tgt c := by decide +kernel
theorem dev46_eq : ∀ c : Dev nD, (⟨k0_dev46 c, k0_dev46_lt c⟩ : Dev nD) = (Snd.a2a 1 3).tgt c := by decide +kernel
theorem dev47_eq : ∀ c : Dev nD, (⟨k0_dev47 c, k0_dev47_lt c⟩ : Dev nD) = (Snd.a2a 2 0).tgt c := by decide +kernel
theorem dev48_eq : ∀ c : Dev nD, (⟨k0_dev48 c, k0_dev48_lt c⟩ : Dev nD) = (Snd.a2a 2 1).tgt c := by decide +kernel
theorem dev49_eq : ∀ c : Dev nD, (⟨k0_dev49 c, k0_dev49_lt c⟩ : Dev nD) = (Snd.a2a 2 2).tgt c := by decide +kernel
theorem dev50_eq : ∀ c : Dev nD, (⟨k0_dev50 c, k0_dev50_lt c⟩ : Dev nD) = (Snd.a2a 2 3).tgt c := by decide +kernel

theorem peer_ne : ∀ (c : Dev nD) (k dz : Fin 4), ¬ (k = 0 ∧ dz = 0) → peer c k dz ≠ c := by decide +kernel

/-- A semaphore of an array of consecutive ones, at a printed position. -/
theorem sem_at {s : Shape} {base : ℕ} {hb : base + s.numel ≤ sig.nDmaSem} (r : Rect s) (sq : r.shape.Squeezes S_) {j : ℕ}
    (hr : ∀ i, (s.rowMajor (r.emb i)).val = j) {q : DmaSem sig} (hq : q.val = base + j) :
    (((SemArray.consecutive base s hb : DmaSems sig s).slice r).squeeze S_ sq).sem = q := by
  apply Fin.ext
  rw [hq]
  show base + (s.rowMajor (r.emb _)).val = base + j
  rw [hr]
theorem sem4 {base : ℕ} {hb : base + S4.numel ≤ sig.nDmaSem} {off : Fin 1 → ℕ} {inb : ∀ a, off a + S1.size a ≤ S4.size a} {j : ℕ} (ho : off = ![j])
    {q : DmaSem sig} (hq : q.val = base + j) :
    (((SemArray.consecutive base S4 hb : DmaSems sig S4).slice (Rect.unit (s := S4) off S1.size inb)).squeeze S_ squeezes_S1_S_).sem = q := by
  subst ho
  refine sem_at _ _ (fun i => ?_) hq
  rw [Shape.rowMajor_val_one]
  have h0 : (i 0).val < 1 := (i 0).isLt
  show j + 1 * (i 0).val = j
  omega
theorem sem16 {base : ℕ} {hb : base + S16.numel ≤ sig.nDmaSem} {off : Fin 1 → ℕ} {inb : ∀ a, off a + S1.size a ≤ S16.size a} {j : ℕ} (ho : off = ![j])
    {q : DmaSem sig} (hq : q.val = base + j) :
    (((SemArray.consecutive base S16 hb : DmaSems sig S16).slice (Rect.unit (s := S16) off S1.size inb)).squeeze S_ squeezes_S1_S_).sem = q := by
  subst ho
  refine sem_at _ _ (fun i => ?_) hq
  rw [Shape.rowMajor_val_one]
  have h0 : (i 0).val < 1 := (i 0).isLt
  show j + 1 * (i 0).val = j
  omega

variable (m : (ℓ : Loc nD τ sig) → Buf (Elt F) ℓ) (ρ : Dev nD → PrngReg)

section
variable {c : Dev nD} {S S' : St} {α : Type}

/-! ## Copies -/

/-- A slot, a half slot, a piece to send and a piece received, as the copies name them. -/
abbrev slotV (off : Fin 3 → ℕ) (inb : ∀ a, off a + S1x4096x128.size a ≤ S16x4096x128.size a) : Memref sig .tc .vmem S4096x128 .fp8e5m2 :=
  (wM.slice (Rect.unit (s := S16x4096x128) off S1x4096x128.size inb) (fun _ => rfl)).squeeze S4096x128 squeezes_S1x4096x128_S4096x128
abbrev halfV (off : Fin 3 → ℕ) (inb : ∀ a, off a + S1x2048x128.size a ≤ S16x4096x128.size a) : Memref sig .tc .vmem S2048x128 .fp8e5m2 :=
  (wM.slice (Rect.unit (s := S16x4096x128) off S1x2048x128.size inb) (fun _ => rfl)).squeeze S2048x128 squeezes_S1x2048x128_S2048x128
abbrev sendV (off : Fin 3 → ℕ) (inb : ∀ a, off a + S1x256x128.size a ≤ S16x256x128.size a) : Memref sig .tc .vmem S256x128 .bf16 :=
  (sM.slice (Rect.unit (s := S16x256x128) off S1x256x128.size inb) (fun _ => rfl)).squeeze S256x128 squeezes_S1x256x128_S256x128
abbrev recvV (off : Fin 3 → ℕ) (inb : ∀ a, off a + S1x256x128.size a ≤ S16x256x128.size a) : Memref sig .tc .vmem S256x128 .bf16 :=
  (dM.slice (Rect.unit (s := S16x256x128) off S1x256x128.size inb) (fun _ => rfl)).squeeze S256x128 squeezes_S1x256x128_S256x128

/-- The copies of whole slots. -/
def _root_.Cert.Ring.Snd.isSlot : Snd → Bool
  | .col _ | .cwf _ | .ccwf _ => true
  | _ => false
def _root_.Cert.Ring.Snd.isHalf : Snd → Bool
  | .cwh _ | .ccwh _ => true
  | _ => false
theorem credit_slot (off inb) (e : Snd) (he : e.isSlot = true) : (slotV off inb).view.dmaCredit = amt e := by
  cases e <;> first | rfl | cases he
theorem credit_half (off inb) (e : Snd) (he : e.isHalf = true) : (halfV off inb).view.dmaCredit = amt e := by
  cases e <;> first | rfl | cases he
theorem credit_recv (off inb) (k dz : Fin 4) : (recvV off inb).view.dmaCredit = amt (.a2a k dz) := by unfold amt; rfl
theorem credit_send (off inb) (k dz : Fin 4) : (sendV off inb).view.dmaCredit = amt (.a2a k dz) := by unfold amt; rfl

/-- Copying a slot to the same slot of another device. -/
theorem send_slot {Q : α → sProp 𝕄} (e : Snd) (hst : step (.send e) S = some S') {n : Dev nD} (hn : n = e.tgt c) {ss rs : DmaSem sig}
    (hss : ss = ix false e c) (hrs : rs = ix true e.dual (e.tgt c)) {k dz k' dz' : Fin 4} (he : e.src = .w k dz) (he' : e.dual.dst = .w k' dz')
    {off : Fin 3 → ℕ} {inb : ∀ a, off a + S1x4096x128.size a ≤ S16x4096x128.size a} (o : Dev nD) (ho : off = ![o.val, 0, 0])
    (hk : peer c k dz = o) (hk' : peer (e.tgt c) k' dz' = o)
    {hsc : (slotV off inb : Memref sig (Dev.tc n : Thread nD τ).2.kind .vmem S4096x128 .fp8e5m2).view.ref.isScScratch = false}
    {hsrc : (slotV off inb).view.WordExact} {hdst : (slotV off inb).view.WordExact}
    {hsem : DmaTarget.Typed .vmem (.dma rs) (.remote (Dev.tc n : Thread nD τ) (slotV off inb : Memref sig (Dev.tc n : Thread nD τ).2.kind .vmem S4096x128 .fp8e5m2) (.dma ss) hsc)}
    (hN : e.isSlot = true)
    {kk : PUnit → Prog (TpuEff nD τ sig (Elt F) Λ₀ .tc) α} (h : Inv m ρ c S' ⊢ WP c (kk ⟨⟩) Q) :
    Inv m ρ c S ⊢ WP c (Prog.lift (.enqueueDma (slotV off inb) (.remote (Dev.tc n : Thread nD τ) (slotV off inb) (.dma ss) hsc) (.dma rs) hsrc hdst hsem) >>= kk) Q := by
  subst hn; subst ho
  have hset : (slotV ![o.val, 0, 0] inb).view.set = (wM.access (slotR o)).set := View.set_reshape _ _
  refine step_send m ρ hst rfl hss hrs (credit_slot _ _ e hN) (Wall m ρ) ?_ ?_ (fun fd => ?_) h
  · rw [he, hset]; unfold pts; dsimp only; rw [hk]
  · rw [he', hset]; unfold raw; dsimp only; rw [hk']
  · rw [he', hset]; unfold pts; dsimp only; rw [hk']
    exact Entails.of_eq (pointsTo_congr fun i hi => write_read (slotV ![o.val, 0, 0] inb).view fd (Wall m ρ) (by rw [hset]; exact hi))

/-- Copying half of a slot to the same half of another device. -/
theorem send_half {Q : α → sProp 𝕄} (e : Snd) (hst : step (.send e) S = some S') {n : Dev nD} (hn : n = e.tgt c) {ss rs : DmaSem sig}
    (hss : ss = ix false e c) (hrs : rs = ix true e.dual (e.tgt c)) {k dz k' dz' : Fin 4} {b : Fin 2} (he : e.src = .h k dz b) (he' : e.dual.dst = .h k' dz' b)
    {off : Fin 3 → ℕ} {inb : ∀ a, off a + S1x2048x128.size a ≤ S16x4096x128.size a} (o : Dev nD) (ho : off = ![o.val, 2048 * b.val, 0])
    (hk : peer c k dz = o) (hk' : peer (e.tgt c) k' dz' = o)
    {hsc : (halfV off inb : Memref sig (Dev.tc n : Thread nD τ).2.kind .vmem S2048x128 .fp8e5m2).view.ref.isScScratch = false}
    {hsrc : (halfV off inb).view.WordExact} {hdst : (halfV off inb).view.WordExact}
    {hsem : DmaTarget.Typed .vmem (.dma rs) (.remote (Dev.tc n : Thread nD τ) (halfV off inb : Memref sig (Dev.tc n : Thread nD τ).2.kind .vmem S2048x128 .fp8e5m2) (.dma ss) hsc)}
    (hN : e.isHalf = true)
    {kk : PUnit → Prog (TpuEff nD τ sig (Elt F) Λ₀ .tc) α} (h : Inv m ρ c S' ⊢ WP c (kk ⟨⟩) Q) :
    Inv m ρ c S ⊢ WP c (Prog.lift (.enqueueDma (halfV off inb) (.remote (Dev.tc n : Thread nD τ) (halfV off inb) (.dma ss) hsc) (.dma rs) hsrc hdst hsem) >>= kk) Q := by
  subst hn; subst ho
  have hset : (halfV ![o.val, 2048 * b.val, 0] inb).view.set = (wM.access (halfR o b)).set := View.set_reshape _ _
  refine step_send m ρ hst rfl hss hrs (credit_half _ _ e hN) (Wall m ρ) ?_ ?_ (fun fd => ?_) h
  · rw [he, hset]; unfold pts; dsimp only; rw [hk]
  · rw [he', hset]; unfold raw; dsimp only; rw [hk']
  · rw [he', hset]; unfold pts; dsimp only; rw [hk']
    exact Entails.of_eq (pointsTo_congr fun i hi => write_read (halfV ![o.val, 2048 * b.val, 0] inb).view fd (Wall m ρ) (by rw [hset]; exact hi))

/-- Sending a block to the device it was computed for. -/
theorem send_piece {Q : α → sProp 𝕄} (k dz : Fin 4) (hst : step (.send (.a2a k dz)) S = some S') {n : Dev nD} (hn : n = peer c k dz) {ss rs : DmaSem sig}
    (hss : ss = ix false (.a2a k dz) c) (hrs : rs = ix true (Snd.dual (.a2a k dz)) (peer c k dz))
    {off off' : Fin 3 → ℕ} {inb : ∀ a, off a + S1x256x128.size a ≤ S16x256x128.size a} {inb' : ∀ a, off' a + S1x256x128.size a ≤ S16x256x128.size a}
    (ho : off = ![(peer c k dz).val, 0, 0]) (ho' : off' = ![c.val, 0, 0])
    {hsc : (recvV off' inb' : Memref sig (Dev.tc n : Thread nD τ).2.kind .vmem S256x128 .bf16).view.ref.isScScratch = false}
    {hsrc : (sendV off inb).view.WordExact} {hdst : (recvV off' inb').view.WordExact}
    {hsem : DmaTarget.Typed .vmem (.dma rs) (.remote (Dev.tc n : Thread nD τ) (recvV off' inb' : Memref sig (Dev.tc n : Thread nD τ).2.kind .vmem S256x128 .bf16) (.dma ss) hsc)}
    {kk : PUnit → Prog (TpuEff nD τ sig (Elt F) Λ₀ .tc) α} (h : Inv m ρ c S' ⊢ WP c (kk ⟨⟩) Q) :
    Inv m ρ c S ⊢ WP c (Prog.lift (.enqueueDma (sendV off inb) (.remote (Dev.tc n : Thread nD τ) (recvV off' inb') (.dma ss) hsc) (.dma rs) hsrc hdst hsem) >>= kk) Q := by
  subst hn; subst ho; subst ho'
  have hset : (sendV ![(peer c k dz).val, 0, 0] inb).view.set = (sM.access (pieceR (peer c k dz))).set := View.set_reshape _ _
  have hset' : (recvV ![c.val, 0, 0] inb').view.set = (dM.access (pieceR c)).set := View.set_reshape _ _
  have ht : (Snd.a2a k dz).tgt c = peer c k dz := rfl
  have hb : peer (peer c k dz) (-k) (-dz) = c := back c k dz
  refine step_send m ρ hst rfl hss hrs (credit_recv _ _ k dz) (Sall m ρ c) ?_ ?_ (fun fd => ?_) h
  · rw [hset]; rfl
  · rw [hset', show (Snd.dual (.a2a k dz)).dst = Reg.d (-k) (-dz) from rfl]; unfold raw; dsimp only; rw [ht, hb]
  · rw [hset', show (Snd.dual (.a2a k dz)).dst = Reg.d (-k) (-dz) from rfl]; unfold pts; dsimp only; rw [ht, hb]
    refine Entails.of_eq (pointsTo_congr fun i hi => ?_)
    have hw := dall_on m ρ (peer c k dz) c fd hi
    rw [← hw]
    have hr := read_sall m ρ c (peer c k dz)
    show (View.reshape (dM.access (pieceR c)) S256x128 _).write (Elt F) fd (fun x => (sM.access (pieceR (peer c k dz))).read (Elt F) (Sall m ρ c) (Shape.reshapeEquiv _ x)) Finset.univ i = _
    rw [View.write_reshape_univ, ← hr]
    simp

/-! ## Loads and stores -/

/-- A load whose piece is held, whatever it is held with. -/
theorem load_of {Q : α → sProp 𝕄} {l : List Item} (hst : step (.use l) S = some S') {cs : CoreSpace} {s : Shape} {e : EltTy} {mr : Memref sig .tc cs s e} {r : Rect s}
    {hl : mr.view.LoadsAt r} {T : Finset (Idx ((mr.access r).loc (c : Thread nD τ)))} {q : PosShare TreeShare} (R : (r.shape.Idx → Elt F e) → Prop) (hS : (mr.access r).set ⊆ T)
    (hp : sepL l (hold m ρ c) ⊢ iprop(∃ f : Buf (Elt F) ((mr.access r).loc (c : Thread nD τ)), ⌜R ((mr.access r).read (Elt F) f)⌝
      ∗ ((mr.access r).loc (c : Thread nD τ) ↦[T]{q} f) ∗ (((mr.access r).loc (c : Thread nD τ) ↦[T]{q} f) -∗ sepL l (hold m ρ c))))
    {kk : (r.shape.Idx → Elt F e) → Prog (TpuEff nD τ sig (Elt F) Λ₀ .tc) α} (h : ∀ v, R v → (Inv m ρ c S' ⊢ WP c (kk v) Q)) :
    Inv m ρ c S ⊢ WP c (Prog.lift (.load mr r.toLoadRect hl) >>= kk) Q := by
  refine step_use m ρ hst R (fun X => ?_) h
  refine hp.trans ?_
  iintro ⟨%f, %hR, H, Hb⟩ Hk
  iapply (wp_load_rect 𝒱₀ (c : Thread nD τ) none Set.univ hS) $$ [H]
  · iexact H
  iintro H
  rw [wp_ret]
  imodintro
  ihave H := Hb $$ H
  iapply Hk $$ [] H
  ipureintro; exact hR

/-- The same, of one word of the scalar memory. -/
theorem word_of {Q : α → sProp 𝕄} {l : List Item} (hst : step (.use l) S = some S') {e : EltTy} {s : Shape} {mr : Memref sig .tc .smem s e} {r : Rect s}
    {h1 : r.shape.numel = 1} {hw : e.packing = 1} {T : Finset (Idx ((mr.access r).loc (c : Thread nD τ)))} {q : PosShare TreeShare} (R : Elt F e → Prop) (hS : (mr.access r).set ⊆ T)
    (hp : sepL l (hold m ρ c) ⊢ iprop(∃ f : Buf (Elt F) ((mr.access r).loc (c : Thread nD τ)), ⌜R ((mr.access r).read (Elt F) f (Shape.Idx.first (h1.symm ▸ Nat.one_pos)))⌝
      ∗ ((mr.access r).loc (c : Thread nD τ) ↦[T]{q} f) ∗ (((mr.access r).loc (c : Thread nD τ) ↦[T]{q} f) -∗ sepL l (hold m ρ c))))
    {kk : Elt F e → Prog (TpuEff nD τ sig (Elt F) Λ₀ .tc) α} (h : ∀ v, R v → (Inv m ρ c S' ⊢ WP c (kk v) Q)) :
    Inv m ρ c S ⊢ WP c (smemLoad mr r h1 hw >>= kk) Q := by
  refine step_use m ρ hst R (fun X => ?_) h
  refine hp.trans ?_
  iintro ⟨%f, %hR, H, Hb⟩ Hk
  iapply (wp_smemLoadElt 𝒱₀ (c : Thread nD τ) none Set.univ hS) $$ [H]
  · iexact H
  iintro H
  rw [wp_ret]
  imodintro
  ihave H := Hb $$ H
  iapply Hk $$ [] H
  ipureintro; exact hR

/-- A store that fills a piece. -/
theorem store_of {Q : α → sProp 𝕄} {g : Reg} (hst : step (.put g) S = some S') {cs : CoreSpace} {s : Shape} {e : EltTy} {mr : Memref sig .tc cs s e} {r : Rect s}
    {w : r.shape.Idx → Elt F e} {hx : (mr.access r).Stores Finset.univ} {hm} {T : Finset (Idx ((mr.access r).loc (c : Thread nD τ)))} (hS : (mr.access r).set ⊆ T)
    (hp : raw (F := F) c g ⊢ iprop(∃ f : Buf (Elt F) ((mr.access r).loc (c : Thread nD τ)), (mr.access r).loc (c : Thread nD τ) ↦[T]{fullShare} f))
    (hq : ∀ f : Buf (Elt F) ((mr.access r).loc (c : Thread nD τ)),
      ((mr.access r).loc (c : Thread nD τ) ↦[T]{fullShare} (mr.access r).write (Elt F) f w Finset.univ) ⊢ pts m ρ c [] g)
    {kk : PUnit → Prog (TpuEff nD τ sig (Elt F) Λ₀ .tc) α} (h : Inv m ρ c S' ⊢ WP c (kk ⟨⟩) Q) :
    Inv m ρ c S ⊢ WP c (Prog.lift (.store mr r w Finset.univ hx hm) >>= kk) Q := by
  refine step_put m ρ hst (fun X => ?_) h
  refine hp.trans ?_
  iintro ⟨%f, H⟩ Hk
  iapply (wp_store 𝒱₀ (c : Thread nD τ) none Set.univ (m := mr) (r := r) (w := w) (Mk := Finset.univ) (S := T) (f := f) (by rw [View.setOn_univ]; exact hS)) $$ [H]
  · iexact H
  iintro H
  rw [wp_ret]
  imodintro
  iapply Hk
  iapply (hq f)
  iexact H

/-- Any load of a piece at unknown contents. -/
theorem load_raw {Q : α → sProp 𝕄} (g : Reg) (hst : step (.use [.raw g]) S = some S') {cs : CoreSpace} {s : Shape} {e : EltTy} {mr : Memref sig .tc cs s e} {r : Rect s}
    {hl : mr.view.LoadsAt r} (T : Finset (Idx ((mr.access r).loc (c : Thread nD τ)))) (hS : (mr.access r).set ⊆ T)
    (hp : raw (F := F) c g = iprop(∃ f : Buf (Elt F) ((mr.access r).loc (c : Thread nD τ)), (mr.access r).loc (c : Thread nD τ) ↦[T]{fullShare} f))
    {kk : (r.shape.Idx → Elt F e) → Prog (TpuEff nD τ sig (Elt F) Λ₀ .tc) α} (h : ∀ v, (Inv m ρ c S' ⊢ WP c (kk v) Q)) :
    Inv m ρ c S ⊢ WP c (Prog.lift (.load mr r.toLoadRect hl) >>= kk) Q := by
  refine load_of m ρ hst (fun _ => True) hS ?_ (fun v _ => h v) (q := fullShare)
  rw [sepL_one, show hold m ρ c (.raw g) = raw c g from rfl, hp]
  iintro ⟨%f, H⟩
  iexists f
  isplitr; · ipureintro; trivial
  isplitl [H]; · iexact H
  iintro H
  iexists f; iexact H

/-- Any load of a filled piece. -/
theorem load_pts {Q : α → sProp 𝕄} (g : Reg) (p : List Bool) (hst : step (.use [.reg g p]) S = some S') {cs : CoreSpace} {s : Shape} {e : EltTy} {mr : Memref sig .tc cs s e} {r : Rect s}
    {hl : mr.view.LoadsAt r} (T : Finset (Idx ((mr.access r).loc (c : Thread nD τ)))) (hS : (mr.access r).set ⊆ T) (f : Buf (Elt F) ((mr.access r).loc (c : Thread nD τ)))
    (hp : pts m ρ c p g = ((mr.access r).loc (c : Thread nD τ) ↦[T]{share p} f)) (w : r.shape.Idx → Elt F e) (hr : (mr.access r).read (Elt F) f = w)
    {kk : (r.shape.Idx → Elt F e) → Prog (TpuEff nD τ sig (Elt F) Λ₀ .tc) α} (h : Inv m ρ c S' ⊢ WP c (kk w) Q) :
    Inv m ρ c S ⊢ WP c (Prog.lift (.load mr r.toLoadRect hl) >>= kk) Q := by
  refine load_of m ρ hst (fun v => v = w) hS ?_ (fun v hv => hv ▸ h) (q := share p)
  rw [sepL_one, show hold m ρ c (.reg g p) = pts m ρ c p g from rfl, hp]
  iintro H
  iexists f
  isplitr; · ipureintro; exact hr
  isplitl [H]; · iexact H
  iintro H; iexact H

/-- The rectangles and offsets as printed. -/
abbrev slotU (off : Fin 3 → ℕ) (inb : ∀ a, off a + S1x4096x128.size a ≤ S16x4096x128.size a) : Rect S16x4096x128 := Rect.unit (s := S16x4096x128) off S1x4096x128.size inb
abbrev pieceU (off : Fin 3 → ℕ) (inb : ∀ a, off a + S1x256x128.size a ≤ S16x256x128.size a) : Rect S16x256x128 := Rect.unit (s := S16x256x128) off S1x256x128.size inb
abbrev rowsU (off : Fin 2 → ℕ) (inb : ∀ a, off a + S256x128.size a ≤ S4096x128.size a) : Rect S4096x128 := Rect.unit (s := S4096x128) off S256x128.size inb
abbrev xU : Rect S256x4096 := Rect.unit (s := S256x4096) ![0, 0] S256x4096.size inb_S256x4096_S256x4096_0_0
abbrev wU : Rect S4096x128 := Rect.unit (s := S4096x128) ![0, 0] S4096x128.size inb_S4096x128_S4096x128_0_0
abbrev oneU : Rect S1 := Rect.unit (s := S1) ![0] S1.size inb_S1_S1_0
theorem zero2 : (![0, 0] : Fin 2 → ℕ) = fun _ => 0 := by funext i; fin_cases i <;> rfl

theorem ld_slot {Q : α → sProp 𝕄} (k dz : Fin 4) (p : List Bool) (hst : step (.use [.reg (.w k dz) p]) S = some S') {off inb} {hl : wM.view.LoadsAt (slotU off inb)}
    (ho : off = ![(peer c k dz).val, 0, 0]) {kk : Vec F S1x4096x128 .fp8e5m2 → Prog (TpuEff nD τ sig (Elt F) Λ₀ .tc) α}
    (h : Inv m ρ c S' ⊢ WP c (kk (slab m ρ (peer c k dz))) Q) : Inv m ρ c S ⊢ WP c (Prog.lift (.load wM (slotU off inb).toLoadRect hl) >>= kk) Q := by
  subst ho
  refine load_pts m ρ (.w k dz) p hst (mr := wM) (r := slotR (peer c k dz)) (wM.access (slotR (peer c k dz))).set (Finset.Subset.refl _) (Wall m ρ) ?_ (slab m ρ (peer c k dz)) ?_ h
  · unfold pts; rfl
  · exact read_wall m ρ _
theorem ld_piece {Q : α → sProp 𝕄} (k dz : Fin 4) (p : List Bool) (hst : step (.use [.reg (.d k dz) p]) S = some S') {off inb} {hl : dM.view.LoadsAt (pieceU off inb)}
    (ho : off = ![(peer c k dz).val, 0, 0]) {kk : Vec F S1x256x128 .bf16 → Prog (TpuEff nD τ sig (Elt F) Λ₀ .tc) α}
    (h : Inv m ρ c S' ⊢ WP c (kk (blk m ρ (peer c k dz) c)) Q) : Inv m ρ c S ⊢ WP c (Prog.lift (.load dM (pieceU off inb).toLoadRect hl) >>= kk) Q := by
  subst ho
  refine load_pts m ρ (.d k dz) p hst (mr := dM) (r := pieceR (peer c k dz)) (dM.access (pieceR (peer c k dz))).set (Finset.Subset.refl _) (Dall m ρ c) ?_ (blk m ρ (peer c k dz) c) ?_ h
  · unfold pts; rfl
  · exact read_dall m ρ _ _
theorem ld_x {Q : α → sProp 𝕄} (hst : step (.use [.reg .x []]) S = some S') {hl : xbM.view.LoadsAt xU}
    {kk : Vec F S256x4096 .bf16 → Prog (TpuEff nD τ sig (Elt F) Λ₀ .tc) α}
    (h : Inv m ρ c S' ⊢ WP c (kk (xbv m ρ c)) Q) : Inv m ρ c S ⊢ WP c (Prog.lift (.load xbM xU.toLoadRect hl) >>= kk) Q := by
  refine load_pts m ρ .x [] hst (mr := xbM) (r := xU) Finset.univ (Finset.subset_univ _) (xbv m ρ c) ?_ (xbv m ρ c) ?_ h
  · unfold pts; rfl
  · exact Memref.readAt_unit_zero (Elt F) cc0_scratch1 zero2 _ _
theorem ld_raw_slot {Q : α → sProp 𝕄} (k dz : Fin 4) (hst : step (.use [.raw (.w k dz)]) S = some S') {off inb} {hl : wM.view.LoadsAt (slotU off inb)}
    (ho : off = ![(peer c k dz).val, 0, 0]) {kk : Vec F S1x4096x128 .fp8e5m2 → Prog (TpuEff nD τ sig (Elt F) Λ₀ .tc) α}
    (h : ∀ v, Inv m ρ c S' ⊢ WP c (kk v) Q) : Inv m ρ c S ⊢ WP c (Prog.lift (.load wM (slotU off inb).toLoadRect hl) >>= kk) Q := by
  subst ho
  exact load_raw m ρ _ hst _ (Finset.Subset.refl _) rfl h
theorem ld_raw_send {Q : α → sProp 𝕄} (k dz : Fin 4) (hst : step (.use [.raw (.s k dz)]) S = some S') {off inb} {hl : sM.view.LoadsAt (pieceU off inb)}
    (ho : off = ![(peer c k dz).val, 0, 0]) {kk : Vec F S1x256x128 .bf16 → Prog (TpuEff nD τ sig (Elt F) Λ₀ .tc) α}
    (h : ∀ v, Inv m ρ c S' ⊢ WP c (kk v) Q) : Inv m ρ c S ⊢ WP c (Prog.lift (.load sM (pieceU off inb).toLoadRect hl) >>= kk) Q := by
  subst ho
  exact load_raw m ρ _ hst _ (Finset.Subset.refl _) rfl h
theorem ld_raw_rows {Q : α → sProp 𝕄} (k dz : Fin 4) (hst : step (.use [.raw (.o k dz)]) S = some S') {off inb} {hl : oM.view.LoadsAt (rowsU off inb)}
    (ho : off = ![256 * (peer c k dz).val, 0]) {kk : Vec F S256x128 .f32 → Prog (TpuEff nD τ sig (Elt F) Λ₀ .tc) α}
    (h : ∀ v, Inv m ρ c S' ⊢ WP c (kk v) Q) : Inv m ρ c S ⊢ WP c (Prog.lift (.load oM (rowsU off inb).toLoadRect hl) >>= kk) Q := by
  subst ho
  exact load_raw m ρ _ hst _ (Finset.Subset.refl _) rfl h
theorem ld_raw_x {Q : α → sProp 𝕄} (hst : step (.use [.raw .x]) S = some S') {hl : xbM.view.LoadsAt xU}
    {kk : Vec F S256x4096 .bf16 → Prog (TpuEff nD τ sig (Elt F) Λ₀ .tc) α}
    (h : ∀ v, Inv m ρ c S' ⊢ WP c (kk v) Q) : Inv m ρ c S ⊢ WP c (Prog.lift (.load xbM xU.toLoadRect hl) >>= kk) Q :=
  load_raw m ρ _ hst Finset.univ (Finset.subset_univ _) rfl h

theorem st_slot {Q : α → sProp 𝕄} (k dz : Fin 4) (hst : step (.put (.w k dz)) S = some S') {off inb} {hx hm} {w : Vec F S1x4096x128 .fp8e5m2} (ho : off = ![(peer c k dz).val, 0, 0])
    (hw : w = slab m ρ (peer c k dz)) {kk : PUnit → Prog (TpuEff nD τ sig (Elt F) Λ₀ .tc) α} (h : Inv m ρ c S' ⊢ WP c (kk ⟨⟩) Q) :
    Inv m ρ c S ⊢ WP c (Prog.lift (.store wM (slotU off inb) w Finset.univ hx hm) >>= kk) Q := by
  subst ho; subst hw
  refine store_of m ρ (g := (.w k dz)) hst (mr := wM) (r := slotR (peer c k dz)) (T := (wM.access (slotR (peer c k dz))).set) (Finset.Subset.refl _) ?_ (fun f => ?_) h
  · unfold raw; exact BIBase.Entails.rfl
  · unfold pts; exact Entails.of_eq (pointsTo_congr fun i hi => wall_on m ρ _ f hi)
theorem st_send {Q : α → sProp 𝕄} (k dz : Fin 4) (hst : step (.put (.s k dz)) S = some S') {off inb} {hx hm} {w : Vec F S1x256x128 .bf16} (ho : off = ![(peer c k dz).val, 0, 0])
    (hw : w = blk m ρ c (peer c k dz)) {kk : PUnit → Prog (TpuEff nD τ sig (Elt F) Λ₀ .tc) α} (h : Inv m ρ c S' ⊢ WP c (kk ⟨⟩) Q) :
    Inv m ρ c S ⊢ WP c (Prog.lift (.store sM (pieceU off inb) w Finset.univ hx hm) >>= kk) Q := by
  subst ho; subst hw
  refine store_of m ρ (g := (.s k dz)) hst (mr := sM) (r := pieceR (peer c k dz)) (T := (sM.access (pieceR (peer c k dz))).set) (Finset.Subset.refl _) ?_ (fun f => ?_) h
  · unfold raw; exact BIBase.Entails.rfl
  · unfold pts; exact Entails.of_eq (pointsTo_congr fun i hi => sall_on m ρ c _ f hi)
theorem st_rows {Q : α → sProp 𝕄} (k dz : Fin 4) (hst : step (.put (.o k dz)) S = some S') {off inb} {hx hm} {w : Vec F S256x128 .f32} (ho : off = ![256 * (peer c k dz).val, 0])
    (hw : w = rowv m ρ c (peer c k dz)) {kk : PUnit → Prog (TpuEff nD τ sig (Elt F) Λ₀ .tc) α} (h : Inv m ρ c S' ⊢ WP c (kk ⟨⟩) Q) :
    Inv m ρ c S ⊢ WP c (Prog.lift (.store oM (rowsU off inb) w Finset.univ hx hm) >>= kk) Q := by
  subst ho; subst hw
  refine store_of m ρ (g := (.o k dz)) hst (mr := oM) (r := rowsR (peer c k dz)) (T := (oM.access (rowsR (peer c k dz))).set) (Finset.Subset.refl _) ?_ (fun f => ?_) h
  · unfold raw; exact BIBase.Entails.rfl
  · unfold pts; exact Entails.of_eq (pointsTo_congr fun i hi => out_on m ρ c _ f hi)
theorem st_x {Q : α → sProp 𝕄} (hst : step (.put .x) S = some S') {hx hm} {w : Vec F S256x4096 .bf16} (hw : w = xbv m ρ c)
    {kk : PUnit → Prog (TpuEff nD τ sig (Elt F) Λ₀ .tc) α} (h : Inv m ρ c S' ⊢ WP c (kk ⟨⟩) Q) :
    Inv m ρ c S ⊢ WP c (Prog.lift (.store xbM xU w Finset.univ hx hm) >>= kk) Q := by
  subst hw
  refine store_of m ρ (g := .x) hst (mr := xbM) (r := xU) (T := Finset.univ) (Finset.subset_univ _) ?_ (fun f => ?_) h
  · unfold raw; exact BIBase.Entails.rfl
  · unfold pts; exact Entails.of_eq (congrArg _ (Memref.write_access_unit_zero_univ (Elt F) cc0_scratch1 zero2 _ f _))

theorem ld_xstg {Q : α → sProp 𝕄} (hst : step (.use [.ins]) S = some S') {hl : xM.view.LoadsAt xU}
    {kk : Vec F S256x4096 .fp8e5m2 → Prog (TpuEff nD τ sig (Elt F) Λ₀ .tc) α}
    (h : Inv m ρ c S' ⊢ WP c (kk (xstg m ρ c)) Q) : Inv m ρ c S ⊢ WP c (Prog.lift (.load xM xU.toLoadRect hl) >>= kk) Q := by
  refine load_of m ρ hst (fun v => v = xstg m ρ c) (Finset.subset_univ _) ?_ (fun v hv => hv ▸ h) (q := fullShare)
  rw [sepL_one]; unfold hold
  iintro ⟨H0, H1, H2, H3⟩
  iexists (xstg m ρ c)
  isplitr; · ipureintro; exact Memref.readAt_unit_zero (Elt F) cc0_stg0_0 zero2 _ _
  isplitl [H0]; · iexact H0
  iintro H0
  isplitl [H0]; · iexact H0
  isplitl [H1]; · iexact H1
  isplitl [H2]; · iexact H2
  iexact H3
theorem ld_wstg {Q : α → sProp 𝕄} (hst : step (.use [.ins]) S = some S') {hl : wtM.view.LoadsAt wU}
    {kk : Vec F S4096x128 .fp8e5m2 → Prog (TpuEff nD τ sig (Elt F) Λ₀ .tc) α}
    (h : Inv m ρ c S' ⊢ WP c (kk (wstg m ρ c)) Q) : Inv m ρ c S ⊢ WP c (Prog.lift (.load wtM wU.toLoadRect hl) >>= kk) Q := by
  refine load_of m ρ hst (fun v => v = wstg m ρ c) (Finset.subset_univ _) ?_ (fun v hv => hv ▸ h) (q := fullShare)
  rw [sepL_one]; unfold hold
  iintro ⟨H0, H1, H2, H3⟩
  iexists (wstg m ρ c)
  isplitr; · ipureintro; exact Memref.readAt_unit_zero (Elt F) cc0_stg1_0 zero2 _ _
  isplitl [H1]; · iexact H1
  iintro H1
  isplitl [H0]; · iexact H0
  isplitl [H1]; · iexact H1
  isplitl [H2]; · iexact H2
  iexact H3
theorem ld_sx {Q : α → sProp 𝕄} (hst : step (.use [.ins]) S = some S') {h1 : oneU.shape.numel = 1} {hw}
    {kk : F .f32 → Prog (TpuEff nD τ sig (Elt F) Λ₀ .tc) α}
    (h : Inv m ρ c S' ⊢ WP c (kk ((sxM.access oneU).read (Elt F) (sxstg m ρ c) ix1)) Q) :
    Inv m ρ c S ⊢ WP c (smemLoad (Val := Elt F) sxM oneU h1 hw >>= kk) Q := by
  refine word_of m ρ hst (fun v => v = (sxM.access oneU).read (Elt F) (sxstg m ρ c) ix1) (Finset.subset_univ _) ?_ (fun v hv => hv ▸ h) (q := fullShare)
  rw [sepL_one]; unfold hold
  iintro ⟨H0, H1, H2, H3⟩
  iexists (sxstg m ρ c)
  isplitr; · ipureintro; rfl
  isplitl [H2]; · iexact H2
  iintro H2
  isplitl [H0]; · iexact H0
  isplitl [H1]; · iexact H1
  isplitl [H2]; · iexact H2
  iexact H3
theorem ld_sw {Q : α → sProp 𝕄} (hst : step (.use [.ins]) S = some S') {h1 : oneU.shape.numel = 1} {hw}
    {kk : F .f32 → Prog (TpuEff nD τ sig (Elt F) Λ₀ .tc) α}
    (h : Inv m ρ c S' ⊢ WP c (kk ((swM.access oneU).read (Elt F) (swstg m ρ c) ix1)) Q) :
    Inv m ρ c S ⊢ WP c (smemLoad (Val := Elt F) swM oneU h1 hw >>= kk) Q := by
  refine word_of m ρ hst (fun v => v = (swM.access oneU).read (Elt F) (swstg m ρ c) ix1) (Finset.subset_univ _) ?_ (fun v hv => hv ▸ h) (q := fullShare)
  rw [sepL_one]; unfold hold
  iintro ⟨H0, H1, H2, H3⟩
  iexists (swstg m ρ c)
  isplitr; · ipureintro; rfl
  isplitl [H3]; · iexact H3
  iintro H3
  isplitl [H0]; · iexact H0
  isplitl [H1]; · iexact H1
  isplitl [H2]; · iexact H2
  iexact H3

theorem step_ret {β : Type} {Q : β → sProp 𝕄} {x : β} (h : Inv m ρ c S ⊢ Q x) : Inv m ρ c S ⊢ WP c (pure x) Q := by
  have hk : (pure x : Prog (TpuEff nD τ sig (Elt F) Λ₀ .tc) β) = .ret x := rfl
  rw [hk, show WP c (.ret x) Q = iprop(|={Set.univ}[frame]=> Q x) from wp_ret _ _ _ _ _]
  iintro H
  imodintro
  iapply h
  iexact H

theorem rowv_of {s : Dev nD} (h : s ≠ c) : k0_pay40 (blk m ρ s c) = rowv m ρ c s := by unfold rowv; rw [if_neg h]
theorem rowv_own : k0_pay5 (scale m ρ c) (k0_pay4 (slab m ρ (peer c 0 0))) (xbv m ρ c) = rowv m ρ c (peer c 0 0) := by
  rw [peer_zero]; unfold rowv own; rw [if_pos rfl]

/-- What the body does first: it reads its device's number. -/
theorem step_id {Q : α → sProp 𝕄} {kk : Dev nD → Prog (TpuEff nD τ sig (Elt F) Λ₀ .tc) α} (h : Inv m ρ c S ⊢ WP c (kk c) Q) :
    Inv m ρ c S ⊢ WP c (Prog.lift .deviceId >>= kk) Q := by
  have hk : (Prog.lift .deviceId >>= kk : Prog (TpuEff nD τ sig (Elt F) Λ₀ .tc) α) = .op .deviceId kk := rfl
  rw [hk]
  exact h.trans (Entails.of_eq (wp_deviceId 𝒱₀ (c : Thread nD τ) none Set.univ).symm)

end

end Cert.Ring

end

end
-- ==== Proof.Parts1.lean ====
/-
# Parts 1 to 5 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 1 of the body, with the cuts of shares between them. -/
def ops1 : List Op := [.sig 0, .sig 1]
theorem part1_runs {Q : (Σ' (d0 : Dev nD) (v2 : BitVec 32) (v19 : BitVec 32) (v20 : BitVec 32) (v24 : BitVec 32) (v27 : BitVec 32) (v28 : Sems sig S_), BitVec 32) → sProp 𝕄} (hst : run ops1 S = some S')
    (h : ∀ w0 w1 w2 w3 w4 w5 : BitVec 32, Inv m ρ c S' ⊢ Q ⟨c, w0, w1, w2, w3, w4, (SemArray.scalar (sig.barrier 0 rfl)), w5⟩) :
    Inv m ρ c S ⊢ WP c (k0_part1 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15) Q := by
  rw [k0_part1_eq_skeleton]
  unfold k0_part1_skel
  unfold ops1 at hst
  refine step_id m ρ ?_
  obtain ⟨_, h1, hst⟩ := run_cons hst
  refine step_sig m ρ h1 (by decide +kernel) ?_
  obtain ⟨_, h1, hst⟩ := run_cons hst
  refine step_sig m ρ h1 (by decide +kernel) ?_
  cases run_nil hst
  exact step_ret m ρ (h _ _ _ _ _ _)

/-- The operations of part 2 of the body, with the cuts of shares between them. -/
def ops2 : List Op := [.sig 2, .sig 3, .sig 4, .sig 5, .sig 6, .sig 7, .sig 8, .sig 9]
theorem part2_runs {Q : (PUnit) → sProp 𝕄} (hst : run ops2 S = some S') (c2_i32 : BitVec 32)
    (h : Inv m ρ c S' ⊢ Q ⟨⟩) :
    Inv m ρ c S ⊢ WP c (k0_part2 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 (SemArray.scalar (sig.barrier 0 rfl)) c2_i32) Q := by
  rw [k0_part2_eq_skeleton]
  unfold k0_part2_skel
  unfold ops2 at hst
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  cases run_nil hst
  exact step_ret m ρ (h)

/-- The operations of part 3 of the body, with the cuts of shares between them. -/
def ops3 : List Op := [.sig 10, .sig 11, .sig 12, .sig 13, .sig 14, .sig 15, .bwait, .use [.ins], .use [.raw (.w 0 0)], .put (.w 0 0), .cut (.w 0 0) [], .cut (.w 0 0) [true], .cut (.w 0 0) [true, true], .cut (.w 0 0) [true, true, true], .cut (.w 0 0) [true, true, true, true]]
theorem part3_runs {Q : (Σ' (v71 : BitVec 32), BitVec 32) → sProp 𝕄} (hst : run ops3 S = some S') (v2 v19 v20 : BitVec 32)
    (h : ∀ w0 w1 : BitVec 32, Inv m ρ c S' ⊢ Q ⟨w0, w1⟩) :
    Inv m ρ c S ⊢ WP c (k0_part3 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 (SemArray.scalar (sig.barrier 0 rfl))) Q := by
  rw [k0_part3_eq_skeleton]
  unfold k0_part3_skel
  unfold ops3 at hst
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_sig m ρ h1 (by decide +kernel) ?_
  obtain ⟨_, h1, hst⟩ := run_cons hst
  refine step_bwait m ρ h1 ?_
  obtain ⟨_, h1, hst⟩ := run_cons hst
  refine ld_wstg m ρ h1 ?_
  obtain ⟨_, h1, hst⟩ := run_cons hst
  refine ld_raw_slot m ρ 0 0 h1 (off1_eq c) (fun _ => ?_)
  obtain ⟨_, h1, hst⟩ := run_cons hst
  refine st_slot m ρ 0 0 h1 (off1_eq c) (by rw [peer_zero]; rfl) ?_
  obtain ⟨_, h1, hst⟩ := run_cons hst
  refine step_cut m ρ h1 ?_
  obtain ⟨_, h1, hst⟩ := run_cons hst
  refine step_cut m ρ h1 ?_
  obtain ⟨_, h1, hst⟩ := run_cons hst
  refine step_cut m ρ h1 ?_
  obtain ⟨_, h1, hst⟩ := run_cons hst
  refine step_cut m ρ h1 ?_
  obtain ⟨_, h1, hst⟩ := run_cons hst
  refine step_cut m ρ h1 ?_
  cases run_nil hst
  exact step_ret m ρ (h _ _)

/-- The operations of part 4 of the body, with the cuts of shares between them. -/
def ops4 : List Op := [.send (.col 1), .send (.col 2)]
theorem part4_runs {Q : (PUnit) → sProp 𝕄} (hst : run ops4 S = some S') (v19 v20 v71 c0_i32_69 : BitVec 32)
    (h : Inv m ρ c S' ⊢ Q ⟨⟩) :
    Inv m ρ c S ⊢ WP c (k0_part4 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v19 v20 v71 c0_i32_69) Q := by
  rw [k0_part4_eq_skeleton]
  unfold k0_part4_skel
  unfold ops4 at hst
  obtain ⟨_, h1, hst⟩ := run_cons hst
  refine send_slot m ρ (.col 1) h1 (dev17_eq c) (sem4 (off2_eq c 1) rfl) (sem4 (off3_eq c 1) rfl) rfl rfl (peer c 0 0) (off4_eq c) rfl (ret c 1) rfl ?_
  obtain ⟨_, h1, hst⟩ := run_cons hst
  refine send_slot m ρ (.col 2) h1 (dev18_eq c) (sem4 (off2_eq c 2) rfl) (sem4 (off3_eq c 2) rfl) rfl rfl (peer c 0 0) (off4_eq c) rfl (ret c 2) rfl ?_
  cases run_nil hst
  exact step_ret m ρ (h)

/-- The operations of part 5 of the body, with the cuts of shares between them. -/
def ops5 : List Op := [.send (.col 3), .send (.cwf 0), .send (.ccwf 0), .use [.ins], .use [.raw .x], .put .x, .use [.ins], .use [.ins], .use [.reg (.w 0 0) [true, true, true, true, true]]]
theorem part5_runs {Q : (Σ' (v137 : F .f32), FVec F S4096x128 .bf16) → sProp 𝕄} (hst : run ops5 S = some S') (v2 v24 v27 : BitVec 32)
    (h : Inv m ρ c S' ⊢ Q ⟨scale m ρ c, k0_pay4 (slab m ρ (peer c 0 0))⟩) :
    Inv m ρ c S ⊢ WP c (k0_part5 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v24 v27) Q := by
  rw [k0_part5_eq_skeleton]
  unfold k0_part5_skel
  unfold ops5 at hst
  obtain ⟨_, h1, hst⟩ := run_cons hst
  refine send_slot m ρ (.col 3) h1 (dev19_eq c) (sem4 (off2_eq c 3) rfl) (sem4 (off3_eq c 3) rfl) rfl rfl (peer c 0 0) (off4_eq c) rfl (ret c 3) rfl ?_
  obtain ⟨_, h1, hst⟩ := run_cons hst
  refine send_slot m ρ (.cwf 0) h1 (dev20_eq c) (sem4 (off3_own c) rfl) (sem4 (off3_col c 1) rfl) rfl rfl (peer c 0 0) (off4_eq c) rfl (hop c 1 3 0) rfl ?_
  obtain ⟨_, h1, hst⟩ := run_cons hst
  refine send_slot m ρ (.ccwf 0) h1 (dev21_eq c) (sem4 (off3_own c) rfl) (sem4 (off3_col c 3) rfl) rfl rfl (peer c 0 0) (off4_eq c) rfl (hop c 3 1 0) rfl ?_
  obtain ⟨_, h1, hst⟩ := run_cons hst
  refine ld_xstg m ρ h1 ?_
  obtain ⟨_, h1, hst⟩ := run_cons hst
  refine ld_raw_x m ρ h1 (fun _ => ?_)
  obtain ⟨_, h1, hst⟩ := run_cons hst
  refine st_x m ρ h1 rfl ?_
  obtain ⟨_, h1, hst⟩ := run_cons hst
  refine ld_sx m ρ h1 ?_
  obtain ⟨_, h1, hst⟩ := run_cons hst
  refine ld_sw m ρ h1 ?_
  obtain ⟨_, h1, hst⟩ := run_cons hst
  refine ld_slot m ρ 0 0 [true, true, true, true, true] h1 (off1_eq c) ?_
  cases run_nil hst
  exact step_ret m ρ (h)

end Cert.Ring
-- ==== Proof.Parts2.lean ====
/-
# Parts 6 to 9 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 6 of the body, with the cuts of shares between them. -/
def ops6 : List Op := [.use [.reg .x []], .use [.raw (.o 0 0)], .put (.o 0 0), .wrecv (.cwf 0), .cut (.w 3 0) [], .halve 3 0 [false]]
theorem part6_runs {Q : (Σ' (v160 : BitVec 32), BitVec 32) → sProp 𝕄} (hst : run ops6 S = some S') (v2 v19 v20 v24 : BitVec 32)
    (h : ∀ w0 w1 : BitVec 32, Inv m ρ c S' ⊢ Q ⟨w0, w1⟩) :
    Inv m ρ c S ⊢ WP c (k0_part6 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v24 (scale m ρ c) (k0_pay4 (slab m ρ (peer c 0 0)))) Q := by
  rw [k0_part6_eq_skeleton]
  unfold k0_part6_skel
  unfold ops6 at hst
  obtain ⟨_, h1, hst⟩ := run_cons hst
  refine ld_x m ρ h1 ?_
  obtain ⟨_, h1, hst⟩ := run_cons hst
  refine ld_raw_rows m ρ 0 0 h1 (off5_eq c) (fun _ => ?_)
  obtain ⟨_, h1, hst⟩ := run_cons hst
  refine st_rows m ρ 0 0 h1 (off5_eq c) (rowv_own m ρ) ?_
  obtain ⟨_, h1, hst⟩ := run_cons hst
  refine step_wrecv m ρ h1 (e := .cwf 0) (sem4 (off2_eq c 0) rfl) (credit_slot _ _ (.cwf 0) rfl) ?_
  obtain ⟨_, h1, hst⟩ := run_cons hst
  refine step_cut m ρ h1 ?_
  obtain ⟨_, h1, hst⟩ := run_cons hst
  refine step_halve m ρ h1 ?_
  cases run_nil hst
  exact step_ret m ρ (h _ _)

/-- The operations of part 7 of the body, with the cuts of shares between them. -/
def ops7 : List Op := [.send (.cwh 0), .wrecv (.ccwf 0), .cut (.w 1 0) [], .halve 1 0 [false], .send (.ccwh 0), .use [.reg (.w 3 0) [true]], .use [.reg .x []]]
theorem part7_runs {Q : (Σ' (v186 : BitVec 32), FVec F S256x128 .f32) → sProp 𝕄} (hst : run ops7 S = some S') (v2 v20 v27 v160 v164 : BitVec 32)
    (h : ∀ w0 : BitVec 32, Inv m ρ c S' ⊢ Q ⟨w0, k0_pay6 (scale m ρ c) (slab m ρ (peer c 3 0)) (xbv m ρ c)⟩) :
    Inv m ρ c S ⊢ WP c (k0_part7 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v20 v27 (scale m ρ c) v160 v164) Q := by
  rw [k0_part7_eq_skeleton]
  unfold k0_part7_skel
  unfold ops7 at hst
  obtain ⟨_, h1, hst⟩ := run_cons hst
  refine send_half m ρ (.cwh 0) h1 (dev22_eq c) (sem4 (off2_eq c 0) rfl) (sem4 (off2_col c 1 0) rfl) rfl rfl (peer c 3 0) (off7_eq c 0 0) rfl (hop c 1 2 0) rfl ?_
  obtain ⟨_, h1, hst⟩ := run_cons hst
  refine step_wrecv m ρ h1 (e := .ccwf 0) (sem4 (off2_eq c 0) rfl) (credit_slot _ _ (.ccwf 0) rfl) ?_
  obtain ⟨_, h1, hst⟩ := run_cons hst
  refine step_cut m ρ h1 ?_
  obtain ⟨_, h1, hst⟩ := run_cons hst
  refine step_halve m ρ h1 ?_
  obtain ⟨_, h1, hst⟩ := run_cons hst
  refine send_half m ρ (.ccwh 0) h1 (dev23_eq c) (sem4 (off2_eq c 0) rfl) (sem4 (off2_col c 3 0) rfl) rfl rfl (peer c 1 0) (off8_eq c 0 1) rfl (hop c 3 2 0) rfl ?_
  obtain ⟨_, h1, hst⟩ := run_cons hst
  refine ld_slot m ρ 3 0 [true] h1 (off9_eq c 0 0) ?_
  obtain ⟨_, h1, hst⟩ := run_cons hst
  refine ld_x m ρ h1 ?_
  cases run_nil hst
  exact step_ret m ρ (h _)

/-- The operations of part 8 of the body, with the cuts of shares between them. -/
def ops8 : List Op := [.use [.raw (.s 3 0)], .put (.s 3 0), .send (.a2a 3 0), .use [.reg (.w 1 0) [true]], .use [.reg .x []]]
theorem part8_runs {Q : (Σ' (v245 : FVec F S256x128 .f32) (v249 : FVec F S256x128 .f32), FVec F S256x128 .f32) → sProp 𝕄} (hst : run ops8 S = some S') (v164 v186 : BitVec 32)
    (h : Inv m ρ c S' ⊢ Q ⟨k0_pay8 (scale m ρ c) (slab m ρ (peer c 1 0)) (xbv m ρ c), k0_pay9 (scale m ρ c) (slab m ρ (peer c 1 0)) (xbv m ρ c), k0_pay10 (F := F)⟩) :
    Inv m ρ c S ⊢ WP c (k0_part8 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c (scale m ρ c) v164 v186 (k0_pay6 (scale m ρ c) (slab m ρ (peer c 3 0)) (xbv m ρ c))) Q := by
  rw [k0_part8_eq_skeleton]
  unfold k0_part8_skel
  unfold ops8 at hst
  obtain ⟨_, h1, hst⟩ := run_cons hst
  refine ld_raw_send m ρ 3 0 h1 (off10_eq c 0 0) (fun _ => ?_)
  obtain ⟨_, h1, hst⟩ := run_cons hst
  refine st_send m ρ 3 0 h1 (off10_eq c 0 0) rfl ?_
  obtain ⟨_, h1, hst⟩ := run_cons hst
  refine send_piece m ρ 3 0 h1 (dev24_eq c) (sem16 (off11_eq c 0 0) rfl) (sem16 (off12_eq c 3 0) rfl) (off14_eq c 0 0) (off13_own c) ?_
  obtain ⟨_, h1, hst⟩ := run_cons hst
  refine ld_slot m ρ 1 0 [true] h1 (off9_eq c 0 1) ?_
  obtain ⟨_, h1, hst⟩ := run_cons hst
  refine ld_x m ρ h1 ?_
  cases run_nil hst
  exact step_ret m ρ (h)

/-- The operations of part 9 of the body, with the cuts of shares between them. -/
def ops9 : List Op := [.use [.raw (.s 1 0)], .put (.s 1 0), .send (.a2a 1 0), .wrecv (.col 1), .cut (.w 0 1) [], .cut (.w 0 1) [true]]
theorem part9_runs {Q : (Σ' (v272 : BitVec 32), BitVec 32) → sProp 𝕄} (hst : run ops9 S = some S') (v2 v19 v20 v24 v186 : BitVec 32)
    (h : ∀ w0 w1 : BitVec 32, Inv m ρ c S' ⊢ Q ⟨w0, w1⟩) :
    Inv m ρ c S ⊢ WP c (k0_part9 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v24 v186 (k0_pay8 (scale m ρ c) (slab m ρ (peer c 1 0)) (xbv m ρ c)) (k0_pay9 (scale m ρ c) (slab m ρ (peer c 1 0)) (xbv m ρ c)) (k0_pay10 (F := F))) Q := by
  rw [k0_part9_eq_skeleton]
  unfold k0_part9_skel
  unfold ops9 at hst
  obtain ⟨_, h1, hst⟩ := run_cons hst
  refine ld_raw_send m ρ 1 0 h1 (off10_eq c 0 1) (fun _ => ?_)
  obtain ⟨_, h1, hst⟩ := run_cons hst
  refine st_send m ρ 1 0 h1 (off10_eq c 0 1) rfl ?_
  obtain ⟨_, h1, hst⟩ := run_cons hst
  refine send_piece m ρ 1 0 h1 (dev25_eq c) (sem16 (off11_eq c 0 1) rfl) (sem16 (off12_eq c 1 0) rfl) (off14_eq c 0 1) (off13_own c) ?_
  obtain ⟨_, h1, hst⟩ := run_cons hst
  refine step_wrecv m ρ h1 (e := .col 1) (sem4 (off2_eq c 1) rfl) (credit_slot _ _ (.col 1) rfl) ?_
  obtain ⟨_, h1, hst⟩ := run_cons hst
  refine step_cut m ρ h1 ?_
  obtain ⟨_, h1, hst⟩ := run_cons hst
  refine step_cut m ρ h1 ?_
  cases run_nil hst
  exact step_ret m ρ (h _ _)

end Cert.Ring
-- ==== Proof.Parts3.lean ====
/-
# Parts 10 to 14 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 10 of the body, with the cuts of shares between them. -/
def ops10 : List Op := [.send (.cwf 1), .send (.ccwf 1), .wrecv (.cwf 1), .cut (.w 3 1) [], .halve 3 1 [false]]
theorem part10_runs {Q : (BitVec 32) → sProp 𝕄} (hst : run ops10 S = some S') (v2 v20 v24 v27 v272 : BitVec 32)
    (h : ∀ w0 : BitVec 32, Inv m ρ c S' ⊢ Q (w0)) :
    Inv m ρ c S ⊢ WP c (k0_part10 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v20 v24 v27 v272) Q := by
  rw [k0_part10_eq_skeleton]
  unfold k0_part10_skel
  unfold ops10 at hst
  obtain ⟨_, h1, hst⟩ := run_cons hst
  refine send_slot m ρ (.cwf 1) h1 (dev26_eq c) (sem4 (off2_eq c 1) rfl) (sem4 (off2_col c 1 1) rfl) rfl rfl (peer c 0 1) (off15_eq c 1) rfl (hop c 1 3 1) rfl ?_
  obtain ⟨_, h1, hst⟩ := run_cons hst
  refine send_slot m ρ (.ccwf 1) h1 (dev27_eq c) (sem4 (off2_eq c 1) rfl) (sem4 (off2_col c 3 1) rfl) rfl rfl (peer c 0 1) (off15_eq c 1) rfl (hop c 3 1 1) rfl ?_
  obtain ⟨_, h1, hst⟩ := run_cons hst
  refine step_wrecv m ρ h1 (e := .cwf 1) (sem4 (off2_eq c 1) rfl) (credit_slot _ _ (.cwf 1) rfl) ?_
  obtain ⟨_, h1, hst⟩ := run_cons hst
  refine step_cut m ρ h1 ?_
  obtain ⟨_, h1, hst⟩ := run_cons hst
  refine step_halve m ρ h1 ?_
  cases run_nil hst
  exact step_ret m ρ (h _)

/-- The operations of part 11 of the body, with the cuts of shares between them. -/
def ops11 : List Op := [.send (.cwh 1), .wrecv (.ccwf 1), .cut (.w 1 1) [], .halve 1 1 [false], .send (.ccwh 1), .use [.reg (.w 0 1) [true, true]], .use [.reg .x []]]
theorem part11_runs {Q : (Σ' (v328 : BitVec 32) (v354 : FVec F S256x128 .f32) (cst_240 : F .f32), F .f32) → sProp 𝕄} (hst : run ops11 S = some S') (v2 v20 v27 v272 v274 : BitVec 32)
    (h : ∀ w0 : BitVec 32, Inv m ρ c S' ⊢ Q ⟨w0, k0_pay12 (scale m ρ c) (slab m ρ (peer c 0 1)) (xbv m ρ c), (Scalar.ofBits .f32 0xC2700000#32 : F .f32), (Scalar.ofBits .f32 0x42700000#32 : F .f32)⟩) :
    Inv m ρ c S ⊢ WP c (k0_part11 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v20 v27 (scale m ρ c) v272 v274) Q := by
  rw [k0_part11_eq_skeleton]
  unfold k0_part11_skel
  unfold ops11 at hst
  obtain ⟨_, h1, hst⟩ := run_cons hst
  refine send_half m ρ (.cwh 1) h1 (dev28_eq c) (sem4 (off2_eq c 1) rfl) (sem4 (off2_col c 1 1) rfl) rfl rfl (peer c 3 1) (off7_eq c 1 0) rfl (hop c 1 2 1) rfl ?_
  obtain ⟨_, h1, hst⟩ := run_cons hst
  refine step_wrecv m ρ h1 (e := .ccwf 1) (sem4 (off2_eq c 1) rfl) (credit_slot _ _ (.ccwf 1) rfl) ?_
  obtain ⟨_, h1, hst⟩ := run_cons hst
  refine step_cut m ρ h1 ?_
  obtain ⟨_, h1, hst⟩ := run_cons hst
  refine step_halve m ρ h1 ?_
  obtain ⟨_, h1, hst⟩ := run_cons hst
  refine send_half m ρ (.ccwh 1) h1 (dev29_eq c) (sem4 (off2_eq c 1) rfl) (sem4 (off2_col c 3 1) rfl) rfl rfl (peer c 1 1) (off8_eq c 1 1) rfl (hop c 3 2 1) rfl ?_
  obtain ⟨_, h1, hst⟩ := run_cons hst
  refine ld_slot m ρ 0 1 [true, true] h1 (off16_eq c 1) ?_
  obtain ⟨_, h1, hst⟩ := run_cons hst
  refine ld_x m ρ h1 ?_
  cases run_nil hst
  exact step_ret m ρ (h _)

/-- The operations of part 12 of the body, with the cuts of shares between them. -/
def ops12 : List Op := [.use [.raw (.s 0 1)], .put (.s 0 1), .send (.a2a 0 1), .use [.reg (.w 3 1) [true]], .use [.reg .x []]]
theorem part12_runs {Q : (Σ' (v387 : FVec F S256x128 .f32), FVec F S256x128 .f32) → sProp 𝕄} (hst : run ops12 S = some S') (v274 v306 : BitVec 32)
    (h : Inv m ρ c S' ⊢ Q ⟨k0_pay14 (scale m ρ c) (slab m ρ (peer c 3 1)) (xbv m ρ c), k0_pay15 (scale m ρ c) (slab m ρ (peer c 3 1)) (xbv m ρ c)⟩) :
    Inv m ρ c S ⊢ WP c (k0_part12 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c (scale m ρ c) v274 v306 (k0_pay12 (scale m ρ c) (slab m ρ (peer c 0 1)) (xbv m ρ c)) ((Scalar.ofBits .f32 0xC2700000#32 : F .f32)) ((Scalar.ofBits .f32 0x42700000#32 : F .f32))) Q := by
  rw [k0_part12_eq_skeleton]
  unfold k0_part12_skel
  unfold ops12 at hst
  obtain ⟨_, h1, hst⟩ := run_cons hst
  refine ld_raw_send m ρ 0 1 h1 (off17_eq c 1) (fun _ => ?_)
  obtain ⟨_, h1, hst⟩ := run_cons hst
  refine st_send m ρ 0 1 h1 (off17_eq c 1) rfl ?_
  obtain ⟨_, h1, hst⟩ := run_cons hst
  refine send_piece m ρ 0 1 h1 (dev30_eq c) (sem16 (off18_eq c 1) rfl) (sem16 (off12_eq c 0 1) rfl) (off19_eq c 1) (off13_own c) ?_
  obtain ⟨_, h1, hst⟩ := run_cons hst
  refine ld_slot m ρ 3 1 [true] h1 (off9_eq c 1 0) ?_
  obtain ⟨_, h1, hst⟩ := run_cons hst
  refine ld_x m ρ h1 ?_
  cases run_nil hst
  exact step_ret m ρ (h)

/-- The operations of part 13 of the body, with the cuts of shares between them. -/
def ops13 : List Op := [.use [.raw (.s 3 1)], .put (.s 3 1), .send (.a2a 3 1), .use [.reg (.w 1 1) [true]], .use [.reg .x []]]
theorem part13_runs {Q : (FVec F S256x128 .bf16) → sProp 𝕄} (hst : run ops13 S = some S') (v306 v328 : BitVec 32)
    (h : Inv m ρ c S' ⊢ Q (k0_pay17 (scale m ρ c) (slab m ρ (peer c 1 1)) (xbv m ρ c))) :
    Inv m ρ c S ⊢ WP c (k0_part13 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c (scale m ρ c) v306 v328 (k0_pay14 (scale m ρ c) (slab m ρ (peer c 3 1)) (xbv m ρ c)) (k0_pay15 (scale m ρ c) (slab m ρ (peer c 3 1)) (xbv m ρ c))) Q := by
  rw [k0_part13_eq_skeleton]
  unfold k0_part13_skel
  unfold ops13 at hst
  obtain ⟨_, h1, hst⟩ := run_cons hst
  refine ld_raw_send m ρ 3 1 h1 (off10_eq c 1 0) (fun _ => ?_)
  obtain ⟨_, h1, hst⟩ := run_cons hst
  refine st_send m ρ 3 1 h1 (off10_eq c 1 0) rfl ?_
  obtain ⟨_, h1, hst⟩ := run_cons hst
  refine send_piece m ρ 3 1 h1 (dev31_eq c) (sem16 (off11_eq c 1 0) rfl) (sem16 (off12_eq c 3 1) rfl) (off14_eq c 1 0) (off13_own c) ?_
  obtain ⟨_, h1, hst⟩ := run_cons hst
  refine ld_slot m ρ 1 1 [true] h1 (off9_eq c 1 1) ?_
  obtain ⟨_, h1, hst⟩ := run_cons hst
  refine ld_x m ρ h1 ?_
  cases run_nil hst
  exact step_ret m ρ (h)

/-- The operations of part 14 of the body, with the cuts of shares between them. -/
def ops14 : List Op := [.use [.raw (.s 1 1)], .put (.s 1 1), .send (.a2a 1 1), .wrecv (.col 2), .cut (.w 0 2) [], .cut (.w 0 2) [true], .send (.cwf 2)]
theorem part14_runs {Q : (Σ' (v447 : BitVec 32), BitVec 32) → sProp 𝕄} (hst : run ops14 S = some S') (v2 v19 v20 v24 v328 : BitVec 32)
    (h : ∀ w0 w1 : BitVec 32, Inv m ρ c S' ⊢ Q ⟨w0, w1⟩) :
    Inv m ρ c S ⊢ WP c (k0_part14 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v24 v328 ((k0_pay17 (scale m ρ c) (slab m ρ (peer c 1 1)) (xbv m ρ c)))) Q := by
  rw [k0_part14_eq_skeleton]
  unfold k0_part14_skel
  unfold ops14 at hst
  obtain ⟨_, h1, hst⟩ := run_cons hst
  refine ld_raw_send m ρ 1 1 h1 (off10_eq c 1 1) (fun _ => ?_)
  obtain ⟨_, h1, hst⟩ := run_cons hst
  refine st_send m ρ 1 1 h1 (off10_eq c 1 1) rfl ?_
  obtain ⟨_, h1, hst⟩ := run_cons hst
  refine send_piece m ρ 1 1 h1 (dev32_eq c) (sem16 (off11_eq c 1 1) rfl) (sem16 (off12_eq c 1 1) rfl) (off14_eq c 1 1) (off13_own c) ?_
  obtain ⟨_, h1, hst⟩ := run_cons hst
  refine step_wrecv m ρ h1 (e := .col 2) (sem4 (off2_eq c 2) rfl) (credit_slot _ _ (.col 2) rfl) ?_
  obtain ⟨_, h1, hst⟩ := run_cons hst
  refine step_cut m ρ h1 ?_
  obtain ⟨_, h1, hst⟩ := run_cons hst
  refine step_cut m ρ h1 ?_
  obtain ⟨_, h1, hst⟩ := run_cons hst
  refine send_slot m ρ (.cwf 2) h1 (dev33_eq c) (sem4 (off2_eq c 2) rfl) (sem4 (off2_col c 1 2) rfl) rfl rfl (peer c 0 2) (off15_eq c 2) rfl (hop c 1 3 2) rfl ?_
  cases run_nil hst
  exact step_ret m ρ (h _ _)

end Cert.Ring
-- ==== Proof.Parts4.lean ====
/-
# Parts 15 to 19 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 15 of the body, with the cuts of shares between them. -/
def ops15 : List Op := [.send (.ccwf 2), .wrecv (.cwf 2), .cut (.w 3 2) [], .halve 3 2 [false], .send (.cwh 2)]
theorem part15_runs {Q : (Σ' (v481 : BitVec 32) (v500 : BitVec 32), BitVec 32) → sProp 𝕄} (hst : run ops15 S = some S') (v2 v20 v24 v27 v447 : BitVec 32)
    (h : ∀ w0 w1 w2 : BitVec 32, Inv m ρ c S' ⊢ Q ⟨w0, w1, w2⟩) :
    Inv m ρ c S ⊢ WP c (k0_part15 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v20 v24 v27 v447) Q := by
  rw [k0_part15_eq_skeleton]
  unfold k0_part15_skel
  unfold ops15 at hst
  obtain ⟨_, h1, hst⟩ := run_cons hst
  refine send_slot m ρ (.ccwf 2) h1 (dev34_eq c) (sem4 (off2_eq c 2) rfl) (sem4 (off2_col c 3 2) rfl) rfl rfl (peer c 0 2) (off15_eq c 2) rfl (hop c 3 1 2) rfl ?_
  obtain ⟨_, h1, hst⟩ := run_cons hst
  refine step_wrecv m ρ h1 (e := .cwf 2) (sem4 (off2_eq c 2) rfl) (credit_slot _ _ (.cwf 2) rfl) ?_
  obtain ⟨_, h1, hst⟩ := run_cons hst
  refine step_cut m ρ h1 ?_
  obtain ⟨_, h1, hst⟩ := run_cons hst
  refine step_halve m ρ h1 ?_
  obtain ⟨_, h1, hst⟩ := run_cons hst
  refine send_half m ρ (.cwh 2) h1 (dev35_eq c) (sem4 (off2_eq c 2) rfl) (sem4 (off2_col c 1 2) rfl) rfl rfl (peer c 3 2) (off7_eq c 2 0) rfl (hop c 1 2 2) rfl ?_
  cases run_nil hst
  exact step_ret m ρ (h _ _ _)

/-- The operations of part 16 of the body, with the cuts of shares between them. -/
def ops16 : List Op := [.wrecv (.ccwf 2), .cut (.w 1 2) [], .halve 1 2 [false], .send (.ccwh 2), .use [.reg (.w 0 2) [true, true]], .use [.reg .x []]]
theorem part16_runs {Q : (Σ' (v503 : BitVec 32) (v529 : FVec F S256x128 .f32) (v536 : FVec F S256x128 .f32), FVec F S256x128 .f32) → sProp 𝕄} (hst : run ops16 S = some S') (v2 v27 v449 v500 v501 : BitVec 32)
    (h : ∀ w0 : BitVec 32, Inv m ρ c S' ⊢ Q ⟨w0, k0_pay19 (scale m ρ c) (slab m ρ (peer c 0 2)) (xbv m ρ c), k0_pay20 (scale m ρ c) (slab m ρ (peer c 0 2)) (xbv m ρ c), k0_pay21 (F := F)⟩) :
    Inv m ρ c S ⊢ WP c (k0_part16 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v27 (scale m ρ c) v449 v500 v501) Q := by
  rw [k0_part16_eq_skeleton]
  unfold k0_part16_skel
  unfold ops16 at hst
  obtain ⟨_, h1, hst⟩ := run_cons hst
  refine step_wrecv m ρ h1 (e := .ccwf 2) (sem4 (off2_eq c 2) rfl) (credit_slot _ _ (.ccwf 2) rfl) ?_
  obtain ⟨_, h1, hst⟩ := run_cons hst
  refine step_cut m ρ h1 ?_
  obtain ⟨_, h1, hst⟩ := run_cons hst
  refine step_halve m ρ h1 ?_
  obtain ⟨_, h1, hst⟩ := run_cons hst
  refine send_half m ρ (.ccwh 2) h1 (dev36_eq c) (sem4 (off2_eq c 2) rfl) (sem4 (off2_col c 3 2) rfl) rfl rfl (peer c 1 2) (off8_eq c 2 1) rfl (hop c 3 2 2) rfl ?_
  obtain ⟨_, h1, hst⟩ := run_cons hst
  refine ld_slot m ρ 0 2 [true, true] h1 (off16_eq c 2) ?_
  obtain ⟨_, h1, hst⟩ := run_cons hst
  refine ld_x m ρ h1 ?_
  cases run_nil hst
  exact step_ret m ρ (h _)

/-- The operations of part 17 of the body, with the cuts of shares between them. -/
def ops17 : List Op := [.use [.raw (.s 0 2)], .put (.s 0 2), .send (.a2a 0 2), .use [.reg (.w 3 2) [true]], .use [.reg .x []], .use [.raw (.s 3 2)]]
theorem part17_runs {Q : (FVec F S256x128 .bf16) → sProp 𝕄} (hst : run ops17 S = some S') (v449 v481 : BitVec 32)
    (h : Inv m ρ c S' ⊢ Q (k0_pay23 (scale m ρ c) (slab m ρ (peer c 3 2)) (xbv m ρ c))) :
    Inv m ρ c S ⊢ WP c (k0_part17 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c (scale m ρ c) v449 v481 (k0_pay19 (scale m ρ c) (slab m ρ (peer c 0 2)) (xbv m ρ c)) (k0_pay20 (scale m ρ c) (slab m ρ (peer c 0 2)) (xbv m ρ c)) (k0_pay21 (F := F))) Q := by
  rw [k0_part17_eq_skeleton]
  unfold k0_part17_skel
  unfold ops17 at hst
  obtain ⟨_, h1, hst⟩ := run_cons hst
  refine ld_raw_send m ρ 0 2 h1 (off17_eq c 2) (fun _ => ?_)
  obtain ⟨_, h1, hst⟩ := run_cons hst
  refine st_send m ρ 0 2 h1 (off17_eq c 2) rfl ?_
  obtain ⟨_, h1, hst⟩ := run_cons hst
  refine send_piece m ρ 0 2 h1 (dev37_eq c) (sem16 (off18_eq c 2) rfl) (sem16 (off12_eq c 0 2) rfl) (off19_eq c 2) (off13_own c) ?_
  obtain ⟨_, h1, hst⟩ := run_cons hst
  refine ld_slot m ρ 3 2 [true] h1 (off9_eq c 2 0) ?_
  obtain ⟨_, h1, hst⟩ := run_cons hst
  refine ld_x m ρ h1 ?_
  obtain ⟨_, h1, hst⟩ := run_cons hst
  refine ld_raw_send m ρ 3 2 h1 (off10_eq c 2 0) (fun _ => ?_)
  cases run_nil hst
  exact step_ret m ρ (h)

/-- The operations of part 18 of the body, with the cuts of shares between them. -/
def ops18 : List Op := [.put (.s 3 2), .send (.a2a 3 2), .use [.reg (.w 1 2) [true]], .use [.reg .x []], .use [.raw (.s 1 2)], .put (.s 1 2)]
theorem part18_runs {Q : (PUnit) → sProp 𝕄} (hst : run ops18 S = some S') (v481 v503 : BitVec 32)
    (h : Inv m ρ c S' ⊢ Q ⟨⟩) :
    Inv m ρ c S ⊢ WP c (k0_part18 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c (scale m ρ c) v481 v503 ((k0_pay23 (scale m ρ c) (slab m ρ (peer c 3 2)) (xbv m ρ c)))) Q := by
  rw [k0_part18_eq_skeleton]
  unfold k0_part18_skel
  unfold ops18 at hst
  obtain ⟨_, h1, hst⟩ := run_cons hst
  refine st_send m ρ 3 2 h1 (off10_eq c 2 0) rfl ?_
  obtain ⟨_, h1, hst⟩ := run_cons hst
  refine send_piece m ρ 3 2 h1 (dev38_eq c) (sem16 (off11_eq c 2 0) rfl) (sem16 (off12_eq c 3 2) rfl) (off14_eq c 2 0) (off13_own c) ?_
  obtain ⟨_, h1, hst⟩ := run_cons hst
  refine ld_slot m ρ 1 2 [true] h1 (off9_eq c 2 1) ?_
  obtain ⟨_, h1, hst⟩ := run_cons hst
  refine ld_x m ρ h1 ?_
  obtain ⟨_, h1, hst⟩ := run_cons hst
  refine ld_raw_send m ρ 1 2 h1 (off10_eq c 2 1) (fun _ => ?_)
  obtain ⟨_, h1, hst⟩ := run_cons hst
  refine st_send m ρ 1 2 h1 (off10_eq c 2 1) rfl ?_
  cases run_nil hst
  exact step_ret m ρ (h)

/-- The operations of part 19 of the body, with the cuts of shares between them. -/
def ops19 : List Op := [.send (.a2a 1 2), .wrecv (.col 3), .cut (.w 0 3) [], .cut (.w 0 3) [true], .send (.cwf 3)]
theorem part19_runs {Q : (Σ' (v622 : BitVec 32), BitVec 32) → sProp 𝕄} (hst : run ops19 S = some S') (v2 v19 v20 v24 v27 : BitVec 32)
    (h : ∀ w0 w1 : BitVec 32, Inv m ρ c S' ⊢ Q ⟨w0, w1⟩) :
    Inv m ρ c S ⊢ WP c (k0_part19 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v24 v27) Q := by
  rw [k0_part19_eq_skeleton]
  unfold k0_part19_skel
  unfold ops19 at hst
  obtain ⟨_, h1, hst⟩ := run_cons hst
  refine send_piece m ρ 1 2 h1 (dev39_eq c) (sem16 (off11_eq c 2 1) rfl) (sem16 (off12_eq c 1 2) rfl) (off14_eq c 2 1) (off13_own c) ?_
  obtain ⟨_, h1, hst⟩ := run_cons hst
  refine step_wrecv m ρ h1 (e := .col 3) (sem4 (off2_eq c 3) rfl) (credit_slot _ _ (.col 3) rfl) ?_
  obtain ⟨_, h1, hst⟩ := run_cons hst
  refine step_cut m ρ h1 ?_
  obtain ⟨_, h1, hst⟩ := run_cons hst
  refine step_cut m ρ h1 ?_
  obtain ⟨_, h1, hst⟩ := run_cons hst
  refine send_slot m ρ (.cwf 3) h1 (dev40_eq c) (sem4 (off2_eq c 3) rfl) (sem4 (off2_col c 1 3) rfl) rfl rfl (peer c 0 3) (off15_eq c 3) rfl (hop c 1 3 3) rfl ?_
  cases run_nil hst
  exact step_ret m ρ (h _ _)

end Cert.Ring
-- ==== Proof.Parts5.lean ====
/-
# Parts 20 to 24 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 20 of the body, with the cuts of shares between them. -/
def ops20 : List Op := [.send (.ccwf 3), .wrecv (.cwf 3), .cut (.w 3 3) [], .halve 3 3 [false], .send (.cwh 3)]
theorem part20_runs {Q : (Σ' (v656 : BitVec 32), BitVec 32) → sProp 𝕄} (hst : run ops20 S = some S') (v2 v20 v24 v622 : BitVec 32)
    (h : ∀ w0 w1 : BitVec 32, Inv m ρ c S' ⊢ Q ⟨w0, w1⟩) :
    Inv m ρ c S ⊢ WP c (k0_part20 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v20 v24 v622) Q := by
  rw [k0_part20_eq_skeleton]
  unfold k0_part20_skel
  unfold ops20 at hst
  obtain ⟨_, h1, hst⟩ := run_cons hst
  refine send_slot m ρ (.ccwf 3) h1 (dev41_eq c) (sem4 (off2_eq c 3) rfl) (sem4 (off2_col c 3 3) rfl) rfl rfl (peer c 0 3) (off15_eq c 3) rfl (hop c 3 1 3) rfl ?_
  obtain ⟨_, h1, hst⟩ := run_cons hst
  refine step_wrecv m ρ h1 (e := .cwf 3) (sem4 (off2_eq c 3) rfl) (credit_slot _ _ (.cwf 3) rfl) ?_
  obtain ⟨_, h1, hst⟩ := run_cons hst
  refine step_cut m ρ h1 ?_
  obtain ⟨_, h1, hst⟩ := run_cons hst
  refine step_halve m ρ h1 ?_
  obtain ⟨_, h1, hst⟩ := run_cons hst
  refine send_half m ρ (.cwh 3) h1 (dev42_eq c) (sem4 (off2_eq c 3) rfl) (sem4 (off2_col c 1 3) rfl) rfl rfl (peer c 3 3) (off7_eq c 3 0) rfl (hop c 1 2 3) rfl ?_
  cases run_nil hst
  exact step_ret m ρ (h _ _)

/-- The operations of part 21 of the body, with the cuts of shares between them. -/
def ops21 : List Op := [.wrecv (.ccwf 3), .cut (.w 1 3) [], .halve 1 3 [false], .send (.ccwh 3), .use [.reg (.w 0 3) [true, true]], .use [.reg .x []], .use [.raw (.s 0 3)], .put (.s 0 3)]
theorem part21_runs {Q : (PUnit) → sProp 𝕄} (hst : run ops21 S = some S') (v27 v624 : BitVec 32)
    (h : Inv m ρ c S' ⊢ Q ⟨⟩) :
    Inv m ρ c S ⊢ WP c (k0_part21 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v27 (scale m ρ c) v624) Q := by
  rw [k0_part21_eq_skeleton]
  unfold k0_part21_skel
  unfold ops21 at hst
  obtain ⟨_, h1, hst⟩ := run_cons hst
  refine step_wrecv m ρ h1 (e := .ccwf 3) (sem4 (off2_eq c 3) rfl) (credit_slot _ _ (.ccwf 3) rfl) ?_
  obtain ⟨_, h1, hst⟩ := run_cons hst
  refine step_cut m ρ h1 ?_
  obtain ⟨_, h1, hst⟩ := run_cons hst
  refine step_halve m ρ h1 ?_
  obtain ⟨_, h1, hst⟩ := run_cons hst
  refine send_half m ρ (.ccwh 3) h1 (dev43_eq c) (sem4 (off2_eq c 3) rfl) (sem4 (off2_col c 3 3) rfl) rfl rfl (peer c 1 3) (off8_eq c 3 1) rfl (hop c 3 2 3) rfl ?_
  obtain ⟨_, h1, hst⟩ := run_cons hst
  refine ld_slot m ρ 0 3 [true, true] h1 (off16_eq c 3) ?_
  obtain ⟨_, h1, hst⟩ := run_cons hst
  refine ld_x m ρ h1 ?_
  obtain ⟨_, h1, hst⟩ := run_cons hst
  refine ld_raw_send m ρ 0 3 h1 (off17_eq c 3) (fun _ => ?_)
  obtain ⟨_, h1, hst⟩ := run_cons hst
  refine st_send m ρ 0 3 h1 (off17_eq c 3) rfl ?_
  cases run_nil hst
  exact step_ret m ρ (h)

/-- The operations of part 22 of the body, with the cuts of shares between them. -/
def ops22 : List Op := [.send (.a2a 0 3), .use [.reg (.w 3 3) [true]], .use [.reg .x []], .use [.raw (.s 3 3)], .put (.s 3 3)]
theorem part22_runs {Q : (PUnit) → sProp 𝕄} (hst : run ops22 S = some S') (v624 v656 : BitVec 32)
    (h : Inv m ρ c S' ⊢ Q ⟨⟩) :
    Inv m ρ c S ⊢ WP c (k0_part22 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c (scale m ρ c) v624 v656) Q := by
  rw [k0_part22_eq_skeleton]
  unfold k0_part22_skel
  unfold ops22 at hst
  obtain ⟨_, h1, hst⟩ := run_cons hst
  refine send_piece m ρ 0 3 h1 (dev44_eq c) (sem16 (off18_eq c 3) rfl) (sem16 (off12_eq c 0 3) rfl) (off19_eq c 3) (off13_own c) ?_
  obtain ⟨_, h1, hst⟩ := run_cons hst
  refine ld_slot m ρ 3 3 [true] h1 (off9_eq c 3 0) ?_
  obtain ⟨_, h1, hst⟩ := run_cons hst
  refine ld_x m ρ h1 ?_
  obtain ⟨_, h1, hst⟩ := run_cons hst
  refine ld_raw_send m ρ 3 3 h1 (off10_eq c 3 0) (fun _ => ?_)
  obtain ⟨_, h1, hst⟩ := run_cons hst
  refine st_send m ρ 3 3 h1 (off10_eq c 3 0) rfl ?_
  cases run_nil hst
  exact step_ret m ρ (h)

/-- The operations of part 23 of the body, with the cuts of shares between them. -/
def ops23 : List Op := [.send (.a2a 3 3), .use [.reg (.w 1 3) [true]], .use [.reg .x []], .use [.raw (.s 1 3)], .put (.s 1 3)]
theorem part23_runs {Q : (PUnit) → sProp 𝕄} (hst : run ops23 S = some S') (v678 : BitVec 32)
    (h : Inv m ρ c S' ⊢ Q ⟨⟩) :
    Inv m ρ c S ⊢ WP c (k0_part23 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c (scale m ρ c) v678) Q := by
  rw [k0_part23_eq_skeleton]
  unfold k0_part23_skel
  unfold ops23 at hst
  obtain ⟨_, h1, hst⟩ := run_cons hst
  refine send_piece m ρ 3 3 h1 (dev45_eq c) (sem16 (off11_eq c 3 0) rfl) (sem16 (off12_eq c 3 3) rfl) (off14_eq c 3 0) (off13_own c) ?_
  obtain ⟨_, h1, hst⟩ := run_cons hst
  refine ld_slot m ρ 1 3 [true] h1 (off9_eq c 3 1) ?_
  obtain ⟨_, h1, hst⟩ := run_cons hst
  refine ld_x m ρ h1 ?_
  obtain ⟨_, h1, hst⟩ := run_cons hst
  refine ld_raw_send m ρ 1 3 h1 (off10_eq c 3 1) (fun _ => ?_)
  obtain ⟨_, h1, hst⟩ := run_cons hst
  refine st_send m ρ 1 3 h1 (off10_eq c 3 1) rfl ?_
  cases run_nil hst
  exact step_ret m ρ (h)

/-- The operations of part 24 of the body, with the cuts of shares between them. -/
def ops24 : List Op := [.send (.a2a 1 3), .wrecv (.cwh 0), .wrecv (.ccwh 0), .join 2 0 [], .use [.reg (.w 2 0) []], .use [.reg .x []]]
theorem part24_runs {Q : (Σ' (v801 : BitVec 32) (v825 : FVec F S256x128 .f32) (v827 : FVec F S256x128 .f32), FVec F S256x128 .f32) → sProp 𝕄} (hst : run ops24 S = some S') (v2 v19 v20 : BitVec 32)
    (h : ∀ w0 : BitVec 32, Inv m ρ c S' ⊢ Q ⟨w0, k0_pay29 (scale m ρ c) (slab m ρ (peer c 2 0)) (xbv m ρ c), k0_pay30 (scale m ρ c) (slab m ρ (peer c 2 0)) (xbv m ρ c), k0_pay31 (F := F)⟩) :
    Inv m ρ c S ⊢ WP c (k0_part24 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 (scale m ρ c)) Q := by
  rw [k0_part24_eq_skeleton]
  unfold k0_part24_skel
  unfold ops24 at hst
  obtain ⟨_, h1, hst⟩ := run_cons hst
  refine send_piece m ρ 1 3 h1 (dev46_eq c) (sem16 (off11_eq c 3 1) rfl) (sem16 (off12_eq c 1 3) rfl) (off14_eq c 3 1) (off13_own c) ?_
  obtain ⟨_, h1, hst⟩ := run_cons hst
  refine step_wrecv m ρ h1 (e := .cwh 0) (sem4 (off2_eq c 0) rfl) (credit_half _ _ (.cwh 0) rfl) ?_
  obtain ⟨_, h1, hst⟩ := run_cons hst
  refine step_wrecv m ρ h1 (e := .ccwh 0) (sem4 (off2_eq c 0) rfl) (credit_half _ _ (.ccwh 0) rfl) ?_
  obtain ⟨_, h1, hst⟩ := run_cons hst
  refine step_join m ρ h1 ?_
  obtain ⟨_, h1, hst⟩ := run_cons hst
  refine ld_slot m ρ 2 0 [] h1 (off9_eq c 0 2) ?_
  obtain ⟨_, h1, hst⟩ := run_cons hst
  refine ld_x m ρ h1 ?_
  cases run_nil hst
  exact step_ret m ρ (h _)

end Cert.Ring
-- ==== Proof.Parts6.lean ====
/-
# Parts 25 to 31 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 25 of the body, with the cuts of shares between them. -/
def ops25 : List Op := [.use [.raw (.s 2 0)], .put (.s 2 0), .send (.a2a 2 0), .wrecv (.cwh 1)]
theorem part25_runs {Q : (BitVec 32) → sProp 𝕄} (hst : run ops25 S = some S') (v2 v19 v20 v801 : BitVec 32)
    (h : ∀ w0 : BitVec 32, Inv m ρ c S' ⊢ Q (w0)) :
    Inv m ρ c S ⊢ WP c (k0_part25 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v801 (k0_pay29 (scale m ρ c) (slab m ρ (peer c 2 0)) (xbv m ρ c)) (k0_pay30 (scale m ρ c) (slab m ρ (peer c 2 0)) (xbv m ρ c)) (k0_pay31 (F := F))) Q := by
  rw [k0_part25_eq_skeleton]
  unfold k0_part25_skel
  unfold ops25 at hst
  obtain ⟨_, h1, hst⟩ := run_cons hst
  refine ld_raw_send m ρ 2 0 h1 (off10_eq c 0 2) (fun _ => ?_)
  obtain ⟨_, h1, hst⟩ := run_cons hst
  refine st_send m ρ 2 0 h1 (off10_eq c 0 2) rfl ?_
  obtain ⟨_, h1, hst⟩ := run_cons hst
  refine send_piece m ρ 2 0 h1 (dev47_eq c) (sem16 (off11_eq c 0 2) rfl) (sem16 (off12_eq c 2 0) rfl) (off14_eq c 0 2) (off13_own c) ?_
  obtain ⟨_, h1, hst⟩ := run_cons hst
  refine step_wrecv m ρ h1 (e := .cwh 1) (sem4 (off2_eq c 1) rfl) (credit_half _ _ (.cwh 1) rfl) ?_
  cases run_nil hst
  exact step_ret m ρ (h _)

/-- The operations of part 26 of the body, with the cuts of shares between them. -/
def ops26 : List Op := [.wrecv (.ccwh 1), .join 2 1 [], .use [.reg (.w 2 1) []], .use [.reg .x []], .use [.raw (.s 2 1)], .put (.s 2 1)]
theorem part26_runs {Q : (PUnit) → sProp 𝕄} (hst : run ops26 S = some S') (v2 v856 : BitVec 32)
    (h : Inv m ρ c S' ⊢ Q ⟨⟩) :
    Inv m ρ c S ⊢ WP c (k0_part26 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 (scale m ρ c) v856) Q := by
  rw [k0_part26_eq_skeleton]
  unfold k0_part26_skel
  unfold ops26 at hst
  obtain ⟨_, h1, hst⟩ := run_cons hst
  refine step_wrecv m ρ h1 (e := .ccwh 1) (sem4 (off2_eq c 1) rfl) (credit_half _ _ (.ccwh 1) rfl) ?_
  obtain ⟨_, h1, hst⟩ := run_cons hst
  refine step_join m ρ h1 ?_
  obtain ⟨_, h1, hst⟩ := run_cons hst
  refine ld_slot m ρ 2 1 [] h1 (off9_eq c 1 2) ?_
  obtain ⟨_, h1, hst⟩ := run_cons hst
  refine ld_x m ρ h1 ?_
  obtain ⟨_, h1, hst⟩ := run_cons hst
  refine ld_raw_send m ρ 2 1 h1 (off10_eq c 1 2) (fun _ => ?_)
  obtain ⟨_, h1, hst⟩ := run_cons hst
  refine st_send m ρ 2 1 h1 (off10_eq c 1 2) rfl ?_
  cases run_nil hst
  exact step_ret m ρ (h)

/-- The operations of part 27 of the body, with the cuts of shares between them. -/
def ops27 : List Op := [.send (.a2a 2 1), .wrecv (.cwh 2), .wrecv (.ccwh 2), .join 2 2 [], .use [.reg (.w 2 2) []], .use [.reg .x []]]
theorem part27_runs {Q : (Σ' (v911 : BitVec 32) (v933 : FVec F S256x128 .f32), FVec F S256x128 .f32) → sProp 𝕄} (hst : run ops27 S = some S') (v2 v19 v20 : BitVec 32)
    (h : ∀ w0 : BitVec 32, Inv m ρ c S' ⊢ Q ⟨w0, k0_pay34 (slab m ρ (peer c 2 2)) (xbv m ρ c), k0_pay35 (scale m ρ c)⟩) :
    Inv m ρ c S ⊢ WP c (k0_part27 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 (scale m ρ c)) Q := by
  rw [k0_part27_eq_skeleton]
  unfold k0_part27_skel
  unfold ops27 at hst
  obtain ⟨_, h1, hst⟩ := run_cons hst
  refine send_piece m ρ 2 1 h1 (dev48_eq c) (sem16 (off11_eq c 1 2) rfl) (sem16 (off12_eq c 2 1) rfl) (off14_eq c 1 2) (off13_own c) ?_
  obtain ⟨_, h1, hst⟩ := run_cons hst
  refine step_wrecv m ρ h1 (e := .cwh 2) (sem4 (off2_eq c 2) rfl) (credit_half _ _ (.cwh 2) rfl) ?_
  obtain ⟨_, h1, hst⟩ := run_cons hst
  refine step_wrecv m ρ h1 (e := .ccwh 2) (sem4 (off2_eq c 2) rfl) (credit_half _ _ (.ccwh 2) rfl) ?_
  obtain ⟨_, h1, hst⟩ := run_cons hst
  refine step_join m ρ h1 ?_
  obtain ⟨_, h1, hst⟩ := run_cons hst
  refine ld_slot m ρ 2 2 [] h1 (off9_eq c 2 2) ?_
  obtain ⟨_, h1, hst⟩ := run_cons hst
  refine ld_x m ρ h1 ?_
  cases run_nil hst
  exact step_ret m ρ (h _)

/-- The operations of part 28 of the body, with the cuts of shares between them. -/
def ops28 : List Op := [.use [.raw (.s 2 2)], .put (.s 2 2), .send (.a2a 2 2)]
theorem part28_runs {Q : (BitVec 32) → sProp 𝕄} (hst : run ops28 S = some S') (v2 v19 v20 v911 : BitVec 32)
    (h : ∀ w0 : BitVec 32, Inv m ρ c S' ⊢ Q (w0)) :
    Inv m ρ c S ⊢ WP c (k0_part28 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v911 (k0_pay34 (slab m ρ (peer c 2 2)) (xbv m ρ c)) (k0_pay35 (scale m ρ c))) Q := by
  rw [k0_part28_eq_skeleton]
  unfold k0_part28_skel
  unfold ops28 at hst
  obtain ⟨_, h1, hst⟩ := run_cons hst
  refine ld_raw_send m ρ 2 2 h1 (off10_eq c 2 2) (fun _ => ?_)
  obtain ⟨_, h1, hst⟩ := run_cons hst
  refine st_send m ρ 2 2 h1 (off10_eq c 2 2) rfl ?_
  obtain ⟨_, h1, hst⟩ := run_cons hst
  refine send_piece m ρ 2 2 h1 (dev49_eq c) (sem16 (off11_eq c 2 2) rfl) (sem16 (off12_eq c 2 2) rfl) (off14_eq c 2 2) (off13_own c) ?_
  cases run_nil hst
  exact step_ret m ρ (h _)

/-- The operations of part 29 of the body, with the cuts of shares between them. -/
def ops29 : List Op := [.wrecv (.cwh 3), .wrecv (.ccwh 3), .join 2 3 [], .use [.reg (.w 2 3) []], .use [.reg .x []], .use [.raw (.s 2 3)], .put (.s 2 3)]
theorem part29_runs {Q : (PUnit) → sProp 𝕄} (hst : run ops29 S = some S') (v2 v966 : BitVec 32)
    (h : Inv m ρ c S' ⊢ Q ⟨⟩) :
    Inv m ρ c S ⊢ WP c (k0_part29 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 (scale m ρ c) v966) Q := by
  rw [k0_part29_eq_skeleton]
  unfold k0_part29_skel
  unfold ops29 at hst
  obtain ⟨_, h1, hst⟩ := run_cons hst
  refine step_wrecv m ρ h1 (e := .cwh 3) (sem4 (off2_eq c 3) rfl) (credit_half _ _ (.cwh 3) rfl) ?_
  obtain ⟨_, h1, hst⟩ := run_cons hst
  refine step_wrecv m ρ h1 (e := .ccwh 3) (sem4 (off2_eq c 3) rfl) (credit_half _ _ (.ccwh 3) rfl) ?_
  obtain ⟨_, h1, hst⟩ := run_cons hst
  refine step_join m ρ h1 ?_
  obtain ⟨_, h1, hst⟩ := run_cons hst
  refine ld_slot m ρ 2 3 [] h1 (off9_eq c 3 2) ?_
  obtain ⟨_, h1, hst⟩ := run_cons hst
  refine ld_x m ρ h1 ?_
  obtain ⟨_, h1, hst⟩ := run_cons hst
  refine ld_raw_send m ρ 2 3 h1 (off10_eq c 3 2) (fun _ => ?_)
  obtain ⟨_, h1, hst⟩ := run_cons hst
  refine st_send m ρ 2 3 h1 (off10_eq c 3 2) rfl ?_
  cases run_nil hst
  exact step_ret m ρ (h)

/-- The operations of part 30 of the body, with the cuts of shares between them. -/
def ops30 : List Op := [.send (.a2a 2 3), .wrecv (.a2a 3 0), .use [.reg (.d 3 0) []], .use [.raw (.o 3 0)], .put (.o 3 0)]
theorem part30_runs {Q : (Σ' (v1040 : BitVec 32), BitVec 32) → sProp 𝕄} (hst : run ops30 S = some S') (v2 v19 v20 : BitVec 32)
    (h : ∀ w0 w1 : BitVec 32, Inv m ρ c S' ⊢ Q ⟨w0, w1⟩) :
    Inv m ρ c S ⊢ WP c (k0_part30 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20) Q := by
  rw [k0_part30_eq_skeleton]
  unfold k0_part30_skel
  unfold ops30 at hst
  obtain ⟨_, h1, hst⟩ := run_cons hst
  refine send_piece m ρ 2 3 h1 (dev50_eq c) (sem16 (off11_eq c 3 2) rfl) (sem16 (off12_eq c 2 3) rfl) (off14_eq c 3 2) (off13_own c) ?_
  obtain ⟨_, h1, hst⟩ := run_cons hst
  refine step_wrecv m ρ h1 (e := .a2a 3 0) (sem16 (off11_eq c 0 0) rfl) (credit_recv _ _ 3 0) ?_
  obtain ⟨_, h1, hst⟩ := run_cons hst
  refine ld_piece m ρ 3 0 [] h1 (off10_eq c 0 0) ?_
  obtain ⟨_, h1, hst⟩ := run_cons hst
  refine ld_raw_rows m ρ 3 0 h1 (off20_eq c 0 0) (fun _ => ?_)
  obtain ⟨_, h1, hst⟩ := run_cons hst
  refine st_rows m ρ 3 0 h1 (off20_eq c 0 0) (rowv_of m ρ (peer_ne c 3 0 (by decide))) ?_
  cases run_nil hst
  exact step_ret m ρ (h _ _)

/-- The operations of part 31 of the body, with the cuts of shares between them. -/
def ops31 : List Op := [.wrecv (.a2a 1 0), .use [.reg (.d 1 0) []], .use [.raw (.o 1 0)], .put (.o 1 0), .wrecv (.a2a 0 1), .use [.reg (.d 0 1) []], .use [.raw (.o 0 1)], .put (.o 0 1)]
theorem part31_runs {Q : (Σ' (v1057 : BitVec 32), BitVec 32) → sProp 𝕄} (hst : run ops31 S = some S') (v2 v19 v20 v1040 v1041 : BitVec 32)
    (h : ∀ w0 w1 : BitVec 32, Inv m ρ c S' ⊢ Q ⟨w0, w1⟩) :
    Inv m ρ c S ⊢ WP c (k0_part31 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v1040 v1041) Q := by
  rw [k0_part31_eq_skeleton]
  unfold k0_part31_skel
  unfold ops31 at hst
  obtain ⟨_, h1, hst⟩ := run_cons hst
  refine step_wrecv m ρ h1 (e := .a2a 1 0) (sem16 (off11_eq c 0 1) rfl) (credit_recv _ _ 1 0) ?_
  obtain ⟨_, h1, hst⟩ := run_cons hst
  refine ld_piece m ρ 1 0 [] h1 (off10_eq c 0 1) ?_
  obtain ⟨_, h1, hst⟩ := run_cons hst
  refine ld_raw_rows m ρ 1 0 h1 (off20_eq c 0 1) (fun _ => ?_)
  obtain ⟨_, h1, hst⟩ := run_cons hst
  refine st_rows m ρ 1 0 h1 (off20_eq c 0 1) (rowv_of m ρ (peer_ne c 1 0 (by decide))) ?_
  obtain ⟨_, h1, hst⟩ := run_cons hst
  refine step_wrecv m ρ h1 (e := .a2a 0 1) (sem16 (off18_eq c 1) rfl) (credit_recv _ _ 0 1) ?_
  obtain ⟨_, h1, hst⟩ := run_cons hst
  refine ld_piece m ρ 0 1 [] h1 (off17_eq c 1) ?_
  obtain ⟨_, h1, hst⟩ := run_cons hst
  refine ld_raw_rows m ρ 0 1 h1 (off21_eq c 1) (fun _ => ?_)
  obtain ⟨_, h1, hst⟩ := run_cons hst
  refine st_rows m ρ 0 1 h1 (off21_eq c 1) (rowv_of m ρ (peer_ne c 0 1 (by decide))) ?_
  cases run_nil hst
  exact step_ret m ρ (h _ _)

end Cert.Ring
-- ==== Proof.Parts7.lean ====
/-
# Parts 32 to 39 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 32 of the body, with the cuts of shares between them. -/
def ops32 : List Op := [.wrecv (.a2a 3 1), .use [.reg (.d 3 1) []], .use [.raw (.o 3 1)], .put (.o 3 1), .wrecv (.a2a 1 1), .use [.reg (.d 1 1) []]]
theorem part32_runs {Q : (Σ' (v1097 : BitVec 32), FVec F S256x128 .bf16) → sProp 𝕄} (hst : run ops32 S = some S') (v2 v20 v1057 c4_i32_667 : BitVec 32)
    (h : ∀ w0 : BitVec 32, Inv m ρ c S' ⊢ Q ⟨w0, k0_pay42 (blk m ρ (peer c 1 1) c)⟩) :
    Inv m ρ c S ⊢ WP c (k0_part32 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v20 v1057 c4_i32_667) Q := by
  rw [k0_part32_eq_skeleton]
  unfold k0_part32_skel
  unfold ops32 at hst
  obtain ⟨_, h1, hst⟩ := run_cons hst
  refine step_wrecv m ρ h1 (e := .a2a 3 1) (sem16 (off11_eq c 1 0) rfl) (credit_recv _ _ 3 1) ?_
  obtain ⟨_, h1, hst⟩ := run_cons hst
  refine ld_piece m ρ 3 1 [] h1 (off10_eq c 1 0) ?_
  obtain ⟨_, h1, hst⟩ := run_cons hst
  refine ld_raw_rows m ρ 3 1 h1 (off20_eq c 1 0) (fun _ => ?_)
  obtain ⟨_, h1, hst⟩ := run_cons hst
  refine st_rows m ρ 3 1 h1 (off20_eq c 1 0) (rowv_of m ρ (peer_ne c 3 1 (by decide))) ?_
  obtain ⟨_, h1, hst⟩ := run_cons hst
  refine step_wrecv m ρ h1 (e := .a2a 1 1) (sem16 (off11_eq c 1 1) rfl) (credit_recv _ _ 1 1) ?_
  obtain ⟨_, h1, hst⟩ := run_cons hst
  refine ld_piece m ρ 1 1 [] h1 (off10_eq c 1 1) ?_
  cases run_nil hst
  exact step_ret m ρ (h _)

/-- The operations of part 33 of the body, with the cuts of shares between them. -/
def ops33 : List Op := [.use [.raw (.o 1 1)], .put (.o 1 1), .wrecv (.a2a 0 2), .use [.reg (.d 0 2) []], .use [.raw (.o 0 2)], .put (.o 0 2)]
theorem part33_runs {Q : (Σ' (v1114 : BitVec 32), BitVec 32) → sProp 𝕄} (hst : run ops33 S = some S') (v2 v19 v20 v1097 : BitVec 32)
    (h : ∀ w0 w1 : BitVec 32, Inv m ρ c S' ⊢ Q ⟨w0, w1⟩) :
    Inv m ρ c S ⊢ WP c (k0_part33 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v1097 (k0_pay42 (blk m ρ (peer c 1 1) c))) Q := by
  rw [k0_part33_eq_skeleton]
  unfold k0_part33_skel
  unfold ops33 at hst
  obtain ⟨_, h1, hst⟩ := run_cons hst
  refine ld_raw_rows m ρ 1 1 h1 (off20_eq c 1 1) (fun _ => ?_)
  obtain ⟨_, h1, hst⟩ := run_cons hst
  refine st_rows m ρ 1 1 h1 (off20_eq c 1 1) (rowv_of m ρ (peer_ne c 1 1 (by decide))) ?_
  obtain ⟨_, h1, hst⟩ := run_cons hst
  refine step_wrecv m ρ h1 (e := .a2a 0 2) (sem16 (off18_eq c 2) rfl) (credit_recv _ _ 0 2) ?_
  obtain ⟨_, h1, hst⟩ := run_cons hst
  refine ld_piece m ρ 0 2 [] h1 (off17_eq c 2) ?_
  obtain ⟨_, h1, hst⟩ := run_cons hst
  refine ld_raw_rows m ρ 0 2 h1 (off21_eq c 2) (fun _ => ?_)
  obtain ⟨_, h1, hst⟩ := run_cons hst
  refine st_rows m ρ 0 2 h1 (off21_eq c 2) (rowv_of m ρ (peer_ne c 0 2 (by decide))) ?_
  cases run_nil hst
  exact step_ret m ρ (h _ _)

/-- The operations of part 34 of the body, with the cuts of shares between them. -/
def ops34 : List Op := [.wrecv (.a2a 3 2), .use [.reg (.d 3 2) []], .use [.raw (.o 3 2)], .put (.o 3 2), .wrecv (.a2a 1 2), .use [.reg (.d 1 2) []], .use [.raw (.o 1 2)], .put (.o 1 2)]
theorem part34_runs {Q : (Σ' (v1171 : BitVec 32), BitVec 32) → sProp 𝕄} (hst : run ops34 S = some S') (v2 v19 v20 v1114 v1135 : BitVec 32)
    (h : ∀ w0 w1 : BitVec 32, Inv m ρ c S' ⊢ Q ⟨w0, w1⟩) :
    Inv m ρ c S ⊢ WP c (k0_part34 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v1114 v1135) Q := by
  rw [k0_part34_eq_skeleton]
  unfold k0_part34_skel
  unfold ops34 at hst
  obtain ⟨_, h1, hst⟩ := run_cons hst
  refine step_wrecv m ρ h1 (e := .a2a 3 2) (sem16 (off11_eq c 2 0) rfl) (credit_recv _ _ 3 2) ?_
  obtain ⟨_, h1, hst⟩ := run_cons hst
  refine ld_piece m ρ 3 2 [] h1 (off10_eq c 2 0) ?_
  obtain ⟨_, h1, hst⟩ := run_cons hst
  refine ld_raw_rows m ρ 3 2 h1 (off20_eq c 2 0) (fun _ => ?_)
  obtain ⟨_, h1, hst⟩ := run_cons hst
  refine st_rows m ρ 3 2 h1 (off20_eq c 2 0) (rowv_of m ρ (peer_ne c 3 2 (by decide))) ?_
  obtain ⟨_, h1, hst⟩ := run_cons hst
  refine step_wrecv m ρ h1 (e := .a2a 1 2) (sem16 (off11_eq c 2 1) rfl) (credit_recv _ _ 1 2) ?_
  obtain ⟨_, h1, hst⟩ := run_cons hst
  refine ld_piece m ρ 1 2 [] h1 (off10_eq c 2 1) ?_
  obtain ⟨_, h1, hst⟩ := run_cons hst
  refine ld_raw_rows m ρ 1 2 h1 (off20_eq c 2 1) (fun _ => ?_)
  obtain ⟨_, h1, hst⟩ := run_cons hst
  refine st_rows m ρ 1 2 h1 (off20_eq c 2 1) (rowv_of m ρ (peer_ne c 1 2 (by decide))) ?_
  cases run_nil hst
  exact step_ret m ρ (h _ _)

/-- The operations of part 35 of the body, with the cuts of shares between them. -/
def ops35 : List Op := [.wrecv (.a2a 0 3), .use [.reg (.d 0 3) []], .use [.raw (.o 0 3)], .put (.o 0 3), .wrecv (.a2a 3 3), .use [.reg (.d 3 3) []], .use [.raw (.o 3 3)], .put (.o 3 3)]
theorem part35_runs {Q : (Σ' (v1208 : BitVec 32), BitVec 32) → sProp 𝕄} (hst : run ops35 S = some S') (v2 v20 v1171 v1173 : BitVec 32)
    (h : ∀ w0 w1 : BitVec 32, Inv m ρ c S' ⊢ Q ⟨w0, w1⟩) :
    Inv m ρ c S ⊢ WP c (k0_part35 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v20 v1171 v1173) Q := by
  rw [k0_part35_eq_skeleton]
  unfold k0_part35_skel
  unfold ops35 at hst
  obtain ⟨_, h1, hst⟩ := run_cons hst
  refine step_wrecv m ρ h1 (e := .a2a 0 3) (sem16 (off18_eq c 3) rfl) (credit_recv _ _ 0 3) ?_
  obtain ⟨_, h1, hst⟩ := run_cons hst
  refine ld_piece m ρ 0 3 [] h1 (off17_eq c 3) ?_
  obtain ⟨_, h1, hst⟩ := run_cons hst
  refine ld_raw_rows m ρ 0 3 h1 (off21_eq c 3) (fun _ => ?_)
  obtain ⟨_, h1, hst⟩ := run_cons hst
  refine st_rows m ρ 0 3 h1 (off21_eq c 3) (rowv_of m ρ (peer_ne c 0 3 (by decide))) ?_
  obtain ⟨_, h1, hst⟩ := run_cons hst
  refine step_wrecv m ρ h1 (e := .a2a 3 3) (sem16 (off11_eq c 3 0) rfl) (credit_recv _ _ 3 3) ?_
  obtain ⟨_, h1, hst⟩ := run_cons hst
  refine ld_piece m ρ 3 3 [] h1 (off10_eq c 3 0) ?_
  obtain ⟨_, h1, hst⟩ := run_cons hst
  refine ld_raw_rows m ρ 3 3 h1 (off20_eq c 3 0) (fun _ => ?_)
  obtain ⟨_, h1, hst⟩ := run_cons hst
  refine st_rows m ρ 3 3 h1 (off20_eq c 3 0) (rowv_of m ρ (peer_ne c 3 3 (by decide))) ?_
  cases run_nil hst
  exact step_ret m ρ (h _ _)

/-- The operations of part 36 of the body, with the cuts of shares between them. -/
def ops36 : List Op := [.wrecv (.a2a 1 3), .use [.reg (.d 1 3) []], .use [.raw (.o 1 3)], .put (.o 1 3), .wrecv (.a2a 2 0)]
theorem part36_runs {Q : (BitVec 32) → sProp 𝕄} (hst : run ops36 S = some S') (v2 v19 v20 v1208 c5_i32_759 : BitVec 32)
    (h : ∀ w0 : BitVec 32, Inv m ρ c S' ⊢ Q (w0)) :
    Inv m ρ c S ⊢ WP c (k0_part36 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v1208 c5_i32_759) Q := by
  rw [k0_part36_eq_skeleton]
  unfold k0_part36_skel
  unfold ops36 at hst
  obtain ⟨_, h1, hst⟩ := run_cons hst
  refine step_wrecv m ρ h1 (e := .a2a 1 3) (sem16 (off11_eq c 3 1) rfl) (credit_recv _ _ 1 3) ?_
  obtain ⟨_, h1, hst⟩ := run_cons hst
  refine ld_piece m ρ 1 3 [] h1 (off10_eq c 3 1) ?_
  obtain ⟨_, h1, hst⟩ := run_cons hst
  refine ld_raw_rows m ρ 1 3 h1 (off20_eq c 3 1) (fun _ => ?_)
  obtain ⟨_, h1, hst⟩ := run_cons hst
  refine st_rows m ρ 1 3 h1 (off20_eq c 3 1) (rowv_of m ρ (peer_ne c 1 3 (by decide))) ?_
  obtain ⟨_, h1, hst⟩ := run_cons hst
  refine step_wrecv m ρ h1 (e := .a2a 2 0) (sem16 (off11_eq c 0 2) rfl) (credit_recv _ _ 2 0) ?_
  cases run_nil hst
  exact step_ret m ρ (h _)

/-- The operations of part 37 of the body, with the cuts of shares between them. -/
def ops37 : List Op := [.use [.reg (.d 2 0) []], .use [.raw (.o 2 0)], .put (.o 2 0), .wrecv (.a2a 2 1), .use [.reg (.d 2 1) []], .use [.raw (.o 2 1)], .put (.o 2 1)]
theorem part37_runs {Q : (Σ' (v1274 : BitVec 32), BitVec 32) → sProp 𝕄} (hst : run ops37 S = some S') (v2 v19 v20 v1232 : BitVec 32)
    (h : ∀ w0 w1 : BitVec 32, Inv m ρ c S' ⊢ Q ⟨w0, w1⟩) :
    Inv m ρ c S ⊢ WP c (k0_part37 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v1232) Q := by
  rw [k0_part37_eq_skeleton]
  unfold k0_part37_skel
  unfold ops37 at hst
  obtain ⟨_, h1, hst⟩ := run_cons hst
  refine ld_piece m ρ 2 0 [] h1 (off10_eq c 0 2) ?_
  obtain ⟨_, h1, hst⟩ := run_cons hst
  refine ld_raw_rows m ρ 2 0 h1 (off20_eq c 0 2) (fun _ => ?_)
  obtain ⟨_, h1, hst⟩ := run_cons hst
  refine st_rows m ρ 2 0 h1 (off20_eq c 0 2) (rowv_of m ρ (peer_ne c 2 0 (by decide))) ?_
  obtain ⟨_, h1, hst⟩ := run_cons hst
  refine step_wrecv m ρ h1 (e := .a2a 2 1) (sem16 (off11_eq c 1 2) rfl) (credit_recv _ _ 2 1) ?_
  obtain ⟨_, h1, hst⟩ := run_cons hst
  refine ld_piece m ρ 2 1 [] h1 (off10_eq c 1 2) ?_
  obtain ⟨_, h1, hst⟩ := run_cons hst
  refine ld_raw_rows m ρ 2 1 h1 (off20_eq c 1 2) (fun _ => ?_)
  obtain ⟨_, h1, hst⟩ := run_cons hst
  refine st_rows m ρ 2 1 h1 (off20_eq c 1 2) (rowv_of m ρ (peer_ne c 2 1 (by decide))) ?_
  cases run_nil hst
  exact step_ret m ρ (h _ _)

/-- The operations of part 38 of the body, with the cuts of shares between them. -/
def ops38 : List Op := [.wrecv (.a2a 2 2), .use [.reg (.d 2 2) []], .use [.raw (.o 2 2)], .put (.o 2 2), .wrecv (.a2a 2 3), .use [.reg (.d 2 3) []]]
theorem part38_runs {Q : (FVec F S256x128 .f32) → sProp 𝕄} (hst : run ops38 S = some S') (v2 v19 v20 v1274 v1275 : BitVec 32)
    (h : Inv m ρ c S' ⊢ Q (k0_pay53 (blk m ρ (peer c 2 3) c))) :
    Inv m ρ c S ⊢ WP c (k0_part38 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v19 v20 v1274 v1275) Q := by
  rw [k0_part38_eq_skeleton]
  unfold k0_part38_skel
  unfold ops38 at hst
  obtain ⟨_, h1, hst⟩ := run_cons hst
  refine step_wrecv m ρ h1 (e := .a2a 2 2) (sem16 (off11_eq c 2 2) rfl) (credit_recv _ _ 2 2) ?_
  obtain ⟨_, h1, hst⟩ := run_cons hst
  refine ld_piece m ρ 2 2 [] h1 (off10_eq c 2 2) ?_
  obtain ⟨_, h1, hst⟩ := run_cons hst
  refine ld_raw_rows m ρ 2 2 h1 (off20_eq c 2 2) (fun _ => ?_)
  obtain ⟨_, h1, hst⟩ := run_cons hst
  refine st_rows m ρ 2 2 h1 (off20_eq c 2 2) (rowv_of m ρ (peer_ne c 2 2 (by decide))) ?_
  obtain ⟨_, h1, hst⟩ := run_cons hst
  refine step_wrecv m ρ h1 (e := .a2a 2 3) (sem16 (off11_eq c 3 2) rfl) (credit_recv _ _ 2 3) ?_
  obtain ⟨_, h1, hst⟩ := run_cons hst
  refine ld_piece m ρ 2 3 [] h1 (off10_eq c 3 2) ?_
  cases run_nil hst
  exact step_ret m ρ (h)

/-- The operations of part 39 of the body, with the cuts of shares between them. -/
def ops39 : List Op := [.use [.raw (.o 2 3)], .put (.o 2 3), .wsend (.col 1), .wsend (.col 2), .wsend (.col 3)]
theorem part39_runs {Q : (BitVec 32) → sProp 𝕄} (hst : run ops39 S = some S') (v19 : BitVec 32)
    (h : ∀ w0 : BitVec 32, Inv m ρ c S' ⊢ Q (w0)) :
    Inv m ρ c S ⊢ WP c (k0_part39 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v19 ((k0_pay53 (blk m ρ (peer c 2 3) c)))) Q := by
  rw [k0_part39_eq_skeleton]
  unfold k0_part39_skel
  unfold ops39 at hst
  obtain ⟨_, h1, hst⟩ := run_cons hst
  refine ld_raw_rows m ρ 2 3 h1 (off20_eq c 3 2) (fun _ => ?_)
  obtain ⟨_, h1, hst⟩ := run_cons hst
  refine st_rows m ρ 2 3 h1 (off20_eq c 3 2) (rowv_of m ρ (peer_ne c 2 3 (by decide))) ?_
  obtain ⟨_, h1, hst⟩ := run_cons hst
  refine step_wsend m ρ h1 (e := .col 1) (sem4 (off2_eq c 1) rfl) (credit_slot _ _ (.col 1) rfl) ?_
  obtain ⟨_, h1, hst⟩ := run_cons hst
  refine step_wsend m ρ h1 (e := .col 2) (sem4 (off2_eq c 2) rfl) (credit_slot _ _ (.col 2) rfl) ?_
  obtain ⟨_, h1, hst⟩ := run_cons hst
  refine step_wsend m ρ h1 (e := .col 3) (sem4 (off2_eq c 3) rfl) (credit_slot _ _ (.col 3) rfl) ?_
  cases run_nil hst
  exact step_ret m ρ (h _)

end Cert.Ring
-- ==== Proof.Parts8.lean ====
/-
# Parts 40 to 46 of the body

Each part of the body runs its operations and hands on the values it computes.
-/
module

public import proofs.«01_k».proof.Proof.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- The operations of part 40 of the body, with the cuts of shares between them. -/
def ops40 : List Op := [.wsend (.cwf 0), .wsend (.ccwf 0), .wsend (.cwh 0), .wsend (.ccwh 0)]
theorem part40_runs {Q : (PUnit) → sProp 𝕄} (hst : run ops40 S = some S') (v20 v1336 : BitVec 32)
    (h : Inv m ρ c S' ⊢ Q ⟨⟩) :
    Inv m ρ c S ⊢ WP c (k0_part40 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v20 v1336) Q := by
  rw [k0_part40_eq_skeleton]
  unfold k0_part40_skel
  unfold ops40 at hst
  obtain ⟨_, h1, hst⟩ := run_cons hst
  refine step_wsend m ρ h1 (e := .cwf 0) (sem4 (off2_eq c 0) rfl) (credit_slot _ _ (.cwf 0) rfl) ?_
  obtain ⟨_, h1, hst⟩ := run_cons hst
  refine step_wsend m ρ h1 (e := .ccwf 0) (sem4 (off2_eq c 0) rfl) (credit_slot _ _ (.ccwf 0) rfl) ?_
  obtain ⟨_, h1, hst⟩ := run_cons hst
  refine step_wsend m ρ h1 (e := .cwh 0) (sem4 (off2_eq c 0) rfl) (credit_half _ _ (.cwh 0) rfl) ?_
  obtain ⟨_, h1, hst⟩ := run_cons hst
  refine step_wsend m ρ h1 (e := .ccwh 0) (sem4 (off2_eq c 0) rfl) (credit_half _ _ (.ccwh 0) rfl) ?_
  cases run_nil hst
  exact step_ret m ρ (h)

/-- The operations of part 41 of the body, with the cuts of shares between them. -/
def ops41 : List Op := [.wsend (.a2a 3 0), .wsend (.a2a 1 0), .wsend (.a2a 2 0), .wsend (.cwf 1)]
theorem part41_runs {Q : (BitVec 32) → sProp 𝕄} (hst : run ops41 S = some S') (v19 v20 v1336 : BitVec 32)
    (h : ∀ w0 : BitVec 32, Inv m ρ c S' ⊢ Q (w0)) :
    Inv m ρ c S ⊢ WP c (k0_part41 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v19 v20 v1336) Q := by
  rw [k0_part41_eq_skeleton]
  unfold k0_part41_skel
  unfold ops41 at hst
  obtain ⟨_, h1, hst⟩ := run_cons hst
  refine step_wsend m ρ h1 (e := .a2a 3 0) (sem16 (off11_eq c 0 0) rfl) (credit_send _ _ 3 0) ?_
  obtain ⟨_, h1, hst⟩ := run_cons hst
  refine step_wsend m ρ h1 (e := .a2a 1 0) (sem16 (off11_eq c 0 1) rfl) (credit_send _ _ 1 0) ?_
  obtain ⟨_, h1, hst⟩ := run_cons hst
  refine step_wsend m ρ h1 (e := .a2a 2 0) (sem16 (off11_eq c 0 2) rfl) (credit_send _ _ 2 0) ?_
  obtain ⟨_, h1, hst⟩ := run_cons hst
  refine step_wsend m ρ h1 (e := .cwf 1) (sem4 (off2_eq c 1) rfl) (credit_slot _ _ (.cwf 1) rfl) ?_
  cases run_nil hst
  exact step_ret m ρ (h _)

/-- The operations of part 42 of the body, with the cuts of shares between them. -/
def ops42 : List Op := [.wsend (.ccwf 1), .wsend (.cwh 1), .wsend (.ccwh 1), .wsend (.a2a 0 1)]
theorem part42_runs {Q : (PUnit) → sProp 𝕄} (hst : run ops42 S = some S') (v20 v1392 : BitVec 32)
    (h : Inv m ρ c S' ⊢ Q ⟨⟩) :
    Inv m ρ c S ⊢ WP c (k0_part42 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v20 v1392) Q := by
  rw [k0_part42_eq_skeleton]
  unfold k0_part42_skel
  unfold ops42 at hst
  obtain ⟨_, h1, hst⟩ := run_cons hst
  refine step_wsend m ρ h1 (e := .ccwf 1) (sem4 (off2_eq c 1) rfl) (credit_slot _ _ (.ccwf 1) rfl) ?_
  obtain ⟨_, h1, hst⟩ := run_cons hst
  refine step_wsend m ρ h1 (e := .cwh 1) (sem4 (off2_eq c 1) rfl) (credit_half _ _ (.cwh 1) rfl) ?_
  obtain ⟨_, h1, hst⟩ := run_cons hst
  refine step_wsend m ρ h1 (e := .ccwh 1) (sem4 (off2_eq c 1) rfl) (credit_half _ _ (.ccwh 1) rfl) ?_
  obtain ⟨_, h1, hst⟩ := run_cons hst
  refine step_wsend m ρ h1 (e := .a2a 0 1) (sem16 (off18_eq c 1) rfl) (credit_send _ _ 0 1) ?_
  cases run_nil hst
  exact step_ret m ρ (h)

/-- The operations of part 43 of the body, with the cuts of shares between them. -/
def ops43 : List Op := [.wsend (.a2a 3 1), .wsend (.a2a 1 1), .wsend (.a2a 2 1), .wsend (.cwf 2)]
theorem part43_runs {Q : (BitVec 32) → sProp 𝕄} (hst : run ops43 S = some S') (v19 v20 v1392 : BitVec 32)
    (h : ∀ w0 : BitVec 32, Inv m ρ c S' ⊢ Q (w0)) :
    Inv m ρ c S ⊢ WP c (k0_part43 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v19 v20 v1392) Q := by
  rw [k0_part43_eq_skeleton]
  unfold k0_part43_skel
  unfold ops43 at hst
  obtain ⟨_, h1, hst⟩ := run_cons hst
  refine step_wsend m ρ h1 (e := .a2a 3 1) (sem16 (off11_eq c 1 0) rfl) (credit_send _ _ 3 1) ?_
  obtain ⟨_, h1, hst⟩ := run_cons hst
  refine step_wsend m ρ h1 (e := .a2a 1 1) (sem16 (off11_eq c 1 1) rfl) (credit_send _ _ 1 1) ?_
  obtain ⟨_, h1, hst⟩ := run_cons hst
  refine step_wsend m ρ h1 (e := .a2a 2 1) (sem16 (off11_eq c 1 2) rfl) (credit_send _ _ 2 1) ?_
  obtain ⟨_, h1, hst⟩ := run_cons hst
  refine step_wsend m ρ h1 (e := .cwf 2) (sem4 (off2_eq c 2) rfl) (credit_slot _ _ (.cwf 2) rfl) ?_
  cases run_nil hst
  exact step_ret m ρ (h _)

/-- The operations of part 44 of the body, with the cuts of shares between them. -/
def ops44 : List Op := [.wsend (.ccwf 2), .wsend (.cwh 2), .wsend (.ccwh 2), .wsend (.a2a 0 2)]
theorem part44_runs {Q : (PUnit) → sProp 𝕄} (hst : run ops44 S = some S') (v20 v1456 : BitVec 32)
    (h : Inv m ρ c S' ⊢ Q ⟨⟩) :
    Inv m ρ c S ⊢ WP c (k0_part44 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v20 v1456) Q := by
  rw [k0_part44_eq_skeleton]
  unfold k0_part44_skel
  unfold ops44 at hst
  obtain ⟨_, h1, hst⟩ := run_cons hst
  refine step_wsend m ρ h1 (e := .ccwf 2) (sem4 (off2_eq c 2) rfl) (credit_slot _ _ (.ccwf 2) rfl) ?_
  obtain ⟨_, h1, hst⟩ := run_cons hst
  refine step_wsend m ρ h1 (e := .cwh 2) (sem4 (off2_eq c 2) rfl) (credit_half _ _ (.cwh 2) rfl) ?_
  obtain ⟨_, h1, hst⟩ := run_cons hst
  refine step_wsend m ρ h1 (e := .ccwh 2) (sem4 (off2_eq c 2) rfl) (credit_half _ _ (.ccwh 2) rfl) ?_
  obtain ⟨_, h1, hst⟩ := run_cons hst
  refine step_wsend m ρ h1 (e := .a2a 0 2) (sem16 (off18_eq c 2) rfl) (credit_send _ _ 0 2) ?_
  cases run_nil hst
  exact step_ret m ρ (h)

/-- The operations of part 45 of the body, with the cuts of shares between them. -/
def ops45 : List Op := [.wsend (.a2a 3 2), .wsend (.a2a 1 2), .wsend (.a2a 2 2)]
theorem part45_runs {Q : (BitVec 32) → sProp 𝕄} (hst : run ops45 S = some S') (v19 v20 v1456 : BitVec 32)
    (h : ∀ w0 : BitVec 32, Inv m ρ c S' ⊢ Q (w0)) :
    Inv m ρ c S ⊢ WP c (k0_part45 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v19 v20 v1456) Q := by
  rw [k0_part45_eq_skeleton]
  unfold k0_part45_skel
  unfold ops45 at hst
  obtain ⟨_, h1, hst⟩ := run_cons hst
  refine step_wsend m ρ h1 (e := .a2a 3 2) (sem16 (off11_eq c 2 0) rfl) (credit_send _ _ 3 2) ?_
  obtain ⟨_, h1, hst⟩ := run_cons hst
  refine step_wsend m ρ h1 (e := .a2a 1 2) (sem16 (off11_eq c 2 1) rfl) (credit_send _ _ 1 2) ?_
  obtain ⟨_, h1, hst⟩ := run_cons hst
  refine step_wsend m ρ h1 (e := .a2a 2 2) (sem16 (off11_eq c 2 2) rfl) (credit_send _ _ 2 2) ?_
  cases run_nil hst
  exact step_ret m ρ (h _)

/-- The operations of part 46 of the body, with the cuts of shares between them. -/
def ops46 : List Op := [.wsend (.cwf 3), .wsend (.ccwf 3), .wsend (.cwh 3), .wsend (.ccwh 3), .wsend (.a2a 0 3)]
theorem part46_runs {Q : (Σ' (v1553 : BitVec 32) (v1554 : BitVec 32), BitVec 32) → sProp 𝕄} (hst : run ops46 S = some S') (v20 v1520 : BitVec 32)
    (h : ∀ w0 w1 w2 : BitVec 32, Inv m ρ c S' ⊢ Q ⟨w0, w1, w2⟩) :
    Inv m ρ c S ⊢ WP c (k0_part46 xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15 c v20 v1520) Q := by
  rw [k0_part46_eq_skeleton]
  unfold k0_part46_skel
  unfold ops46 at hst
  obtain ⟨_, h1, hst⟩ := run_cons hst
  refine step_wsend m ρ h1 (e := .cwf 3) (sem4 (off2_eq c 3) rfl) (credit_slot _ _ (.cwf 3) rfl) ?_
  obtain ⟨_, h1, hst⟩ := run_cons hst
  refine step_wsend m ρ h1 (e := .ccwf 3) (sem4 (off2_eq c 3) rfl) (credit_slot _ _ (.ccwf 3) rfl) ?_
  obtain ⟨_, h1, hst⟩ := run_cons hst
  refine step_wsend m ρ h1 (e := .cwh 3) (sem4 (off2_eq c 3) rfl) (credit_half _ _ (.cwh 3) rfl) ?_
  obtain ⟨_, h1, hst⟩ := run_cons hst
  refine step_wsend m ρ h1 (e := .ccwh 3) (sem4 (off2_eq c 3) rfl) (credit_half _ _ (.ccwh 3) rfl) ?_
  obtain ⟨_, h1, hst⟩ := run_cons hst
  refine step_wsend m ρ h1 (e := .a2a 0 3) (sem16 (off18_eq c 3) rfl) (credit_send _ _ 0 3) ?_
  cases run_nil hst
  exact step_ret m ρ (h _ _ _)

end Cert.Ring
-- ==== Proof.Body.lean ====
/-
# The body of the kernel

The parts in order, the list of what a device starts with, and what it is left with once the body has run.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import proofs.«01_k».proof.Proof.Parts8

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

variable (m : (ℓ : Loc nD τ sig) → Buf (Elt F) ℓ) (ρ : Dev nD → PrngReg) {c : Dev nD} {S S' : St}

/-- A program followed by another: the second runs from what the first leaves. -/
theorem run_then {α β : Type} {Q : β → sProp 𝕄} {p : Prog (TpuEff nD τ sig (Elt F) Λ₀ .tc) α} {k : α → Prog (TpuEff nD τ sig (Elt F) Λ₀ .tc) β}
    (h : Inv m ρ c S ⊢ WP c p (fun v => WP c (k v) Q)) : Inv m ρ c S ⊢ WP c (p >>= k) Q := by
  rw [show WP c (p >>= k) Q = WP c p (fun v => WP c (k v) Q) from wp_bind _ _ _ p k Q]
  exact h

/-- The steps that only cut pieces or put them together. -/
def Op.still : Op → Bool
  | .cut _ _ | .glue _ _ | .halve _ _ _ | .join _ _ _ => true
  | _ => false

theorem still_runs {P : sProp 𝕄} (os : List Op) (hs : os.all Op.still = true) {S S' : St} (hst : run os S = some S')
    (h : Inv m ρ c S' ⊢ P) : Inv m ρ c S ⊢ P := by
  induction os generalizing S with
  | nil => cases run_nil hst; exact h
  | cons o os ih =>
    obtain ⟨S₁, h1, hst⟩ := run_cons hst
    rw [List.all_cons, Bool.and_eq_true] at hs
    have hr := ih hs.2 hst
    cases o with
    | cut r q => exact step_cut m ρ h1 hr
    | glue r q => exact step_glue m ρ h1 hr
    | halve k dz q => exact step_halve m ρ h1 hr
    | join k dz q => exact step_join m ρ h1 hr
    | sig d => exact absurd hs.1 Bool.false_ne_true
    | bwait => exact absurd hs.1 Bool.false_ne_true
    | send e => exact absurd hs.1 Bool.false_ne_true
    | wrecv e => exact absurd hs.1 Bool.false_ne_true
    | wsend e => exact absurd hs.1 Bool.false_ne_true
    | use l => exact absurd hs.1 Bool.false_ne_true
    | put r => exact absurd hs.1 Bool.false_ne_true

/-- The last three waits. -/
def opsEnd : List Op := [.wsend (.a2a 3 3), .wsend (.a2a 1 3), .wsend (.a2a 2 3)]

/-- The shares of every filled slot put together again. -/
def opsGlue : List Op :=
  [.glue (.w 0 0) [true, true, true, true], .glue (.w 0 0) [true, true, true], .glue (.w 0 0) [true, true], .glue (.w 0 0) [true], .glue (.w 0 0) []]
  ++ ([1, 2, 3] : List (Fin 4)).flatMap (fun dz => [.glue (.w 0 dz) [true], .glue (.w 0 dz) []])
  ++ ([0, 1, 2, 3] : List (Fin 4)).flatMap (fun dz => [.join 3 dz [false], .glue (.w 3 dz) [], .join 1 dz [false], .glue (.w 1 dz) []])

/-- All of it. -/
def opsAll : List Op :=
  ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26 ++ (ops27 ++ (ops28 ++ (ops29 ++ (ops30 ++ (ops31 ++ (ops32 ++ (ops33 ++ (ops34 ++ (ops35 ++ (ops36 ++ (ops37 ++ (ops38 ++ (ops39 ++ (ops40 ++ (ops41 ++ (ops42 ++ (ops43 ++ (ops44 ++ (ops45 ++ (ops46 ++ (opsEnd ++ opsGlue))))))))))))))))))))))))))))))))))))))))))))))

/-- The sixteen devices, the four steps, and the pairs of steps. -/
def devices : List (Dev nD) := List.finRange 16
def four : List (Fin 4) := [0, 1, 2, 3]
def pairs : List (Fin 4 × Fin 4) := four.flatMap fun k => four.map fun dz => (k, dz)
/-- The pairs of steps that lead to another device. -/
def others : List (Fin 4 × Fin 4) := pairs.filter fun kd => decide (kd ≠ (0, 0))
/-- The cells that no copy uses. -/
def unused : List (Bool × Snd) := [(false, .col 0), (true, .col 0), (false, .a2a 0 0), (true, .a2a 0 0)]

/-- What a device starts with. -/
def itemsIn : List Item :=
  devices.map .give ++ [.bar] ++ Snd.order.map .tok ++ Snd.order.map .want ++ unused.map (fun be => .dead be.1 be.2)
  ++ [.raw (.w 0 0), .raw .x] ++ pairs.map (fun kd => .raw (.s kd.1 kd.2)) ++ [.raw (.d 0 0)] ++ pairs.map (fun kd => .raw (.o kd.1 kd.2)) ++ [.ins]

/-- What it is left with. -/
def itemsOut : List Item :=
  [.barz] ++ Snd.order.map (.zero false) ++ Snd.order.map (.zero true) ++ unused.map (fun be => .dead be.1 be.2)
  ++ pairs.map (fun kd => .reg (.w kd.1 kd.2) []) ++ [.reg .x []] ++ others.map (fun kd => .reg (.s kd.1 kd.2) []) ++ [.raw (.s 0 0)]
  ++ others.map (fun kd => .reg (.d kd.1 kd.2) []) ++ [.raw (.d 0 0)] ++ pairs.map (fun kd => .reg (.o kd.1 kd.2) []) ++ [.ins]

def stIn : St := ⟨devices, Snd.order, itemsIn⟩

/-- The body's run, checked by evaluation: every step is allowed, and it ends with what `itemsOut` lists. -/
theorem run_ends : ((run opsAll stIn).bind fun S => if S.sg = [] ∧ S.p = [] then takeAll itemsOut S.l else none) = some [] := by decide +kernel

theorem run_all : ∃ S, run opsAll stIn = some S ∧ S.sg = [] ∧ S.p = [] ∧ takeAll itemsOut S.l = some [] := by
  have h := run_ends
  cases hr : run opsAll stIn with
  | none => rw [hr] at h; exact absurd h (by simp)
  | some S =>
    rw [hr] at h
    replace h : (if S.sg = [] ∧ S.p = [] then takeAll itemsOut S.l else none) = some [] := h
    split at h
    · rename_i hs; exact ⟨S, rfl, hs.1, hs.2, h⟩
    · exact absurd h (by simp)

theorem body_runs {Q : PUnit → sProp 𝕄} (hst : run opsAll S = some S') (h : Inv m ρ c S' ⊢ Q ⟨⟩) :
    Inv m ρ c S ⊢ WP c (cc0_body (F := F) xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15) Q := by
  rw [cc0_body_eq_skeleton]
  unfold cc0_body_skel
  unfold opsAll at hst
  refine run_then m ρ ?_
  rw [k0_part47_eq_skeleton]
  unfold k0_part47_skel
  obtain ⟨_, h1, hst⟩ := run_append hst
  refine run_then m ρ (part1_runs m ρ h1 (fun _ _ _ _ _ _ => ?_))
  obtain ⟨_, h1, hst⟩ := run_append hst
  refine run_then m ρ (part2_runs m ρ h1 _ ?_)
  obtain ⟨_, h1, hst⟩ := run_append hst
  refine run_then m ρ (part3_runs m ρ h1 _ _ _ (fun _ _ => ?_))
  obtain ⟨_, h1, hst⟩ := run_append hst
  refine run_then m ρ (part4_runs m ρ h1 _ _ _ _ ?_)
  obtain ⟨_, h1, hst⟩ := run_append hst
  refine run_then m ρ (part5_runs m ρ h1 _ _ _ ?_)
  obtain ⟨_, h1, hst⟩ := run_append hst
  refine run_then m ρ (part6_runs m ρ h1 _ _ _ _ (fun _ _ => ?_))
  obtain ⟨_, h1, hst⟩ := run_append hst
  refine run_then m ρ (part7_runs m ρ h1 _ _ _ _ _ (fun _ => ?_))
  obtain ⟨_, h1, hst⟩ := run_append hst
  refine run_then m ρ (part8_runs m ρ h1 _ _ ?_)
  obtain ⟨_, h1, hst⟩ := run_append hst
  refine run_then m ρ (part9_runs m ρ h1 _ _ _ _ _ (fun _ _ => ?_))
  obtain ⟨_, h1, hst⟩ := run_append hst
  refine run_then m ρ (part10_runs m ρ h1 _ _ _ _ _ (fun _ => ?_))
  obtain ⟨_, h1, hst⟩ := run_append hst
  refine run_then m ρ (part11_runs m ρ h1 _ _ _ _ _ (fun _ => ?_))
  obtain ⟨_, h1, hst⟩ := run_append hst
  refine run_then m ρ (part12_runs m ρ h1 _ _ ?_)
  obtain ⟨_, h1, hst⟩ := run_append hst
  refine run_then m ρ (part13_runs m ρ h1 _ _ ?_)
  obtain ⟨_, h1, hst⟩ := run_append hst
  refine run_then m ρ (part14_runs m ρ h1 _ _ _ _ _ (fun _ _ => ?_))
  obtain ⟨_, h1, hst⟩ := run_append hst
  refine run_then m ρ (part15_runs m ρ h1 _ _ _ _ _ (fun _ _ _ => ?_))
  obtain ⟨_, h1, hst⟩ := run_append hst
  refine run_then m ρ (part16_runs m ρ h1 _ _ _ _ _ (fun _ => ?_))
  obtain ⟨_, h1, hst⟩ := run_append hst
  refine run_then m ρ (part17_runs m ρ h1 _ _ ?_)
  obtain ⟨_, h1, hst⟩ := run_append hst
  refine run_then m ρ (part18_runs m ρ h1 _ _ ?_)
  obtain ⟨_, h1, hst⟩ := run_append hst
  refine run_then m ρ (part19_runs m ρ h1 _ _ _ _ _ (fun _ _ => ?_))
  obtain ⟨_, h1, hst⟩ := run_append hst
  refine run_then m ρ (part20_runs m ρ h1 _ _ _ _ (fun _ _ => ?_))
  obtain ⟨_, h1, hst⟩ := run_append hst
  refine run_then m ρ (part21_runs m ρ h1 _ _ ?_)
  obtain ⟨_, h1, hst⟩ := run_append hst
  refine run_then m ρ (part22_runs m ρ h1 _ _ ?_)
  obtain ⟨_, h1, hst⟩ := run_append hst
  refine run_then m ρ (part23_runs m ρ h1 _ ?_)
  obtain ⟨_, h1, hst⟩ := run_append hst
  refine run_then m ρ (part24_runs m ρ h1 _ _ _ (fun _ => ?_))
  obtain ⟨_, h1, hst⟩ := run_append hst
  refine run_then m ρ (part25_runs m ρ h1 _ _ _ _ (fun _ => ?_))
  obtain ⟨_, h1, hst⟩ := run_append hst
  refine run_then m ρ (part26_runs m ρ h1 _ _ ?_)
  obtain ⟨_, h1, hst⟩ := run_append hst
  refine run_then m ρ (part27_runs m ρ h1 _ _ _ (fun _ => ?_))
  obtain ⟨_, h1, hst⟩ := run_append hst
  refine run_then m ρ (part28_runs m ρ h1 _ _ _ _ (fun _ => ?_))
  obtain ⟨_, h1, hst⟩ := run_append hst
  refine run_then m ρ (part29_runs m ρ h1 _ _ ?_)
  obtain ⟨_, h1, hst⟩ := run_append hst
  refine run_then m ρ (part30_runs m ρ h1 _ _ _ (fun _ _ => ?_))
  obtain ⟨_, h1, hst⟩ := run_append hst
  refine run_then m ρ (part31_runs m ρ h1 _ _ _ _ _ (fun _ _ => ?_))
  obtain ⟨_, h1, hst⟩ := run_append hst
  refine run_then m ρ (part32_runs m ρ h1 _ _ _ _ (fun _ => ?_))
  obtain ⟨_, h1, hst⟩ := run_append hst
  refine run_then m ρ (part33_runs m ρ h1 _ _ _ _ (fun _ _ => ?_))
  obtain ⟨_, h1, hst⟩ := run_append hst
  refine run_then m ρ (part34_runs m ρ h1 _ _ _ _ _ (fun _ _ => ?_))
  obtain ⟨_, h1, hst⟩ := run_append hst
  refine run_then m ρ (part35_runs m ρ h1 _ _ _ _ (fun _ _ => ?_))
  obtain ⟨_, h1, hst⟩ := run_append hst
  refine run_then m ρ (part36_runs m ρ h1 _ _ _ _ _ (fun _ => ?_))
  obtain ⟨_, h1, hst⟩ := run_append hst
  refine run_then m ρ (part37_runs m ρ h1 _ _ _ _ (fun _ _ => ?_))
  obtain ⟨_, h1, hst⟩ := run_append hst
  refine run_then m ρ (part38_runs m ρ h1 _ _ _ _ _ ?_)
  obtain ⟨_, h1, hst⟩ := run_append hst
  refine run_then m ρ (part39_runs m ρ h1 _ (fun _ => ?_))
  obtain ⟨_, h1, hst⟩ := run_append hst
  refine run_then m ρ (part40_runs m ρ h1 _ _ ?_)
  obtain ⟨_, h1, hst⟩ := run_append hst
  refine run_then m ρ (part41_runs m ρ h1 _ _ _ (fun _ => ?_))
  obtain ⟨_, h1, hst⟩ := run_append hst
  refine run_then m ρ (part42_runs m ρ h1 _ _ ?_)
  obtain ⟨_, h1, hst⟩ := run_append hst
  refine run_then m ρ (part43_runs m ρ h1 _ _ _ (fun _ => ?_))
  obtain ⟨_, h1, hst⟩ := run_append hst
  refine run_then m ρ (part44_runs m ρ h1 _ _ ?_)
  obtain ⟨_, h1, hst⟩ := run_append hst
  refine run_then m ρ (part45_runs m ρ h1 _ _ _ (fun _ => ?_))
  obtain ⟨_, h1, hst⟩ := run_append hst
  refine run_then m ρ (part46_runs m ρ h1 _ _ (fun _ _ _ => ?_))
  obtain ⟨_, h1, hst⟩ := run_append hst
  unfold opsEnd at h1
  obtain ⟨_, h2, h1⟩ := run_cons h1
  refine step_wsend m ρ h2 (e := .a2a 3 3) (sem16 (off11_eq c 3 0) rfl) (credit_send _ _ 3 3) ?_
  refine step_ret m ρ ?_
  obtain ⟨_, h2, h1⟩ := run_cons h1
  refine step_wsend m ρ h2 (e := .a2a 1 3) (sem16 (off11_eq c 3 1) rfl) (credit_send _ _ 1 3) ?_
  obtain ⟨_, h2, h1⟩ := run_cons h1
  refine step_wsend m ρ h2 (e := .a2a 2 3) (sem16 (off11_eq c 3 2) rfl) (credit_send _ _ 2 3) ?_
  cases run_nil h1
  exact step_ret m ρ (still_runs m ρ opsGlue (by decide) hst h)

end Cert.Ring
-- ==== Proof.Deal.lean ====
/-
# What a device starts with and is left with

The buffers a device is given at launch, cut into the pieces it works with, and the pieces it is left with, joined to whole
buffers again. The lists of things of the body's run are taken apart here into the resources of the launch.
-/
module

public import proofs.«01_k».proof.Proof.Body
public import Idealize.ShloMosaic.Lib.Ring

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Snd (ix)

variable {F : FTy → Type} [FloatOps F]

local notation "𝕄" => MT nD τ sig Unit (Elt F) ℕ UU ℕ

/-! ## Lists that enumerate -/

theorem pairs_nodup : ∀ c : Dev nD, (pairs.map fun kd => peer c kd.1 kd.2).Nodup := by decide +kernel
theorem pairs_all : ∀ c : Dev nD, (pairs.map fun kd => peer c kd.1 kd.2).toFinset = Finset.univ := by decide +kernel
theorem devices_nodup : devices.Nodup := by decide +kernel
theorem devices_all : devices.toFinset = Finset.univ := by decide +kernel

/-- The names of a device's copies, sent and received, and of the cells no copy uses. -/
def cellsL : List (Bool × Snd) := Snd.order.map (fun e => (false, e)) ++ (Snd.order.map (fun e => (true, e)) ++ unused)
theorem cellsL_nodup : cellsL.Nodup := by decide +kernel
theorem cellsL_all : cellsL.toFinset = Finset.univ := by decide +kernel

theorem order_dual : (Snd.order.map Snd.dual).Perm Snd.order := by decide +kernel

/-- The slots that are lent whole. -/
def lentW : List Reg :=
  [.w 0 1, .w 0 2, .w 0 3, .w 1 0, .w 1 1, .w 1 2, .w 1 3, .w 3 0, .w 3 1, .w 3 2, .w 3 3]
theorem slots_perm : (pairs.map fun kd => Reg.w kd.1 kd.2).Perm (Reg.w 0 0 :: (lentW ++ four.map (Reg.w 2))) := by decide +kernel
theorem recvs_perm : (pairs.map fun kd => Reg.d kd.1 kd.2).Perm (Reg.d 0 0 :: others.map fun kd => Reg.d kd.1 kd.2) := by decide +kernel
theorem sends_perm : (pairs.map fun kd => Reg.s kd.1 kd.2).Perm (Reg.s 0 0 :: others.map fun kd => Reg.s kd.1 kd.2) := by decide +kernel
theorem lent_perm : (Snd.order.map fun e => e.dual.dst).Perm
    (lentW ++ (four.map (fun dz => Reg.h 2 dz 0) ++ (four.map (fun dz => Reg.h 2 dz 1) ++ others.map fun kd => Reg.d kd.1 kd.2))) := by decide +kernel

theorem bigSep_pairs (c : Dev nD) (Φ : Dev nD → sProp 𝕄) : bigSep Finset.univ Φ = sepL pairs fun kd => Φ (peer c kd.1 kd.2) := by
  rw [← pairs_all c, bigSep_eq_sepL _ (pairs_nodup c), sepL_map]
theorem bigSep_devices (Φ : Dev nD → sProp 𝕄) : bigSep Finset.univ Φ = sepL devices Φ := by
  rw [← devices_all, bigSep_eq_sepL _ devices_nodup]
theorem bigSep_cells (Φ : Bool × Snd → sProp 𝕄) : bigSep Finset.univ Φ
    = iprop(sepL Snd.order (fun e => Φ (false, e)) ∗ sepL Snd.order (fun e => Φ (true, e)) ∗ sepL unused Φ) := by
  rw [← cellsL_all, bigSep_eq_sepL _ cellsL_nodup]
  unfold cellsL
  rw [sepL_append, sepL_append, sepL_map, sepL_map]

/-! ## Cutting a buffer into sixteen pieces, and joining them -/

section Pieces
variable {ℓ : Loc nD τ sig} (I : Dev nD → Finset (Idx ℓ)) (lab : Idx ℓ → Dev nD) (hI : ∀ o i, i ∈ I o ↔ lab i = o)

include hI in
theorem pieces_disjoint (o o' : Dev nD) (h : o ≠ o') : Disjoint (I o) (I o') :=
  Finset.disjoint_left.mpr fun i h1 h2 => h (((hI o i).mp h1).symm.trans ((hI o' i).mp h2))
include hI in
theorem pieces_cover : Finset.univ.biUnion I = Finset.univ :=
  Finset.eq_univ_iff_forall.mpr fun i => Finset.mem_biUnion.mpr ⟨lab i, Finset.mem_univ _, (hI _ i).mpr rfl⟩

include hI in
/-- A buffer is its sixteen pieces, named from device `c`. -/
theorem pieces_eq (c : Dev nD) (q : PosShare TreeShare) (f : Buf (Elt F) ℓ) :
    (ℓ ↦{q} f : sProp 𝕄) = sepL pairs fun kd => (ℓ ↦[I (peer c kd.1 kd.2)]{q} f : sProp 𝕄) := by
  rw [Ring.pointsTo_blocks I (pieces_disjoint I lab hI) (pieces_cover I lab hI) f, bigSep_pairs c]

include hI in
theorem pieces_cut (c : Dev nD) :
    (iprop(∃ f, ℓ ↦{fullShare} f) : sProp 𝕄) ⊢ sepL pairs fun kd => iprop(∃ f : Buf (Elt F) ℓ, ℓ ↦[I (peer c kd.1 kd.2)]{fullShare} f) := by
  iintro ⟨%f, H⟩
  ihave H := (Entails.of_eq (pieces_eq I lab hI c fullShare f)) $$ H
  iapply (sepL_mono (F := F) (l := pairs) (Φ := fun kd => (ℓ ↦[I (peer c kd.1 kd.2)]{fullShare} f : sProp 𝕄)) fun kd => by
    iintro H; iexists f; iexact H) $$ H

include hI in
theorem pieces_join (c : Dev nD) (f₀ : Buf (Elt F) ℓ) :
    (sepL pairs fun kd => iprop(∃ f : Buf (Elt F) ℓ, ℓ ↦[I (peer c kd.1 kd.2)]{fullShare} f) : sProp 𝕄) ⊢ iprop(∃ f, ℓ ↦{fullShare} f) := by
  rw [← bigSep_pairs (F := F) c fun o => iprop(∃ f : Buf (Elt F) ℓ, ℓ ↦[I o]{fullShare} f)]
  exact Ring.pointsTo_blocks_join_exists I (pieces_disjoint I lab hI) (pieces_cover I lab hI) f₀

end Pieces

variable (m : (ℓ : Loc nD τ sig) → Buf (Elt F) ℓ) (ρ : Dev nD → PrngReg) (c : Dev nD)

theorem slots_lab (o : Dev nD) (i : S16x4096x128.Idx) : i ∈ (wM.access (slotR o)).set ↔ dev16 (i 0) = o :=
  (mem_slot o i).trans ⟨fun h => Fin.ext h, fun h => congrArg Fin.val h⟩
theorem sends_lab (o : Dev nD) (i : S16x256x128.Idx) : i ∈ (sM.access (pieceR o)).set ↔ dev16 (i 0) = o :=
  (mem_pieceS o i).trans ⟨fun h => Fin.ext h, fun h => congrArg Fin.val h⟩
theorem recvs_lab (o : Dev nD) (i : S16x256x128.Idx) : i ∈ (dM.access (pieceR o)).set ↔ dev16 (i 0) = o :=
  (mem_pieceD o i).trans ⟨fun h => Fin.ext h, fun h => congrArg Fin.val h⟩
theorem rows_lab (o : Dev nD) (i : S4096x128.Idx) : i ∈ (oM.access (rowsR o)).set ↔ rowDev i = o :=
  (mem_rows o i).trans ⟨fun h => Fin.ext h, fun h => congrArg Fin.val h⟩

/-- A buffer of device `c`, whole, at some contents. -/
abbrev buf (b : Ref sig .tc) : sProp 𝕄 := iprop(∃ f : Buf (Elt F) ((c : Thread nD τ).loc b), ((c : Thread nD τ).loc b) ↦{fullShare} f)

theorem cut_w : buf (F := F) c cc0_scratch0 ⊢ sepL (pairs.map fun kd => Reg.w kd.1 kd.2) (raw c) := by
  rw [sepL_map]
  exact pieces_cut (ℓ := (c : Thread nD τ).loc cc0_scratch0) (fun o => (wM.access (slotR o)).set) (fun i => dev16 (i 0)) slots_lab c
theorem cut_s : buf (F := F) c cc0_scratch2 ⊢ sepL (pairs.map fun kd => Reg.s kd.1 kd.2) (raw c) := by
  rw [sepL_map]
  exact pieces_cut (ℓ := (c : Thread nD τ).loc cc0_scratch2) (fun o => (sM.access (pieceR o)).set) (fun i => dev16 (i 0)) sends_lab c
theorem cut_d : buf (F := F) c cc0_scratch3 ⊢ sepL (pairs.map fun kd => Reg.d kd.1 kd.2) (raw c) := by
  rw [sepL_map]
  exact pieces_cut (ℓ := (c : Thread nD τ).loc cc0_scratch3) (fun o => (dM.access (pieceR o)).set) (fun i => dev16 (i 0)) recvs_lab c
theorem cut_o : buf (F := F) c cc0_stg4_0 ⊢ sepL (pairs.map fun kd => Reg.o kd.1 kd.2) (raw c) := by
  rw [sepL_map]
  exact pieces_cut (ℓ := (c : Thread nD τ).loc cc0_stg4_0) (fun o => (oM.access (rowsR o)).set) rowDev rows_lab c

include m in
theorem join_w : sepL (pairs.map fun kd => Reg.w kd.1 kd.2) (raw c) ⊢ buf (F := F) c cc0_scratch0 := by
  rw [sepL_map]
  exact pieces_join (ℓ := (c : Thread nD τ).loc cc0_scratch0) (fun o => (wM.access (slotR o)).set) (fun i => dev16 (i 0)) slots_lab c (m _)
include m in
theorem join_s : sepL (pairs.map fun kd => Reg.s kd.1 kd.2) (raw c) ⊢ buf (F := F) c cc0_scratch2 := by
  rw [sepL_map]
  exact pieces_join (ℓ := (c : Thread nD τ).loc cc0_scratch2) (fun o => (sM.access (pieceR o)).set) (fun i => dev16 (i 0)) sends_lab c (m _)
include m in
theorem join_d : sepL (pairs.map fun kd => Reg.d kd.1 kd.2) (raw c) ⊢ buf (F := F) c cc0_scratch3 := by
  rw [sepL_map]
  exact pieces_join (ℓ := (c : Thread nD τ).loc cc0_scratch3) (fun o => (dM.access (pieceR o)).set) (fun i => dev16 (i 0)) recvs_lab c (m _)
theorem join_o : sepL (pairs.map fun kd => Reg.o kd.1 kd.2) (pts m ρ c [])
    ⊢ iprop(((c : Thread nD τ).loc cc0_stg4_0) ↦{fullShare} outAt m ρ c) := by
  rw [sepL_map, pieces_eq (ℓ := (c : Thread nD τ).loc cc0_stg4_0) (fun o => (oM.access (rowsR o)).set) rowDev rows_lab c]
  exact BI.Entails.refl _

/-! ## What a device lends -/

/-- All the pieces that device `c`'s sixteen signals lend: those that the others' copies fill. -/
theorem lend_all : bigSep Finset.univ (fun d : Dev nD => lend (F := F) d c) = sepL (Snd.order.map fun e => e.dual.dst) (raw c) := by
  rw [sepL_map, ← deal Snd.order (fun e => e.from' c) fun e => raw (F := F) c e.dual.dst]
  refine bigSep_congr fun d _ => ?_
  have hiff : ∀ e : Snd, e.tgt d = c ↔ e.from' c = d := fun e =>
    ⟨fun h => by rw [← h]; exact Snd.from_tgt e d, fun h => by rw [← h]; exact Snd.tgt_from e c⟩
  unfold lend
  rw [List.filter_congr (q := fun e => decide (e.from' c = d)) fun e _ => decide_eq_decide.mpr (hiff e)]
  exact sepL_congr fun e he => by rw [(hiff e).mpr (by simpa using (List.mem_filter.mp he).2)]

theorem halves_cut : sepL (four.map (Reg.w 2)) (raw (F := F) c)
    ⊢ iprop(sepL (four.map fun dz => Reg.h 2 dz 0) (raw c) ∗ sepL (four.map fun dz => Reg.h 2 dz 1) (raw c)) := by
  rw [sepL_map, sepL_map, sepL_map, ← sepL_sep]
  exact sepL_mono fun dz => raw_halve c 2 dz

/-- The slots and the pieces received: the device's own of each stay, the others are lent. -/
theorem cut_lent : iprop(sepL (pairs.map fun kd => Reg.w kd.1 kd.2) (raw (F := F) c) ∗ sepL (pairs.map fun kd => Reg.d kd.1 kd.2) (raw c))
    ⊢ iprop(raw c (.w 0 0) ∗ raw c (.d 0 0) ∗ bigSep Finset.univ fun d : Dev nD => lend d c) := by
  rw [lend_all, sepL_perm slots_perm, sepL_perm recvs_perm, sepL_perm lent_perm, sepL_cons, sepL_cons, sepL_append, sepL_append, sepL_append, sepL_append]
  iintro ⟨⟨Hw, HW, Hh⟩, Hd, HD⟩
  ihave Hh := (halves_cut c) $$ Hh
  icases Hh with ⟨H0, H1⟩
  isplitl [Hw]; · iexact Hw
  isplitl [Hd]; · iexact Hd
  isplitl [HW]; · iexact HW
  isplitl [H0]; · iexact H0
  isplitl [H1] <;> iassumption

/-! ## What a device starts with -/

/-- A device's places at its cells, and the tokens of the duties it pays. -/
def places : sProp 𝕄 := iprop(atPos ER (cell c none) 0 ∅ 0 ∗ bigSep Finset.univ fun be : Bool × Snd => atPos ER (cell c (some be)) 0 ∅ 0)
def payToks : sProp 𝕄 :=
  iprop((bigSep Finset.univ fun d : Dev nD => dutyTok ER (cell d none) 0 c)
    ∗ sepL Snd.order (fun e => dutyTok ER (cell c (some (false, e))) 0 0) ∗ sepL Snd.order (fun e => dutyTok ER (rcell c e) 0 0))
/-- What it may wait for. -/
def credits : sProp 𝕄 :=
  iprop(cred (tallyAt (cell c none) () 16) ∗ sepL Snd.order fun e => cred (tallyAt (cell c (some (true, e))) () (amt e)))

theorem raw_x : raw (F := F) c .x = buf c cc0_scratch1 := rfl
theorem hold_raw (r : Reg) : hold (F := F) m ρ c (.raw r) = raw c r := rfl
theorem hold_reg (r : Reg) : hold (F := F) m ρ c (.reg r []) = pts m ρ c [] r := rfl
theorem hold_barz : hold (F := F) m ρ c .barz = semVal (cell c none) 0 := rfl
theorem hold_zero (b : Bool) (e : Snd) : hold (F := F) m ρ c (.zero b e) = semVal (cell c (some (b, e))) 0 := rfl
theorem hold_dead (b : Bool) (e : Snd) : hold (F := F) m ρ c (.dead b e) = atPos ER (cell c (some (b, e))) 0 ∅ 0 := rfl

theorem items_in : iprop(places c ∗ payToks c ∗ credits c ∗ buf c cc0_scratch0 ∗ buf c cc0_scratch1 ∗ buf c cc0_scratch2 ∗ buf c cc0_scratch3
      ∗ buf c cc0_stg4_0 ∗ hold m ρ c .ins)
    ⊢ sepL itemsIn (hold (F := F) m ρ c) := by
  have hgive : sepL devices (fun d => hold m ρ c (.give d)) = iprop((bigSep Finset.univ fun d : Dev nD => dutyTok ER (cell d none) 0 c)
      ∗ bigSep Finset.univ fun d : Dev nD => lend (F := F) d c) := by
    rw [← bigSep_sep', bigSep_devices]; rfl
  have htok : sepL Snd.order (fun e => hold (F := F) m ρ c (.tok e)) = iprop(sepL Snd.order (fun e => dutyTok ER (cell c (some (false, e))) 0 0)
      ∗ sepL Snd.order (fun e => dutyTok ER (rcell c e) 0 0) ∗ sepL Snd.order fun e => atPos ER (cell c (some (false, e))) 0 ∅ 0) := by
    rw [← sepL_sep, ← sepL_sep]; rfl
  have hwant : sepL Snd.order (fun e => hold (F := F) m ρ c (.want e)) = iprop(sepL Snd.order (fun e => cred (tallyAt (cell c (some (true, e))) () (amt e)))
      ∗ sepL Snd.order fun e => atPos ER (cell c (some (true, e))) 0 ∅ 0) := by
    rw [← sepL_sep]; rfl
  unfold itemsIn places payToks credits
  simp only [sepL_append, sepL_map, sepL_cons, sepL_nil, hold_raw, hold_reg, hold_barz, hold_zero, hold_dead]
  rw [hgive, htok, hwant, bigSep_cells]
  iintro ⟨⟨HaB, HaS, HaR, HaU⟩, ⟨HtB, HtS, HtR⟩, ⟨HcB, HcR⟩, Hw, Hx, Hs, Hd, Ho, Hi⟩
  ihave Hw := (cut_w c) $$ Hw
  ihave Hd := (cut_d c) $$ Hd
  ihave Hl := (cut_lent c) $$ [Hw Hd]
  · isplitl [Hw] <;> iassumption
  icases Hl with ⟨Hw, Hd, Hl⟩
  ihave Hs := ((cut_s c).trans (Entails.of_eq (sepL_map _ _ _))) $$ Hs
  ihave Ho := ((cut_o c).trans (Entails.of_eq (sepL_map _ _ _))) $$ Ho
  isplitr [Hi]
  · isplitr [Ho]
    · isplitr [Hd]
      · isplitr [Hs]
        · isplitr [Hw Hx]
          · isplitr [HaU]
            · isplitr [HcR HaR]
              · isplitr [HtS HtR HaS]
                · isplitr [HcB HaB]
                  · isplitl [HtB] <;> iassumption
                  · isplitl
                    · unfold hold; isplitl [HcB] <;> iassumption
                    · iempintro
                · isplitl [HtS]; · iexact HtS
                  isplitl [HtR] <;> iassumption
              · isplitl [HcR] <;> iassumption
            · iexact HaU
          · isplitl [Hw]; · iexact Hw
            isplitl; · rw [raw_x]; iexact Hx
            iempintro
        · iexact Hs
      · isplitl; · iexact Hd
        iempintro
    · iexact Ho
  · isplitl; · iexact Hi
    iempintro

/-! ## What it is left with -/

/-- A cell that no copy uses, closed. -/
theorem close_dead (b : Bool) (e : Snd) (h : e.live = false) :
    iprop(Recs (F := F) m ρ ∗ atPos ER (cell c (some (b, e))) 0 ∅ 0) ⊢ |={Set.univ}=> semVal (cell c (some (b, e))) 0 := by
  iintro ⟨#HR, Ha⟩
  ihave Hc := (Recs_get m ρ c (some (b, e))) $$ HR
  icases Hc with ⟨⟨%κ, #HI⟩, -⟩
  iapply (Rounds.cell_close ER (sched m ρ) (Set.mem_univ κ) (fun h => h) (R := 0) (duties_dead_all m ρ c b e h))
  isplitr; · iexact HI
  iexact Ha

theorem close_unused : iprop(Recs (F := F) m ρ ∗ sepL unused fun be => atPos ER (cell c (some be)) 0 ∅ 0)
    ⊢ |={Set.univ}=> sepL unused fun be => semVal (cell c (some be)) 0 := by
  unfold unused
  simp only [sepL_cons, sepL_nil]
  iintro ⟨#HR, H1, H2, H3, H4, -⟩
  imod (close_dead m ρ c false (.col 0) rfl) $$ [H1] with H1
  · isplitr; · iexact HR
    iexact H1
  imod (close_dead m ρ c true (.col 0) rfl) $$ [H2] with H2
  · isplitr; · iexact HR
    iexact H2
  imod (close_dead m ρ c false (.a2a 0 0) rfl) $$ [H3] with H3
  · isplitr; · iexact HR
    iexact H3
  imod (close_dead m ρ c true (.a2a 0 0) rfl) $$ [H4] with H4
  · isplitr; · iexact HR
    iexact H4
  imodintro
  isplitl [H1]; · iexact H1
  isplitl [H2]; · iexact H2
  isplitl [H3]; · iexact H3
  isplitl; · iexact H4
  iempintro

/-- Filled pieces are pieces at some contents. -/
theorem pts_raws (l : List Reg) : sepL l (pts (F := F) m ρ c []) ⊢ sepL l (raw c) := sepL_mono fun r => pts_raw m ρ c r

theorem items_out : iprop(Recs m ρ ∗ sepL itemsOut (hold (F := F) m ρ c))
    ⊢ |={Set.univ}=> iprop(semVal (cell c none) 0 ∗ (bigSep Finset.univ fun be : Bool × Snd => semVal (cell c (some be)) 0)
      ∗ buf c cc0_scratch0 ∗ buf c cc0_scratch1 ∗ buf c cc0_scratch2 ∗ buf c cc0_scratch3
      ∗ (((c : Thread nD τ).loc cc0_stg4_0) ↦{fullShare} outAt m ρ c) ∗ hold m ρ c .ins) := by
  unfold itemsOut
  simp only [sepL_append, sepL_map, sepL_cons, sepL_nil, hold_raw, hold_reg, hold_barz, hold_zero, hold_dead]
  rw [bigSep_cells]
  iintro ⟨#HR, H⟩
  icases H with ⟨⟨⟨⟨⟨⟨⟨⟨⟨⟨⟨⟨HB, -⟩, HzS⟩, HzR⟩, HU⟩, Hw⟩, ⟨Hx, -⟩⟩, Hs⟩, ⟨Hs0, -⟩⟩, Hd⟩, ⟨Hd0, -⟩⟩, Ho⟩, ⟨Hi, -⟩⟩
  imod (close_unused m ρ c) $$ [HU] with HU
  · isplitr; · iexact HR
    iexact HU
  imodintro
  isplitl [HB]; · iexact HB
  isplitl [HzS HzR HU]
  · isplitl [HzS]; · iexact HzS
    isplitl [HzR]; · iexact HzR
    iexact HU
  isplitl [Hw]
  · iapply ((Entails.of_eq (sepL_map (fun kd : Fin 4 × Fin 4 => Reg.w kd.1 kd.2) pairs _).symm).trans ((pts_raws m ρ c _).trans (join_w (F := F) m c))) $$ Hw
  isplitl [Hx]
  · iapply ((pts_raw m ρ c .x).trans (Entails.of_eq (raw_x c))) $$ Hx
  isplitl [Hs Hs0]
  · iapply (join_s m c)
    rw [sepL_perm sends_perm, sepL_cons]
    isplitl [Hs0]; · iexact Hs0
    iapply ((Entails.of_eq (sepL_map (fun kd : Fin 4 × Fin 4 => Reg.s kd.1 kd.2) others _).symm).trans (pts_raws m ρ c _)) $$ Hs
  isplitl [Hd Hd0]
  · iapply (join_d m c)
    rw [sepL_perm recvs_perm, sepL_cons]
    isplitl [Hd0]; · iexact Hd0
    iapply ((Entails.of_eq (sepL_map (fun kd : Fin 4 × Fin 4 => Reg.d kd.1 kd.2) others _).symm).trans (pts_raws m ρ c _)) $$ Hd
  isplitl [Ho]
  · iapply ((Entails.of_eq (sepL_map (fun kd : Fin 4 × Fin 4 => Reg.o kd.1 kd.2) pairs _).symm).trans (join_o m ρ c)) $$ Ho
  iexact Hi

end Cert.Ring

end

end
-- ==== Proof.Launch.lean ====
/-
# The launch

Every device's semaphores, counters at zero, become the cells of the protocol; the tokens of the duties are dealt to the
devices that pay them, the credit for what the others owe to the devices that wait for it. From there the body's run gives the
final state of the whole program, for any floating-point operations: the result arrays at `outAt`, the operands unchanged,
every semaphore at zero.
-/
module

public import proofs.«01_k».proof.Proof.Deal

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Snd (ix)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device owes at launch: sixteen signals and its copies' arrivals. -/
def O₀ (c : Dev nD) : CellTallies nD τ sig Unit := owed c devices Snd.order

/-- What a device's body starts from, beside its buffers. -/
def start (c : Dev nD) : sProp 𝕄 := iprop(Recs m ρ ∗ levAts L lv ∗ places c ∗ payToks c ∗ credits c)

/-- The scratch buffers, at some contents. -/
def scratch (c : Dev nD) : sProp 𝕄 := iprop(buf c cc0_scratch0 ∗ buf c cc0_scratch1 ∗ buf c cc0_scratch2 ∗ buf c cc0_scratch3)

def Φ₀ (c : Dev nD) : sProp 𝕄 := iprop(start m ρ c ∗ scratch c)
def Φ₁ (c : Dev nD) : sProp 𝕄 :=
  iprop(semVal (cell c none) 0 ∗ (bigSep Finset.univ fun be : Bool × Snd => semVal (cell c (some be)) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem fetch_0 (t : Fin cfg0.N) : (cfg0.win (0 : Fin 5)).fetch t = true := by rw [fin_N t]; rfl
theorem fetch_1 (t : Fin cfg0.N) : (cfg0.win (1 : Fin 5)).fetch t = true := by rw [fin_N t]; rfl
theorem fetch_2 (t : Fin cfg0.N) : (cfg0.win (2 : Fin 5)).fetch t = true := by rw [fin_N t]; rfl
theorem fetch_3 (t : Fin cfg0.N) : (cfg0.win (3 : Fin 5)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer of device `c` at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (sxstg m ρ c) ∗ stg c cc0_stg3_0 (swstg m ρ c)
    ∗ stg c cc0_stg4_0 (outAt m ρ c))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What the pipeline hands the body is the state its run starts from. -/
theorem body_enter (c : Dev nD) : bodyPre m ρ c ⊢ Inv m ρ c stIn := by
  unfold bodyPre Φ₀ start scratch Inv
  iintro ⟨⟨⟨#HR, #HL, Hp, Ht, Hc⟩, Hs0, Hs1, Hs2, Hs3⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have e0 : g0 = xstg m ρ c := by rw [hg0]; unfold Dat.before; rw [if_pos (fetch_0 t₀)]; rfl
  have e1 : g1 = wstg m ρ c := by rw [hg1]; unfold Dat.before; rw [if_pos (fetch_1 t₀)]; rfl
  have e2 : g2 = sxstg m ρ c := by rw [hg2]; unfold Dat.before; rw [if_pos (fetch_2 t₀)]; rfl
  have e3 : g3 = swstg m ρ c := by rw [hg3]; unfold Dat.before; rw [if_pos (fetch_3 t₀)]; rfl
  rw [e0, e1, e2, e3]
  unfold Dat.owesAt Pipeline.owesWithin
  icases Ho with ⟨%W, %hW, HO⟩
  rw [show (dats m ρ 0 c).owed t₀.castSucc = owed c stIn.sg stIn.p from rfl]
  isplitr; · iexact HR
  isplitr; · iexact HL
  isplitl [HO]; · iexists W; iexact HO
  iapply (items_in m ρ c)
  isplitl [Hp]; · iexact Hp
  isplitl [Ht]; · iexact Ht
  isplitl [Hc]; · iexact Hc
  isplitl [Hs0]; · iexact Hs0
  isplitl [Hs1]; · iexact Hs1
  isplitl [Hs2]; · iexact Hs2
  isplitl [Hs3]; · iexact Hs3
  isplitl [H4]; · iexists g4; iexact H4
  unfold hold
  isplitl [H0]; · iexact H0
  isplitl [H1]; · iexact H1
  isplitl [H2] <;> iassumption

/-- The state the run ends in is what the pipeline asks for. -/
theorem body_leave (c : Dev nD) {S : St} (hsg : S.sg = []) (hp : S.p = []) (hl : takeAll itemsOut S.l = some []) :
    Inv m ρ c S ⊢ |={Set.univ}=> bodyPost m ρ c := by
  unfold Inv
  rw [hsg, hp, sepL_takeAll hl, sepL_nil, sep_emp_eq, show owed c [] [] = 0 by rw [owed]]
  iintro ⟨#HR, #HL, ⟨%W, HO⟩, Hl⟩
  imod (items_out m ρ c) $$ [Hl] with H
  · isplitr; · iexact HR
    iexact Hl
  icases H with ⟨HB, Hz, Hs0, Hs1, Hs2, Hs3, Ho, Hi⟩
  unfold hold
  icases Hi with ⟨H0, H1, H2, H3⟩
  imodintro
  unfold bodyPost Φ₁ scratch Dat.owesAt Pipeline.owesWithin
  rw [show (dats m ρ 0 c).owed t₀.succ = 0 from rfl]
  isplitl [HB Hz Hs0 Hs1 Hs2 Hs3]
  · isplitl [HB]; · iexact HB
    isplitl [Hz]; · iexact Hz
    isplitl [Hs0]; · iexact Hs0
    isplitl [Hs1]; · iexact Hs1
    isplitl [Hs2] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact Ho

theorem WP_fupd (c : Dev nD) {α : Type} (p : Prog (TpuEff nD τ sig (Elt F) Λ₀ .tc) α) (Q : α → sProp 𝕄) :
    WP c p (fun a => iprop(|={Set.univ}=> Q a)) ⊢ WP c p Q := wp_fupd _ _ _ _ _

theorem sound_body (c : Dev nD) : bodyPre m ρ c
    ⊢ WP c (cc0_body (F := F) xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15)
        (fun _ => bodyPost m ρ c) := by
  obtain ⟨S, hr, hsg, hp, hl⟩ := run_all
  refine (body_enter m ρ c).trans ((body_runs m ρ (Q := fun _ => iprop(|={Set.univ}=> bodyPost m ρ c)) hr (body_leave m ρ c hsg hp hl)).trans ?_)
  exact WP_fupd c _ _

set_option maxRecDepth 16000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body (F := F) xM (Memref.isWhole_whole _) wtM (Memref.isWhole_whole _) sxM (Memref.isWhole_whole _) swM (Memref.isWhole_whole _) oM (Memref.isWhole_whole _) wM (Memref.isWhole_whole _) xbM (Memref.isWhole_whole _) sM (Memref.isWhole_whole _) dM (Memref.isWhole_whole _) cc0_scratch4 cc0_scratch5 cc0_scratch6 cc0_scratch7 cc0_scratch8 cc0_scratch9 cc0_scratch10 cc0_scratch11 cc0_scratch12 cc0_scratch13 cc0_scratch14 cc0_scratch15)
    (fun _ => bodyPost m ρ c)
  exact sound_body m ρ c

end Cert.Ring

end

end
-- ==== Proof.Fund.lean ====
/-
# The tokens and the credit dealt at launch
-/
module

public import proofs.«01_k».proof.Proof.Launch

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Snd (ix ixN ixN_lt ix_injective)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

set_option backward.proofsInPublic true in
/-- The kernel's own semaphores: all but the five of the staging. -/
def osem (i : Fin 72) : SemLoc sig := .dma ⟨5 + i.val, by have := i.isLt; show _ < 77; omega⟩

theorem ownSemFacts : Pipeline.OwnSemFacts cfg0.spec osem := by decide +kernel

theorem ixN_own : ∀ (c : Dev nD) (be : Bool × Snd), 5 ≤ ixN be.1 be.2 c ∧ ixN be.1 be.2 c - 5 < 72 := by decide +kernel

set_option backward.proofsInPublic true in
/-- Which of them a cell of device `c` is. -/
def ownIx (c : Dev nD) (be : Bool × Snd) : Fin 72 := ⟨ixN be.1 be.2 c - 5, (ixN_own c be).2⟩

theorem osem_ownIx (c : Dev nD) (be : Bool × Snd) : osem (ownIx c be) = .dma (ix be.1 be.2 c) := by
  refine congrArg SemLoc.dma (Fin.ext ?_)
  show 5 + (ixN be.1 be.2 c - 5) = ixN be.1 be.2 c
  have := (ixN_own c be).1; omega

theorem ownIx_bijective (c : Dev nD) : Function.Bijective (ownIx c) :=
  (Fintype.bijective_iff_injective_and_card _).mpr ⟨fun be be' h => by
    have h' := (osem_ownIx c be).symm.trans ((congrArg osem h).trans (osem_ownIx c be'))
    have := ix_injective c be.1 be'.1 be.2 be'.2 (SemLoc.dma.inj h')
    exact Prod.ext this.1 this.2, by decide +kernel⟩

theorem ownSems0_eq (c : Dev nD) : (Pipeline.ownSems0 (Ix := Unit) (Name := ℕ) (U := UU) (Lvl := ℕ) (Val := Elt F) (τ := τ) osem c : sProp 𝕄)
    = bigSep Finset.univ fun be : Bool × Snd => semVal (cell c (some be)) 0 := by
  unfold Pipeline.ownSems0
  rw [bigSep_univ_equiv (Equiv.ofBijective _ (ownIx_bijective c))]
  refine bigSep_congr fun be _ => ?_
  show semVal ((c : Thread nD τ), osem (ownIx c be)) 0 = _
  rw [osem_ownIx]; rfl

theorem unscopedSems0_eq (c : Dev nD) : (unscopedSems0 c : sProp 𝕄) = semVal (cell c none) 0 := by
  unfold unscopedSems0; rw [bigSep_eq_bigSepL_of_eq [SemLoc.reg barS] (by decide +kernel) (by decide)]; rfl

/-! ## The cells and the tokens -/

abbrev kcell (ck : Dev nD × Option (Bool × Snd)) : GSem nD τ sig := cell ck.1 ck.2

theorem cell_injective (c : Dev nD) : Function.Injective (cell c) := by
  rintro (_ | be) (_ | be') h
  · rfl
  · exact absurd (congrArg Prod.snd h) (by unfold cell; intro h'; cases h')
  · exact absurd (congrArg Prod.snd h) (by unfold cell; intro h'; cases h')
  · have h' : SemLoc.dma (ix be.1 be.2 c) = SemLoc.dma (ix be'.1 be'.2 c) := congrArg Prod.snd h
    have := ix_injective c be.1 be'.1 be.2 be'.2 (SemLoc.dma.inj h')
    exact congrArg some (Prod.ext this.1 this.2)

theorem cell_dev (c : Dev nD) (be : Option (Bool × Snd)) : (cell c be).1 = (c : Thread nD τ) := by cases be <;> rfl

theorem kcell_injective : Function.Injective kcell := by
  rintro ⟨c, k⟩ ⟨c', k'⟩ h
  have h1 : c = c' := by
    have := congrArg (fun g : GSem nD τ sig => g.1.1) h
    rw [show kcell (c, k) = cell c k from rfl, show kcell (c', k') = cell c' k' from rfl, cell_dev, cell_dev] at this
    exact this
  subst h1
  exact congrArg _ (cell_injective c h)

def ringCells : Finset (GSem nD τ sig) := Finset.univ.map ⟨kcell, kcell_injective⟩

/-- The duties of a device's own cells: its barrier has one of every device, the cell of a copy has one. -/
abbrev tokOf (cj : Dev nD × (Dev nD ⊕ (Bool × Snd))) : GSem nD τ sig × ℕ × Dev nD := match cj.2 with
  | .inl d => (cell cj.1 none, 0, d)
  | .inr be => (cell cj.1 (some be), 0, 0)
theorem tokOf_injective : Function.Injective tokOf := by
  rintro ⟨c, j⟩ ⟨c', j'⟩ h
  rcases j with d | be <;> rcases j' with d' | be'
  · have h1 := kcell_injective (a₁ := (c, none)) (a₂ := (c', none)) (congrArg Prod.fst h)
    have h2 : d = d' := congrArg (fun x : GSem nD τ sig × ℕ × Dev nD => x.2.2) h
    have h3 : c = c' := congrArg Prod.fst h1
    rw [h2, h3]
  · exact absurd (congrArg Prod.snd (kcell_injective (a₁ := (c, none)) (a₂ := (c', some be')) (congrArg Prod.fst h))) (fun h' => by cases h')
  · exact absurd (congrArg Prod.snd (kcell_injective (a₁ := (c, some be)) (a₂ := (c', none)) (congrArg Prod.fst h))) (fun h' => by cases h')
  · have h1 := kcell_injective (a₁ := (c, some be)) (a₂ := (c', some be')) (congrArg Prod.fst h)
    have h2 : be = be' := Option.some.inj (congrArg Prod.snd h1)
    have h3 : c = c' := congrArg Prod.fst h1
    rw [h2, h3]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The tokens of the duties of device `c`'s own cells. -/
def toks (c : Dev nD) : sProp 𝕄 :=
  iprop((bigSep Finset.univ fun d : Dev nD => dutyTok ER (cell c none) 0 d)
    ∗ bigSep Finset.univ fun be : Bool × Snd => dutyTok ER (cell c (some be)) 0 0)

theorem bigSep_plus {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := by
  rw [show (Finset.univ : Finset (A ⊕ B)) = Finset.univ.map Function.Embedding.inl ∪ Finset.univ.map Function.Embedding.inr by
      ext x; cases x <;> simp,
    bigSep_union (Finset.disjoint_left.mpr fun x h1 h2 => by
      obtain ⟨a, -, rfl⟩ := Finset.mem_map.mp h1
      obtain ⟨b, -, h⟩ := Finset.mem_map.mp h2
      cases h), bigSep_map, bigSep_map]
  rfl

theorem bigSep_maybe {A : Type} [Fintype A] [DecidableEq A] (Φ : Option A → sProp 𝕄) :
    bigSep Finset.univ Φ = iprop(Φ none ∗ bigSep Finset.univ fun a => Φ (some a)) := by
  rw [show (Finset.univ : Finset (Option A)) = insert none (Finset.univ.map Function.Embedding.some) by ext x; cases x <;> simp,
    bigSep_insert (by simp), bigSep_map]
  rfl

/-- What the launch deals device `c`: its cells' states and its places at them, and its cells' duties. -/
def G (c : Dev nD) : sProp 𝕄 :=
  iprop((bigSep Finset.univ fun k : Option (Bool × Snd) => roundState ER (sched m ρ) (kcell (c, k)) 0)
    ∗ (bigSep Finset.univ fun k : Option (Bool × Snd) => iprop(atPos ER (kcell (c, k)) 0 ∅ 0 ∗ reached ER (kcell (c, k)) 0)) ∗ toks c)

/-- What is made of it once all devices' duties have been dealt. -/
def G' (c : Dev nD) : sProp 𝕄 := iprop(Recs m ρ ∗ places c ∗ payToks c)

theorem fund_ring : BI.own (ER (initOf ringCells ringToks)) ⊢ (|==> bigSep Finset.univ (G m ρ) : sProp 𝕄) := by
  have hX (Φ : GSem nD τ sig → sProp 𝕄) : bigSep ringCells Φ
      = bigSep Finset.univ fun c : Dev nD => bigSep Finset.univ fun k : Option (Bool × Snd) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_plus]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  imod (show iprop((bigSep Finset.univ fun k : Option (Bool × Snd) => semVal (kcell (c, k)) 0)
        ∗ bigSep Finset.univ fun k : Option (Bool × Snd) => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hos Hus Hst] with Hinv
  · isplitl [Hos Hus]
    · rw [bigSep_maybe]
      isplitl [Hus] <;> iassumption
    · iexact Hst
  imodintro
  isplitl [Hinv]; · iexact Hinv
  isplitl [Hat]; · iexact Hat
  iexact Htok

/-! ## The tokens go to the devices that pay -/

theorem bigSep_sepL {A I : Type} [Fintype A] (l : List I) (Φ : A → I → sProp 𝕄) :
    bigSep Finset.univ (fun a => sepL l (Φ a)) = sepL l fun i => bigSep Finset.univ fun a => Φ a i := by
  induction l with
  | nil => exact bigSep_emp_const _
  | cons i l ih => rw [sepL_cons, ← ih, ← bigSep_sep']; rfl

theorem bigSep_turn (Φ : Dev nD → Dev nD → sProp 𝕄) :
    (bigSep Finset.univ fun c => bigSep Finset.univ fun d => Φ c d) = bigSep Finset.univ fun d => bigSep Finset.univ fun c => Φ c d := by
  rw [← bigSep_univ_prod fun cd : Dev nD × Dev nD => Φ cd.1 cd.2, bigSep_univ_equiv (Equiv.prodComm (Dev nD) (Dev nD)), bigSep_univ_prod]
  rfl

theorem toks_around : (bigSep Finset.univ fun c : Dev nD => (toks c : sProp 𝕄)) ⊢ bigSep Finset.univ fun c : Dev nD => payToks c := by
  unfold toks payToks
  have hr : (bigSep Finset.univ fun c : Dev nD => sepL Snd.order fun e => (dutyTok ER (rcell c e) 0 0 : sProp 𝕄))
      = bigSep Finset.univ fun c : Dev nD => sepL Snd.order fun e => (dutyTok ER (cell c (some (true, e))) 0 0 : sProp 𝕄) := by
    rw [bigSep_sepL, bigSep_sepL, ← sepL_perm order_dual fun e => bigSep Finset.univ fun c : Dev nD => (dutyTok ER (cell c (some (true, e))) 0 0 : sProp 𝕄),
      sepL_map]
    exact sepL_congr fun e _ => (bigSep_univ_equiv e.perm fun c : Dev nD => (dutyTok ER (cell c (some (true, e.dual))) 0 0 : sProp 𝕄)).symm
  rw [bigSep_sep', bigSep_sep', bigSep_sep', hr, bigSep_turn fun (c d : Dev nD) => (dutyTok ER (cell d none) 0 c : sProp 𝕄),
    bigSep_congr (s := Finset.univ) fun (c : Dev nD) _ => bigSep_cells fun be : Bool × Snd => (dutyTok ER (cell c (some be)) 0 0 : sProp 𝕄),
    bigSep_sep', bigSep_sep']
  iintro ⟨H1, H2, H3, -⟩
  isplitl [H1]; · iexact H1
  isplitl [H2] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_eq (c : Dev nD) : (iprop(places c ∗ payToks c) : sProp 𝕄)
    = iprop((bigSep Finset.univ fun k : Option (Bool × Snd) => atPos ER (kcell (c, k)) 0 ∅ 0) ∗ payToks c) := by
  unfold places; rw [bigSep_maybe]

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Bool × Snd) => iprop(∃ κ : ℕ, cellInv ER (sched m ρ) κ (kcell ck))),
    bigSep_congr (s := Finset.univ) (fun (c : Dev nD) _ => bigSep_sep' Finset.univ (fun k : Option (Bool × Snd) => (atPos ER (kcell (c, k)) 0 ∅ 0 : sProp 𝕄)) (fun k => reached ER (kcell (c, k)) 0)),
    bigSep_sep', ← bigSep_univ_prod (fun ck : Dev nD × Option (Bool × Snd) => (reached ER (kcell ck) 0 : sProp 𝕄))]
  iintro ⟨HI, ⟨Hat, HR⟩, Htok⟩
  ihave Htk := (toks_around (F := F)) $$ Htok
  ihave Hrec := (Entails.of_eq (show iprop((bigSep Finset.univ fun ck : Dev nD × Option (Bool × Snd) => iprop(∃ κ : ℕ, cellInv ER (sched m ρ) κ (kcell ck)))
      ∗ bigSep Finset.univ fun ck : Dev nD × Option (Bool × Snd) => (reached ER (kcell ck) 0 : sProp 𝕄)) = Recs m ρ by
    unfold Recs; rw [← bigSep_sep'])) $$ [HI HR]
  · isplitl [HI] <;> iassumption
  iapply (bigSep_with_persistent (R := Recs m ρ) (Φ := fun c => iprop(places c ∗ payToks c)) fun c _ => BI.Entails.refl (G' m ρ c))
  isplitl [Hrec]; · iexact Hrec
  iapply ((Entails.of_eq (bigSep_sep' Finset.univ (fun c : Dev nD => bigSep Finset.univ fun k : Option (Bool × Snd) => (atPos ER (kcell (c, k)) 0 ∅ 0 : sProp 𝕄)) payToks).symm).trans
    (bigSep_mono fun c _ => Entails.of_eq (places_eq c).symm))
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- What the others owe device `c`: sixteen signals at its barrier, and the arrival of every copy to it. -/
def due (c : Dev nD) : CellTallies nD τ sig Unit :=
  tallyAt (cell c none) () 16 + (Snd.order.map fun e => tallyAt (cell c (some (true, e))) () (amt e)).sum

theorem owed_eq (c : Dev nD) (sg : List (Dev nD)) (p : List Snd) :
    owed c sg p = (p.map fun e => tallyAt (rcell c e) () (amt e)).sum + (sg.map fun d => (tallyAt (cell d none) () 1 : CellTallies nD τ sig Unit)).sum := by
  induction sg with
  | nil =>
    induction p with
    | nil => rw [owed, List.map_nil, List.map_nil, List.sum_nil, add_zero]
    | cons e p ih => rw [owed, ih, List.map_cons, List.sum_cons, List.map_nil, List.sum_nil, add_zero, add_zero, add_comm]
  | cons d sg ih => rw [owed, ih, List.map_cons, List.sum_cons, add_assoc, add_comm (tallyAt (cell d none) () 1)]

theorem sum_swap {A I : Type} [Fintype A] (l : List I) (f : A → I → CellTallies nD τ sig Unit) :
    (∑ a, (l.map (f a)).sum) = (l.map fun i => ∑ a, f a i).sum := by
  induction l with
  | nil => simp
  | cons i l ih => simp only [List.map_cons, List.sum_cons]; rw [Finset.sum_add_distrib, ih]

theorem bar_sum (g : GSem nD τ sig) : ∀ n : ℕ, n • (tallyAt g () 1 : CellTallies nD τ sig Unit) = tallyAt g () n
  | 0 => by rw [zero_smul, tallyAt_zero]
  | n + 1 => by rw [succ_nsmul, bar_sum g n, tallyAt_add]

theorem owed_sum : (∑ c, O₀ c) = ∑ c, due c := by
  unfold O₀ due
  rw [Finset.sum_congr rfl fun c _ => owed_eq c devices Snd.order, Finset.sum_add_distrib, Finset.sum_add_distrib, add_comm]
  congr 1
  · rw [Finset.sum_const, Finset.card_univ, ← List.sum_toFinset _ devices_nodup, devices_all, ← Finset.sum_nsmul]
    exact Finset.sum_congr rfl fun c _ => bar_sum _ 16
  · rw [sum_swap, sum_swap, ← (order_dual.map fun e => ∑ c : Dev nD, (tallyAt (cell c (some (true, e))) () (amt e) : CellTallies nD τ sig Unit)).sum_eq, List.map_map]
    refine congrArg List.sum (List.map_congr_left fun e _ => ?_)
    show _ = ∑ c : Dev nD, (tallyAt (cell c (some (true, e.dual))) () (amt e.dual) : CellTallies nD τ sig Unit)
    rw [amt_dual]
    exact Equiv.sum_comp e.perm fun c : Dev nD => (tallyAt (cell c (some (true, e.dual))) () (amt e) : CellTallies nD τ sig Unit)

theorem due_on (c : Dev nD) (g : GSem nD τ sig) (h : due c g ≠ 0) : g.1 = (c : Thread nD τ) := by
  by_contra hg
  have hne : ∀ be, g ≠ cell c be := fun be h' => hg (by rw [h', cell_dev])
  refine h ?_
  unfold due
  rw [Pi.add_apply, tallyAt_ne_cell (hne _), zero_add]
  generalize Snd.order = l
  induction l with
  | nil => rfl
  | cons e l ih => rw [List.map_cons, List.sum_cons, Pi.add_apply, tallyAt_ne_cell (hne _), zero_add]; exact ih

theorem cred_plus (T T' : CellTallies nD τ sig Unit) : (cred (T + T') : sProp 𝕄) = iprop(cred T ∗ cred T') :=
  equiv_iff.mp ⟨(cred_add T T').1, (cred_add T T').2⟩

theorem cred_list {I : Type} (l : List I) (f : I → CellTallies nD τ sig Unit) :
    (cred (l.map f).sum : sProp 𝕄) = sepL l fun i => cred (f i) := by
  induction l with
  | nil => rw [List.map_nil, List.sum_nil, cred_zero]; rfl
  | cons i l ih => rw [List.map_cons, List.sum_cons, cred_plus, ih, sepL_cons]

theorem launch_credits (c : Dev nD) : (Pipeline.launchCred O₀ c : sProp 𝕄) = credits c := by
  rw [Pipeline.launchCred_of_sum O₀ due owed_sum due_on c]
  unfold due credits
  rw [cred_plus, cred_list]

end Cert.Ring

end

end
-- ==== Proof.Run.lean ====
/-
# The run of the whole program

From any memory with its counters at zero, every weakly fair execution of the sixteen devices ends, with every device's result
at `outAt`, its operands as they were and every semaphore at zero: for any floating-point operations.
-/
module

public import proofs.«01_k».proof.Proof.Fund
public import proofs.«01_k».proof.Proof.Gen.KernelIdeal.Points
public import Idealize.ShloMosaic.Lib.Pipeline.Value
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Snd (ix ixN ixN_lt ix_injective)

variable {F : FTy → Type} [FloatOps F]

local notation "𝕄" => MT nD τ sig Unit (Elt F) ℕ UU ℕ

variable (m : (ℓ : Loc nD τ sig) → Buf (Elt F) ℓ) (ρ : Dev nD → PrngReg)

/-! ## The launch's premises -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [launch_credits]
  unfold G' start
  iintro ⟨-, Hl, Hc, -, HR, Hp, Ht⟩
  imodintro
  isplitl [Hl Hc HR Hp Ht]
  · isplitl [HR]; · iexact HR
    isplitl [Hl]; · iexact Hl
    isplitl [Hp]; · iexact Hp
    isplitl [Ht] <;> iassumption
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch buf
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch buf
  iintro ⟨HB, Hz, Hr⟩
  isplitl [HB]; · iexact HB
  isplitl [Hz]; · iexact Hz
  iexact Hr

/-- The staging's semaphores are below everything a device owes. -/
theorem lv_stage (c : Dev nD) (q : Fin 5) : lv ((c : Thread nD τ), .dma ⟨q.val, by have := q.isLt; show _ < 77; omega⟩) () = 0 := by
  dsimp only [lv]; rw [Snd.decode_stage c q]

theorem mayWait_stage (c : Dev nD) (q : Fin 5) (t : Fin (cfg0.N + 1)) :
    (levAts L lv : sProp 𝕄) ⊢ MayWait (c : Thread nD τ) (.dma ⟨q.val, by have := q.isLt; show _ < 77; omega⟩) () ((dats m ρ 0 c).owed t) := by
  rcases t with ⟨_ | t, ht⟩
  · exact mayWait c _ devices Snd.order (fun _ => by rw [lv_stage]; decide) fun e he => by
      have hl := (Snd.mem_order e).mp he
      refine ⟨hl, ?_⟩
      rw [lv_stage]; cases e <;> simp [Snd.lvl]
  · rw [show (dats m ρ 0 c).owed ⟨t + 1, ht⟩ = 0 from rfl, MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t => by
    fin_cases w <;> fin_cases s
    · exact mayWait_stage m ρ c 0 t
    · exact mayWait_stage m ρ c 1 t
    · exact mayWait_stage m ρ c 2 t
    · exact mayWait_stage m ρ c 3 t
    · exact mayWait_stage m ρ c 4 t

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

theorem final_in (c : Dev nD) (w : Fin cfg0.W) (h : (cfg0.win w).isOut = false) :
    finalA m ρ c w = (s₀ m ρ).mem ((cfg0.win w).arr.view.loc (c : Thread nD τ)) := (dats m ρ 0 c).arrAt_in w h _

/-- A block that is the whole buffer embeds every index as itself, -/
theorem emb_all {κ : Kind} (b : Ref sig κ) (off : Fin b.ty.shape.rank → ℕ) (h0 : ∀ a, off a = 0) (inb) (i : b.ty.shape.Idx) :
    ((View.whole b).slice (Rect.unit (s := b.ty.shape) off b.ty.shape.size inb)).emb i = i := by
  show (Rect.unit (s := b.ty.shape) off b.ty.shape.size inb).emb i = i
  refine funext fun a => Fin.ext ?_
  rw [Rect.emb_apply]
  show off a + 1 * (i a).val = (i a).val
  rw [h0]; omega
/-- so reads as the buffer's contents, -/
theorem read_all {κ : Kind} (b : Ref sig κ) (off : Fin b.ty.shape.rank → ℕ) (h0 : ∀ a, off a = 0) (inb) (f : b.ty.Contents (Elt F)) :
    ((View.whole b).slice (Rect.unit (s := b.ty.shape) off b.ty.shape.size inb)).read (Elt F) f = f := by
  funext i
  rw [View.read_apply, emb_all b off h0 inb i]; rfl
/-- and covers it. -/
theorem mem_all {κ : Kind} (b : Ref sig κ) (off : Fin b.ty.shape.rank → ℕ) (h0 : ∀ a, off a = 0) (inb) (i : b.ty.shape.Idx) :
    i ∈ ((View.whole b).slice (Rect.unit (s := b.ty.shape) off b.ty.shape.size inb)).set := by
  have := ((View.whole b).slice (Rect.unit (s := b.ty.shape) off b.ty.shape.size inb)).emb_mem_set i
  rwa [emb_all b off h0 inb i] at this

theorem read_out (t : Fin cfg0.N) (f : (main_v1 : Ref sig .tc).ty.Contents (Elt F)) : (win0_4.blk t).view.read (Elt F) f = f :=
  read_all main_v1 _ (fun a => Nat.zero_mul _) _ f

theorem final_out (c : Dev nD) : finalA m ρ c (4 : Fin 5) = outAt m ρ c :=
  (dats m ρ 0 c).arrAt_eq_of_cover (4 : Fin 5) (outAt m ρ c)
    (fun t _ => (read_out t (outAt m ρ c)).symm)
    (fun i => ⟨t₀, flush0_4 t₀, mem_all main_v1 _ (fun a => Nat.zero_mul _) _ i⟩)

/-- The program's run, on its own buffers. -/
theorem ring_run : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => ⟨(h.1 c (4 : Fin 5)).trans (final_out m ρ c), (h.1 c (0 : Fin 5)).trans (final_in m ρ c 0 rfl),
    (h.1 c (1 : Fin 5)).trans (final_in m ρ c 1 rfl), (h.1 c (2 : Fin 5)).trans (final_in m ρ c 2 rfl), (h.1 c (3 : Fin 5)).trans (final_in m ρ c 3 rfl)⟩, h.2⟩)
    (run_main m ρ)

end Cert.Ring

end

end
-- ==== Proof.Same.lean ====
/-
# The run of the program as printed

The idealization rewrote no operation: the two programs are one text, read at the machine's floats and at the exact ones. The
run is proved for any floating-point operations, so it is the printed program's run as well.
-/
module

public import proofs.«01_k».proof.Proof.Run
public import proofs.«01_k».proof.Defs
public import proofs.«01_k».proof.Proof.Gen.Kernel

@[expose] public section

noncomputable section

namespace Cert.Ring

open Idealize.ShloMosaic Idealize.ShloMosaic.TcCoe Idealize.SL.Sem

variable {F : FTy → Type} [FloatOps F]

variable (m : (ℓ : Loc Cert.Kernel.nD Cert.Kernel.τ Cert.Kernel.sig) → Buf (Elt F) ℓ) (ρ : Dev Cert.Kernel.nD → PrngReg)

set_option smartUnfolding false in
set_option maxHeartbeats 4000000 in
set_option maxRecDepth 40000 in
theorem kernel_run : θ_run (Cert.Kernel.defs (F := F)) (onTc (τ := Cert.Kernel.τ) (Cert.Kernel.main (F := F))) ⟨m, fun _ => 0, ρ⟩ (fun r =>
    (∀ c : Dev Cert.Kernel.nD,
      r.2.mem ((c : Thread Cert.Kernel.nD Cert.Kernel.τ).loc Cert.Kernel.main_v1) = outAt (F := F) m ρ c
      ∧ r.2.mem ((c : Thread Cert.Kernel.nD Cert.Kernel.τ).loc Cert.Kernel.main_arg0) = m ((c : Thread Cert.Kernel.nD Cert.Kernel.τ).loc Cert.Kernel.main_arg0)
      ∧ r.2.mem ((c : Thread Cert.Kernel.nD Cert.Kernel.τ).loc Cert.Kernel.main_arg1) = m ((c : Thread Cert.Kernel.nD Cert.Kernel.τ).loc Cert.Kernel.main_arg1)
      ∧ r.2.mem ((c : Thread Cert.Kernel.nD Cert.Kernel.τ).loc Cert.Kernel.main_arg2) = m ((c : Thread Cert.Kernel.nD Cert.Kernel.τ).loc Cert.Kernel.main_arg2)
      ∧ r.2.mem ((c : Thread Cert.Kernel.nD Cert.Kernel.τ).loc Cert.Kernel.main_arg3) = m ((c : Thread Cert.Kernel.nD Cert.Kernel.τ).loc Cert.Kernel.main_arg3))
      ∧ r.2.sem = fun _ => 0) :=
  ring_run (F := F) m ρ

end Cert.Ring

end

end
-- ==== Proof.Plain.lean ====
/-
# What the plain program returns

The value every run of the plain single-device program leaves, entry by entry over the extended reals: the row of the left
operand against the column of the right one, times the two scales, through the clamped logistic gate.
-/
module

public import proofs.«01_k».proof.Proof.Gen.ReferenceIdeal.Frame
public import Idealize.ShloMosaic.Lib.Pipeline.Value
public import Idealize.ShloMosaic.Lib.StackMember
public import Idealize.ShloMosaic.Lib.MatmulPlain
public import Idealize.ShloMosaic.Lib.ValueLayout

@[expose] public section

set_option maxRecDepth 16384

noncomputable section

namespace Cert.Plain

open Cert.ReferenceIdeal Cert.ReferenceIdeal.Gen
open Idealize.ShloMosaic Idealize.ShloMosaic.TcCoe Idealize.ShloMosaic.StableHlo
open Idealize.ShloMosaic.ValueIdx Idealize.ShloMosaic.StackMember
open Idealize.SL.Sem
open Idealize.ShloMosaic.Pipeline (Dat Cfg Window)

variable {F : FTy → Type} [FloatOps F]

/-- The product of the operands, scaled. -/
def scaled (x : FVec F S4096x4096 .f32) (w : FVec F S4096x2048 .f32) (a b : FVec F S1 .f32) : FVec F S4096x2048 .f32 :=
  mulf (Host.dotGeneral dot_S4096x4096_S4096x2048_S4096x2048_1_0_0_1_n_n none x w)
    (broadcastInDim S4096x2048 ![0, 1] bcast_S1x1_S4096x2048_0_1 (broadcastInDim S1x1 ![1] bcast_S1_S1x1_1 (mulf a b)))

/-- A number at every entry of the result. -/
def fill (b : BitVec 32) : FVec F S4096x2048 .f32 := broadcastInDim S4096x2048 ![] bcast_S_S4096x2048 (constant S_ .f32 b)

/-- The gate of every entry: `y / (1 + exp (-clip y))`. -/
def gated (y : FVec F S4096x2048 .f32) : FVec F S4096x2048 .f32 :=
  Host.divf y (addf (fill 0x3F800000#32) (Host.exp (Host.negf (minimumf (fill 0x42700000#32) (maximumf (fill 0xC2700000#32) y)))))

theorem after_out (V : Valuation τ sig (Elt F)) :
    after (List.flatten [hostOps1, hostOps1_1, hostOps1_2]) V (main_v11 : DevRef τ sig)
      = gated (scaled (V (main_v0_0 : DevRef τ sig)) (V (main_v0_1 : DevRef τ sig)) (V (main_arg2 : DevRef τ sig)) (V (main_arg3 : DevRef τ sig))) := by
  simp only [hostOps1, hostOps1_1, hostOps1_2, List.flatten_cons, List.flatten_nil, List.append_nil, List.cons_append, List.nil_append,
    after_cons, after_nil]
  rfl

variable (m : (ℓ : Loc nD τ sig) → Buf (Elt F) ℓ) (ρ : Dev nD → PrngReg)

/-- The two operands widened. -/
def wideX (c : Dev nD) : FVec F S4096x4096 .f32 := extf .f32 (m ((c : Thread nD τ).loc main_arg0)) bitsLt_fp8e5m2_f32
def wideW (c : Dev nD) : FVec F S4096x2048 .f32 := extf .f32 (m ((c : Thread nD τ).loc main_arg1)) bitsLt_fp8e5m2_f32

/-- A rectangle at the origin, of the whole shape, keeps indices, -/
theorem emb_origin {s : Shape} (off : Fin s.rank → ℕ) (h0 : ∀ a, off a = 0) (inb) (i : s.Idx) :
    (Rect.unit (s := s) off s.size inb).emb i = i := by
  refine funext fun a => Fin.ext ?_
  rw [Rect.emb_apply]
  show off a + 1 * (i a).val = (i a).val
  rw [h0]; omega
/-- so a whole buffer seen through one reads as itself -/
theorem read_origin {κ : Kind} (b : Ref sig κ) (off : Fin b.ty.shape.rank → ℕ) (h0 : ∀ a, off a = 0) (inb) (f : b.ty.Contents (Elt F)) :
    ((View.whole b).slice (Rect.unit (s := b.ty.shape) off b.ty.shape.size inb)).read (Elt F) f = f := by
  funext i
  rw [View.read_apply]
  show f ((Rect.unit (s := b.ty.shape) off b.ty.shape.size inb).emb i) = f i
  rw [emb_origin off h0 inb i]
/-- and is covered by it. -/
theorem mem_origin {κ : Kind} (b : Ref sig κ) (off : Fin b.ty.shape.rank → ℕ) (h0 : ∀ a, off a = 0) (inb) (i : b.ty.shape.Idx) :
    i ∈ ((View.whole b).slice (Rect.unit (s := b.ty.shape) off b.ty.shape.size inb)).set := by
  have := ((View.whole b).slice (Rect.unit (s := b.ty.shape) off b.ty.shape.size inb)).emb_mem_set i
  have e : ((View.whole b).slice (Rect.unit (s := b.ty.shape) off b.ty.shape.size inb)).emb i = i := emb_origin off h0 inb i
  rwa [e] at this

theorem zero2 : ∀ a : Fin 2, (![0, 0] : Fin 2 → ℕ) a = 0 := by decide

theorem blockX (c : Dev nD) (t : Fin cfg0.N) : iblk m c 0 t = m ((c : Thread nD τ).loc main_arg0) :=
  read_origin main_arg0 _ (fun a => Nat.zero_mul _) _ _
theorem blockW (c : Dev nD) (t : Fin cfg0.N) : iblk m c 1 t = m ((c : Thread nD τ).loc main_arg1) :=
  read_origin main_arg1 _ (fun a => Nat.zero_mul _) _ _

theorem storedX (x0 : Vec F S4096x4096 .fp8e5m2) (x1 : Vec F S4096x2048 .fp8e5m2) : out0_2 x0 x1 = extf .f32 x0 bitsLt_fp8e5m2_f32 := by
  funext i
  have e : (r0_0).emb i = i := emb_origin (s := S4096x4096) _ zero2 _ i
  have h := View.canon_cons_emb (Val := Elt F) (e := .f32) r0_0 (k0_pay1 (View.ld x0 r0_0)) [] i
  rw [e] at h
  refine h.trans ?_
  show FloatOps.extf .f32 _ (x0 ((r0_0).emb i)) = FloatOps.extf .f32 _ (x0 i)
  rw [e]
theorem storedW (x0 : Vec F S4096x4096 .fp8e5m2) (x1 : Vec F S4096x2048 .fp8e5m2) : out0_3 x0 x1 = extf .f32 x1 bitsLt_fp8e5m2_f32 := by
  funext i
  have e : (r0_1).emb i = i := emb_origin (s := S4096x2048) _ zero2 _ i
  have h := View.canon_cons_emb (Val := Elt F) (e := .f32) r0_1 (k0_pay2 (View.ld x1 r0_1)) [] i
  rw [e] at h
  refine h.trans ?_
  show FloatOps.extf .f32 _ (x1 ((r0_1).emb i)) = FloatOps.extf .f32 _ (x1 i)
  rw [e]

theorem finalX (c : Dev nD) : (dats m 0 c).arrAt 2 cfg0.N = wideX m c :=
  (dats m 0 c).arrAt_eq_of_cover (2 : Fin 4) (wideX m c)
    (fun t _ => by
      have h : (dats m 0 c).after 2 t = wideX m c := by rw [after0_2, storedX, blockX]; rfl
      exact h.trans (read_origin main_v0_0 _ (fun a => Nat.zero_mul _) _ (wideX m c)).symm)
    (fun i => ⟨t0_0, flush0_2 t0_0, mem_origin main_v0_0 _ (fun a => Nat.zero_mul _) _ i⟩)
theorem finalW (c : Dev nD) : (dats m 0 c).arrAt 3 cfg0.N = wideW m c :=
  (dats m 0 c).arrAt_eq_of_cover (3 : Fin 4) (wideW m c)
    (fun t _ => by
      have h : (dats m 0 c).after 3 t = wideW m c := by rw [after0_3, storedW, blockW]; rfl
      exact h.trans (read_origin main_v0_1 _ (fun a => Nat.zero_mul _) _ (wideW m c)).symm)
    (fun i => ⟨t0_0, flush0_3 t0_0, mem_origin main_v0_1 _ (fun a => Nat.zero_mul _) _ i⟩)

/-- What the program returns. -/
def out (c : Dev nD) : FVec F S4096x2048 .f32 :=
  gated (scaled (wideX m c) (wideW m c) (m ((c : Thread nD τ).loc main_arg2)) (m ((c : Thread nD τ).loc main_arg3)))

theorem arr_inj : Function.Injective (Pipeline.arrRef spec0) := by decide

theorem tail_out (c : Dev nD) : Pipeline.afterTail₀ cfgs (dats m) 0 (V0 m) [hostOps1, hostOps1_1, hostOps1_2] c main_v11 = out m c := by
  unfold Pipeline.afterTail₀
  refine (after_out _).trans ?_
  have h0 := Pipeline.withArrays_arr spec0 arr_inj c (V0 m c) (fun w => (dats m 0 c).arrAt w (cfgs 0).N) (2 : Fin 4)
  have h1 := Pipeline.withArrays_arr spec0 arr_inj c (V0 m c) (fun w => (dats m 0 c).arrAt w (cfgs 0).N) (3 : Fin 4)
  have h2 := Pipeline.withArrays_of_ne spec0 c (V0 m c) (fun w => (dats m 0 c).arrAt w (cfgs 0).N) main_arg2
    (by exact (by decide : ∀ w, Pipeline.arrRef spec0 w ≠ main_arg2))
  have h3 := Pipeline.withArrays_of_ne spec0 c (V0 m c) (fun w => (dats m 0 c).arrAt w (cfgs 0).N) main_arg3
    (by exact (by decide : ∀ w, Pipeline.arrRef spec0 w ≠ main_arg3))
  unfold out
  exact congrArg gated (congr (congr (congr (congrArg scaled (h0.trans (finalX m c))) (h1.trans (finalW m c))) h2) h3)

theorem result_run : θ_run defs (onTc (τ := τ) (main (F := F))) ⟨m, fun _ => 0, ρ⟩ (fun r => ∀ c : Dev nD,
    r.2.mem ((c : Thread nD τ).loc main_v11) = out m c) :=
  (θ_run defs _ _).mono (fun r h c => ((h c).2 main_v11 (Pipeline.mem_restRefs_of main_v11 (by decide) (by decide))).trans (tail_out m c))
    (run_main m ρ)

/-- Every run of the plain program ends, with that result and its arguments as they were. -/
theorem plain_run : θ_run defs (onTc (τ := τ) (main (F := F))) ⟨m, fun _ => 0, ρ⟩ (fun r => ∀ c : Dev nD,
    r.2.mem ((c : Thread nD τ).loc main_v11) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨h.1 c, h.2 c⟩) (θ_run_and (result_run m ρ) (unchanged m ρ))

/-! ## Entry by entry, over the extended reals -/

/-- The clamped gate of one number. -/
def gate (y : EReal) : EReal :=
  Ideal.div y (Ideal.ofBits .f32 0x3F800000#32
    + Ideal.exp (-(min (Ideal.ofBits .f32 0x42700000#32) (max (Ideal.ofBits .f32 0xC2700000#32) y))))

theorem gated_apply (y : FVec Ideal S4096x2048 .f32) (i : S4096x2048.Idx) : gated y i = gate (y i) := rfl

theorem scaled_apply (x : FVec Ideal S4096x4096 .f32) (w : FVec Ideal S4096x2048 .f32) (a b : FVec Ideal S1 .f32) (i : Fin 4096) (j : Fin 2048)
    (z : S1.Idx) : scaled x w a b (ix2 i j) = (∑ k : Fin 4096, x (ix2 i k) * w (ix2 k j)) * (a z * b z) := by
  have hd : Host.dotGeneral dot_S4096x4096_S4096x2048_S4096x2048_1_0_0_1_n_n none x w (ix2 i j) = ∑ k : Fin 4096, x (ix2 i k) * w (ix2 k j) :=
    dotGeneral_plain_apply none x w i j
  have hz : ∀ z' : S1.Idx, z' = z := fun z' => funext fun q => Fin.ext (by
    have h1 := (z' q).isLt; have h2 := (z q).isLt
    have : S1.size q = 1 := by match q with | ⟨0, _⟩ => rfl
    omega)
  obtain ⟨z', h⟩ : ∃ z' : S1.Idx, scaled x w a b (ix2 i j)
      = Host.dotGeneral dot_S4096x4096_S4096x2048_S4096x2048_1_0_0_1_n_n none x w (ix2 i j) * (a z' * b z') := ⟨_, rfl⟩
  rw [h, hd, hz z']

/-- The plain program's result at row `i` and column `j`, of its four arguments. -/
theorem out_apply (m : (ℓ : Loc nD τ sig) → Buf (Elt Ideal) ℓ) (c : Dev nD) (X : S4096x4096.Idx → EReal) (W : S4096x2048.Idx → EReal)
    (A B : S1.Idx → EReal) (hX : m ((c : Thread nD τ).loc main_arg0) = X) (hW : m ((c : Thread nD τ).loc main_arg1) = W)
    (hA : m ((c : Thread nD τ).loc main_arg2) = A) (hB : m ((c : Thread nD τ).loc main_arg3) = B) (i : Fin 4096) (j : Fin 2048) (z : S1.Idx) :
    out m c (ix2 i j) = gate ((∑ k : Fin 4096, X (ix2 i k) * W (ix2 k j)) * (A z * B z)) := by
  unfold out
  rw [gated_apply, scaled_apply _ _ _ _ i j z, hA, hB]
  unfold wideX wideW
  rw [hX, hW]
  rfl

end Cert.Plain

end

end
-- ==== Proof.Value.lean ====
/-
# The value of the result

Over the extended reals, every device's result is its columns of what the plain program returns.
-/
module

public import proofs.«01_k».proof.Proof.Run
public import proofs.«01_k».proof.Proof.Plain
public import Idealize.ShloMosaic.Lib.Layout

@[expose] public section

noncomputable section

namespace Cert.Ring

open Cert.KernelIdeal Cert.KernelIdeal.Gen
open Cert.Plain (gate)
open Idealize.ShloMosaic Idealize.ShloMosaic.TcCoe
open Idealize.ShloMosaic.ValueIdx
open Idealize.SL.Sem

/-! ## The arithmetic -/

/-- Subtracting from the number zero is negation. -/
theorem zero_word_sub (y : EReal) : Ideal.ofBits .f32 0x00000000#32 - y = -y := by
  rw [show Ideal.ofBits .f32 0x00000000#32 = (0 : EReal) by simp, zero_sub]

/-- The gate as the kernel computes it of every entry of a block. -/
def gatedB (y : FVec Ideal S256x128 .f32) : FVec Ideal S256x128 .f32 :=
  divf y (addf (broadcast S256x128 (Scalar.ofBits .f32 0x3F800000#32))
    (exp (subf (broadcast S256x128 (Scalar.ofBits .f32 0x00000000#32))
      (minimumf (broadcast S256x128 (Scalar.ofBits .f32 0x42700000#32)) (maximumf (broadcast S256x128 (Scalar.ofBits .f32 0xC2700000#32)) y)))))

theorem gatedB_apply (y : FVec Ideal S256x128 .f32) (i : S256x128.Idx) : gatedB y i = gate (y i) := by
  have h : gatedB y i = Ideal.div (y i) (Ideal.ofBits .f32 0x3F800000#32
    + Ideal.exp (Ideal.ofBits .f32 0x00000000#32 - (min (Ideal.ofBits .f32 0x42700000#32) (max (Ideal.ofBits .f32 0xC2700000#32) (y i))))) := rfl
  rw [h, zero_word_sub]; rfl

/-- A block's product of rows with columns, scaled. -/
def scaledB (s : EReal) (w : FVec Ideal S4096x128 .bf16) (x : FVec Ideal S256x4096 .bf16) : FVec Ideal S256x128 .f32 :=
  mulf (matmul dot_S256x4096_S4096x128_S256x128_1_0_0_1_n_n none x w (constant S256x128 .f32 0x00000000#32)) (broadcast S256x128 (s : Ideal .f32))

theorem scaledB_apply (s : EReal) (w : FVec Ideal S4096x128 .bf16) (x : FVec Ideal S256x4096 .bf16) (p : Fin 256) (q : Fin 128) :
    scaledB s w x (ix2 p q) = (∑ k : Fin 4096, x (ix2 p k) * w (ix2 k q)) * s := by
  have hd : FloatOps.matmul dot_S256x4096_S4096x128_S256x128_1_0_0_1_n_n none x w (constant S256x128 .f32 0x00000000#32) (ix2 p q)
      = (constant (F := Ideal) S256x128 .f32 0x00000000#32) (ix2 p q) + ∑ k : Fin 4096, x (ix2 p k) * w (ix2 k q) :=
    Ideal.matmul_plain_apply none x w _ p q
  have h0 : (constant (F := Ideal) S256x128 .f32 0x00000000#32) (ix2 p q) = (0 : EReal) := by
    show Ideal.ofBits .f32 0x00000000#32 = (0 : EReal); simp
  rw [h0, zero_add] at hd
  exact congrArg (· * s) hd

/-! ## The blocks -/

/-- An index of two axes is its two coordinates. -/
theorem two_coords {a b : ℕ} (i : (⟨2, ![a, b]⟩ : Shape).Idx) (p : Fin a) (q : Fin b) (h0 : (i 0).val = p.val) (h1 : (i 1).val = q.val) :
    i = ix2 p q :=
  funext fun x => match x with | ⟨0, _⟩ => Fin.ext h0 | ⟨1, _⟩ => Fin.ext h1

/-- A cast to the same shape changes nothing. -/
theorem cast_same {s : Shape} {α : Type} (x : s.Idx → α) (h : s.ShapeCasts s) : shapeCast s x h = x :=
  funext fun j => shapeCast_apply x h j j rfl

theorem own_eq (s : EReal) (w : FVec Ideal S4096x128 .bf16) (x : FVec Ideal S256x4096 .bf16) : k0_pay5 (F := Ideal) s w x = gatedB (scaledB s w x) := rfl

/-- A weight read back from its slot. -/
theorem slab_read (v : FVec Ideal S4096x128 .fp8e5m2) : (k0_pay4 (F := Ideal) (k0_pay1 (F := Ideal) v) : S4096x128.Idx → EReal) = v := by
  funext i
  obtain ⟨k, q, rfl⟩ : ∃ (k : Fin 4096) (q : Fin 128), i = ix2 k q := ⟨i 0, i 1, two_coords i _ _ rfl rfl⟩
  show shapeCast S4096x128 (shapeCast S1x4096x128 (shapeCast S4096x128 v _) _) _ (ix2 k q) = v (ix2 k q)
  rw [cast_same, shapeCast_1ab_ab_apply, shapeCast_ab_1ab_apply]

theorem x_read (v : FVec Ideal S256x4096 .fp8e5m2) : (k0_pay2 (F := Ideal) v : S256x4096.Idx → EReal) = v := by
  show shapeCast S256x4096 (extf .bf16 (shapeCast S256x4096 v _) _) _ = v
  rw [cast_same, cast_same]; rfl

/-- A block sent and read back is the block its sender would have computed for itself. -/
theorem sent_read (s : EReal) (v : FVec Ideal S1x4096x128 .fp8e5m2) (x : FVec Ideal S256x4096 .bf16) :
    k0_pay40 (F := Ideal) (k0_pay7 (k0_pay6 (F := Ideal) s v x)) = k0_pay5 (F := Ideal) s (k0_pay4 v) x := by
  funext i
  obtain ⟨p, q, rfl⟩ : ∃ (p : Fin 256) (q : Fin 128), i = ix2 p q := ⟨i 0, i 1, two_coords i _ _ rfl rfl⟩
  show shapeCast S256x128 (shapeCast S1x256x128 (k0_pay5 (F := Ideal) s (k0_pay4 v) x) _) _ (ix2 p q) = _
  rw [shapeCast_1ab_ab_apply, shapeCast_ab_1ab_apply]

variable (m : (ℓ : Loc nD τ sig) → Buf (Elt Ideal) ℓ) (ρ : Dev nD → PrngReg)

theorem xstg_eq (c : Dev nD) : xstg m ρ c = m ((c : Thread nD τ).loc main_arg0) := read_all main_arg0 _ (fun a => Nat.zero_mul _) _ _
theorem wstg_eq (c : Dev nD) : wstg m ρ c = m ((c : Thread nD τ).loc main_arg1) := read_all main_arg1 _ (fun a => Nat.zero_mul _) _ _
theorem sxstg_eq (c : Dev nD) : sxstg m ρ c = m ((c : Thread nD τ).loc main_arg2) := read_all main_arg2 _ (fun a => Nat.zero_mul _) _ _
theorem swstg_eq (c : Dev nD) : swstg m ρ c = m ((c : Thread nD τ).loc main_arg3) := read_all main_arg3 _ (fun a => Nat.zero_mul _) _ _

theorem zero1 : ∀ a : Fin 1, (![0] : Fin 1 → ℕ) a = 0 := by decide

theorem scale_eq (c : Dev nD) (A B : S1.Idx → EReal) (hA : m ((c : Thread nD τ).loc main_arg2) = A) (hB : m ((c : Thread nD τ).loc main_arg3) = B) :
    scale m ρ c = A ix1 * B ix1 := by
  have h2 : (sxM.access (Rect.unit (s := S1) ![0] S1.size inb_S1_S1_0)).read (Elt Ideal) (sxstg m ρ c) = A :=
    (read_all cc0_stg2_0 ![0] zero1 inb_S1_S1_0 _).trans ((sxstg_eq m ρ c).trans hA)
  have h3 : (swM.access (Rect.unit (s := S1) ![0] S1.size inb_S1_S1_0)).read (Elt Ideal) (swstg m ρ c) = B :=
    (read_all cc0_stg3_0 ![0] zero1 inb_S1_S1_0 _).trans ((swstg_eq m ρ c).trans hB)
  unfold scale
  rw [h2, h3]; rfl

/-- Row `p` and column `q` of the block device `s` computes for device `c`, whether sent or kept. -/
theorem rowv_apply (c s : Dev nD) (X : S256x4096.Idx → EReal) (W : S4096x128.Idx → EReal) (A B : S1.Idx → EReal)
    (hX : m ((s : Thread nD τ).loc main_arg0) = X) (hW : m ((c : Thread nD τ).loc main_arg1) = W)
    (hA : m ((s : Thread nD τ).loc main_arg2) = A) (hB : m ((s : Thread nD τ).loc main_arg3) = B) (p : Fin 256) (q : Fin 128) :
    rowv m ρ c s (ix2 p q) = gate ((∑ k : Fin 4096, X (ix2 p k) * W (ix2 k q)) * (A ix1 * B ix1)) := by
  have h : rowv m ρ c s = k0_pay5 (F := Ideal) (scale m ρ s) (k0_pay4 (slab m ρ c)) (xbv m ρ s) := by
    unfold rowv
    split
    · next e => subst e; rfl
    · exact sent_read _ _ _
  have hw : (k0_pay4 (F := Ideal) (slab m ρ c) : S4096x128.Idx → EReal) = W := (slab_read _).trans ((wstg_eq m ρ c).trans hW)
  have hx : (xbv m ρ s : S256x4096.Idx → EReal) = X := (x_read _).trans ((xstg_eq m ρ s).trans hX)
  rw [h, own_eq, gatedB_apply, scaledB_apply, scale_eq m ρ s A B hA hB]
  rw [hw, hx]

/-- An entry of a device's result is the entry of the block of rows it lies in. -/
theorem outAt_apply (c : Dev nD) (s : Dev nD) (p : Fin 256) (q : Fin 128) (i : S4096x128.Idx)
    (h0 : (i 0).val = 256 * s.val + p.val) (h1 : (i 1).val = q.val) : outAt m ρ c i = rowv m ρ c s (ix2 p q) := by
  have hr : (oM.access (rowsR s)).read (Elt Ideal) (outAt m ρ c) = rowv m ρ c s :=
    read_of_on _ (m (((0 : Dev nD) : Thread nD τ).loc cc0_stg4_0)) _ _ fun i hi => out_on m ρ c s _ hi
  have e : (oM.access (rowsR s)).emb (ix2 p q) = i := by
    refine funext fun a => Fin.ext ?_
    show ((rowsR s).emb (ix2 p q) a).val = (i a).val
    rw [Rect.emb_apply]
    match a with
    | ⟨0, _⟩ => show 256 * s.val + 1 * p.val = (i 0).val; omega
    | ⟨1, _⟩ => show 0 + 1 * q.val = (i 1).val; omega
  rw [← hr, View.read_apply, e]; rfl

/-- Every device's result is its block of columns of the plain program's. -/
theorem out_block
    (X : (⟨2, ![4096, 4096]⟩ : Shape).Idx → EReal) (W : (⟨2, ![4096, 2048]⟩ : Shape).Idx → EReal) (A B : S1.Idx → EReal)
    (hX : ∀ c : Dev nD, m ((c : Thread nD τ).loc main_arg0) = Layout.block ⟨2, ![256, 4096]⟩ ⟨2, ![4096, 4096]⟩ 0 16 c X)
    (hW : ∀ c : Dev nD, m ((c : Thread nD τ).loc main_arg1) = Layout.block ⟨2, ![4096, 128]⟩ ⟨2, ![4096, 2048]⟩ 1 16 c W)
    (hA : ∀ c : Dev nD, m ((c : Thread nD τ).loc main_arg2) = A) (hB : ∀ c : Dev nD, m ((c : Thread nD τ).loc main_arg3) = B)
    (v : (⟨2, ![4096, 2048]⟩ : Shape).Idx → EReal)
    (hv : ∀ (i : Fin 4096) (j : Fin 2048), v (ix2 i j) = gate ((∑ k : Fin 4096, X (ix2 i k) * W (ix2 k j)) * (A ix1 * B ix1)))
    (c : Dev nD) : outAt m ρ c = Layout.block ⟨2, ![4096, 128]⟩ ⟨2, ![4096, 2048]⟩ 1 16 c v := by
  funext i
  have hi0 : (i 0).val < 4096 := (i 0).isLt
  have hi1 : (i 1).val < 128 := (i 1).isLt
  have hc : c.val < 16 := c.isLt
  have hs : (i 0).val / 256 < 16 := by omega
  let s : Dev nD := ⟨(i 0).val / 256, hs⟩
  let p : Fin 256 := ⟨(i 0).val % 256, Nat.mod_lt _ (by decide)⟩
  let q : Fin 128 := ⟨(i 1).val, hi1⟩
  let j : Fin 2048 := ⟨c.val * 128 + (i 1).val, by omega⟩
  have hp : (i 0).val = 256 * s.val + p.val := (Nat.div_add_mod _ _).symm
  rw [outAt_apply m ρ c s p q i hp rfl,
    rowv_apply m ρ c s _ _ A B (hX s) (hW c) (hA s) (hB s) p q, Layout.block_apply,
    two_coords (Layout.Tiles.idx _ c i) (⟨(i 0).val, hi0⟩ : Fin 4096) j rfl rfl, hv]
  refine congrArg (fun y : EReal => gate (y * (A ix1 * B ix1))) (Finset.sum_congr rfl fun k _ => ?_)
  rw [Layout.block_apply, Layout.block_apply,
    two_coords (Layout.Tiles.idx _ s (ix2 p k)) (⟨(i 0).val, hi0⟩ : Fin 4096) k (by show s.val * 256 + p.val = (i 0).val; omega) rfl,
    two_coords (Layout.Tiles.idx _ c (ix2 k q)) k j rfl rfl]

end Cert.Ring

end

end
-- ==== Proof.lean ====
/-
# The certificate

The frames of the three programs, from their runs; that the idealization preserves the program, which holds of a program in
which it rewrote nothing; and that over the extended reals every device's result is its block of columns of the reference's.
-/
module

public import proofs.«01_k».proof.Defs
public import proofs.«01_k».proof.Proof.Same
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem frame_Kernel : @Cert.quiescent_Kernel Cert.Kernel.Gen.facts := fun m g _ =>
  (θ_run _ _ _).mono (fun _ h => ⟨fun c => (h.1 c).2, h.2⟩) (Cert.Ring.kernel_run (F := Bits) m g)

theorem frame_KernelIdeal : @Cert.quiescent_KernelIdeal Cert.KernelIdeal.Gen.facts := fun m g _ =>
  (θ_run _ _ _).mono (fun _ h => ⟨fun c => (h.1 c).2, h.2⟩) (Cert.Ring.ring_run (F := Ideal) m g)

theorem algebraic : @Cert.algebraic_KernelIdeal_ReferenceIdeal Cert.KernelIdeal.Gen.facts Cert.ReferenceIdeal.Gen.facts :=
  fun m g m' g' _ h => ⟨Cert.Plain.out m' 0,
    (θ_run _ _ _).mono
      (fun _ hr c => ⟨(hr.1 c).1.trans (Cert.Ring.out_block m g _ _ _ _ (fun c => (h c).1) (fun c => (h c).2.1) (fun c => (h c).2.2.1)
        (fun c => (h c).2.2.2) (Cert.Plain.out m' 0)
        (fun i j => Cert.Plain.out_apply m' 0 _ _ _ _ rfl rfl rfl rfl i j Cert.Ring.ix1) c), (hr.1 c).2⟩)
      (Cert.Ring.ring_run (F := Ideal) m g),
    (θ_run _ _ _).mono (fun _ hr => hr 0) (Cert.Plain.plain_run (F := Ideal) m' g')⟩

theorem claim : Cert.Claim := ⟨Cert.Kernel.Gen.facts, Cert.KernelIdeal.Gen.facts, Cert.ReferenceIdeal.Gen.facts,
  frame_Kernel, frame_KernelIdeal, fun m g _ => Cert.ReferenceIdeal.Gen.frame m g, trivial, algebraic⟩

end Cert.Proof

end
